-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S1 : Shape := ⟨1, ![1]⟩
abbrev S_ : Shape := ⟨0, ![]⟩
abbrev S8 : Shape := ⟨1, ![8]⟩
abbrev S128x8192 : Shape := ⟨2, ![128, 8192]⟩
abbrev S512x8192 : Shape := ⟨2, ![512, 8192]⟩
abbrev S128x4096 : Shape := ⟨2, ![128, 4096]⟩
abbrev S32 : Shape := ⟨1, ![32]⟩
abbrev S128x128 : Shape := ⟨2, ![128, 128]⟩
abbrev S128x512 : Shape := ⟨2, ![128, 512]⟩

abbrev nBuf : Space → Nat
  | .hbm => 48
  | .vmem => 6
  | .smem => 3
  | _ => 0

abbrev bufTy : (tb : Table) → Fin (tcTables nBuf tb) → BufTy
  | .hbm, ⟨0, _⟩ => ⟨S4096x128, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S8, .i32⟩
  | .hbm, ⟨36, _⟩ => ⟨S8, .i1⟩
  | .hbm, ⟨37, _⟩ => ⟨S_, .i32⟩
  | .hbm, ⟨38, _⟩ => ⟨S8, .i32⟩
  | .hbm, ⟨39, _⟩ => ⟨S8, .i1⟩
  | .hbm, ⟨40, _⟩ => ⟨S_, .i32⟩
  | .hbm, ⟨41, _⟩ => ⟨S_, .i1⟩
  | .hbm, ⟨42, _⟩ => ⟨S8, .i1⟩
  | .hbm, ⟨43, _⟩ => ⟨S8, .i1⟩
  | .hbm, ⟨44, _⟩ => ⟨S8, .i1⟩
  | .hbm, ⟨45, _⟩ => ⟨S8, .i32⟩
  | .hbm, ⟨46, _⟩ => ⟨S8, .i32⟩
  | .hbm, ⟨47, _⟩ => ⟨S128x8192, .f32⟩
  | .local _ .vmem, ⟨0, _⟩ => ⟨S4096x128, .fp8e4m3⟩
  | .local _ .vmem, ⟨1, _⟩ => ⟨S512x8192, .fp8e4m3⟩
  | .local _ .vmem, ⟨2, _⟩ => ⟨S512x8192, .fp8e4m3⟩
  | .local _ .vmem, ⟨3, _⟩ => ⟨S128x8192, .f32⟩
  | .local _ .vmem, ⟨4, _⟩ => ⟨S4096x128, .fp8e4m3⟩
  | .local _ .vmem, ⟨5, _⟩ => ⟨S128x4096, .fp8e4m3⟩
  | .local _ .smem, ⟨0, _⟩ => ⟨S8, .i32⟩
  | .local _ .smem, ⟨1, _⟩ => ⟨S1, .f32⟩
  | .local _ .smem, ⟨2, _⟩ => ⟨S1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨1, _⟩ => true
  | .smem, ⟨2, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c : Ref sig .tc := ⟨.hbm, 17, rfl⟩
abbrev main_call0_v6 : Ref sig .tc := ⟨.hbm, 18, rfl⟩
abbrev main_call0_v7 : Ref sig .tc := ⟨.hbm, 19, rfl⟩
abbrev main_call0_c_0 : Ref sig .tc := ⟨.hbm, 20, rfl⟩
abbrev main_call0_v8 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v10 : Ref sig .tc := ⟨.hbm, 47, rfl⟩
abbrev main_v9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg2_0 : Ref sig .tc := ⟨.smem, 1, rfl⟩
abbrev cc0_stg3_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev barrier0 : Sem sig := 0

abbrev nD : Nat := 32
abbrev τ : Topo := Topo.v7x

variable {F : FTy → Type} [FloatOps F]

abbrev grid0 : Pipeline.Grid := ⟨1, ![8], ![false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_0 : BitVec 32 := 0#32
  let v8 : BitVec 1 := Scalar.cmpi .ne v7 c0_i32_0
  v8

def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v51 : BitVec 32 := Scalar.muli v2 c128_i32
  let v52 : Index := Scalar.indexCast v51
  let c0_22 : Index := 0#32
  ![v52.toNat, 0]
def k0_off4 (d0 : Dev nD) : Fin 2 → Nat :=
  let c0_24 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_23 : BitVec 32 := 128#32
  let v54 : BitVec 32 := Scalar.muli v2 c128_i32_23
  let v55 : Index := Scalar.indexCast v54
  ![0, v55.toNat]
def k0_dev1 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_25 : BitVec 32 := 1#32
  let v60 : BitVec 32 := Scalar.addi v2 c1_i32_25
  let c32_i32_26 : BitVec 32 := 32#32
  let v61 : BitVec 32 := Scalar.remsi v60 c32_i32_26
  let c1_i32_28 : BitVec 32 := 1#32
  let v62 : BitVec 32 := Scalar.muli v61 c1_i32_28
  let v63 : BitVec 32 := Scalar.addi c0_i32_29 v62
  v63.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_30 : BitVec 32 := 2#32
  let v64 : BitVec 32 := Scalar.addi v2 c2_i32_30
  let c32_i32_31 : BitVec 32 := 32#32
  let v65 : BitVec 32 := Scalar.remsi v64 c32_i32_31
  let c1_i32_33 : BitVec 32 := 1#32
  let v66 : BitVec 32 := Scalar.muli v65 c1_i32_33
  let v67 : BitVec 32 := Scalar.addi c0_i32_34 v66
  v67.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_35 : BitVec 32 := 3#32
  let v68 : BitVec 32 := Scalar.addi v2 c3_i32_35
  let c32_i32_36 : BitVec 32 := 32#32
  let v69 : BitVec 32 := Scalar.remsi v68 c32_i32_36
  let c1_i32_38 : BitVec 32 := 1#32
  let v70 : BitVec 32 := Scalar.muli v69 c1_i32_38
  let v71 : BitVec 32 := Scalar.addi c0_i32_39 v70
  v71.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_40 : BitVec 32 := 4#32
  let v72 : BitVec 32 := Scalar.addi v2 c4_i32_40
  let c32_i32_41 : BitVec 32 := 32#32
  let v73 : BitVec 32 := Scalar.remsi v72 c32_i32_41
  let c1_i32_43 : BitVec 32 := 1#32
  let v74 : BitVec 32 := Scalar.muli v73 c1_i32_43
  let v75 : BitVec 32 := Scalar.addi c0_i32_44 v74
  v75.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v76 : BitVec 32 := Scalar.addi v2 c5_i32
  let c32_i32_45 : BitVec 32 := 32#32
  let v77 : BitVec 32 := Scalar.remsi v76 c32_i32_45
  let c1_i32_47 : BitVec 32 := 1#32
  let v78 : BitVec 32 := Scalar.muli v77 c1_i32_47
  let v79 : BitVec 32 := Scalar.addi c0_i32_48 v78
  v79.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v80 : BitVec 32 := Scalar.addi v2 c6_i32
  let c32_i32_49 : BitVec 32 := 32#32
  let v81 : BitVec 32 := Scalar.remsi v80 c32_i32_49
  let c1_i32_51 : BitVec 32 := 1#32
  let v82 : BitVec 32 := Scalar.muli v81 c1_i32_51
  let v83 : BitVec 32 := Scalar.addi c0_i32_52 v82
  v83.toNat
def k0_dev7 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_53 : BitVec 32 := 7#32
  let v84 : BitVec 32 := Scalar.addi v2 c7_i32_53
  let c32_i32_54 : BitVec 32 := 32#32
  let v85 : BitVec 32 := Scalar.remsi v84 c32_i32_54
  let c1_i32_56 : BitVec 32 := 1#32
  let v86 : BitVec 32 := Scalar.muli v85 c1_i32_56
  let v87 : BitVec 32 := Scalar.addi c0_i32_57 v86
  v87.toNat
def k0_dev8 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v88 : BitVec 32 := Scalar.addi v2 c8_i32
  let c32_i32_58 : BitVec 32 := 32#32
  let v89 : BitVec 32 := Scalar.remsi v88 c32_i32_58
  let c1_i32_60 : BitVec 32 := 1#32
  let v90 : BitVec 32 := Scalar.muli v89 c1_i32_60
  let v91 : BitVec 32 := Scalar.addi c0_i32_61 v90
  v91.toNat
def k0_dev9 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v92 : BitVec 32 := Scalar.addi v2 c9_i32
  let c32_i32_62 : BitVec 32 := 32#32
  let v93 : BitVec 32 := Scalar.remsi v92 c32_i32_62
  let c1_i32_64 : BitVec 32 := 1#32
  let v94 : BitVec 32 := Scalar.muli v93 c1_i32_64
  let v95 : BitVec 32 := Scalar.addi c0_i32_65 v94
  v95.toNat
def k0_dev10 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v96 : BitVec 32 := Scalar.addi v2 c10_i32
  let c32_i32_66 : BitVec 32 := 32#32
  let v97 : BitVec 32 := Scalar.remsi v96 c32_i32_66
  let c1_i32_68 : BitVec 32 := 1#32
  let v98 : BitVec 32 := Scalar.muli v97 c1_i32_68
  let v99 : BitVec 32 := Scalar.addi c0_i32_69 v98
  v99.toNat
def k0_dev11 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v100 : BitVec 32 := Scalar.addi v2 c11_i32
  let c32_i32_70 : BitVec 32 := 32#32
  let v101 : BitVec 32 := Scalar.remsi v100 c32_i32_70
  let c1_i32_72 : BitVec 32 := 1#32
  let v102 : BitVec 32 := Scalar.muli v101 c1_i32_72
  let v103 : BitVec 32 := Scalar.addi c0_i32_73 v102
  v103.toNat
def k0_dev12 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v104 : BitVec 32 := Scalar.addi v2 c12_i32
  let c32_i32_74 : BitVec 32 := 32#32
  let v105 : BitVec 32 := Scalar.remsi v104 c32_i32_74
  let c1_i32_76 : BitVec 32 := 1#32
  let v106 : BitVec 32 := Scalar.muli v105 c1_i32_76
  let v107 : BitVec 32 := Scalar.addi c0_i32_77 v106
  v107.toNat
def k0_dev13 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v108 : BitVec 32 := Scalar.addi v2 c13_i32
  let c32_i32_78 : BitVec 32 := 32#32
  let v109 : BitVec 32 := Scalar.remsi v108 c32_i32_78
  let c1_i32_80 : BitVec 32 := 1#32
  let v110 : BitVec 32 := Scalar.muli v109 c1_i32_80
  let v111 : BitVec 32 := Scalar.addi c0_i32_81 v110
  v111.toNat
def k0_dev14 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v112 : BitVec 32 := Scalar.addi v2 c14_i32
  let c32_i32_82 : BitVec 32 := 32#32
  let v113 : BitVec 32 := Scalar.remsi v112 c32_i32_82
  let c1_i32_84 : BitVec 32 := 1#32
  let v114 : BitVec 32 := Scalar.muli v113 c1_i32_84
  let v115 : BitVec 32 := Scalar.addi c0_i32_85 v114
  v115.toNat
def k0_dev15 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v116 : BitVec 32 := Scalar.addi v2 c15_i32
  let c32_i32_86 : BitVec 32 := 32#32
  let v117 : BitVec 32 := Scalar.remsi v116 c32_i32_86
  let c1_i32_88 : BitVec 32 := 1#32
  let v118 : BitVec 32 := Scalar.muli v117 c1_i32_88
  let v119 : BitVec 32 := Scalar.addi c0_i32_89 v118
  v119.toNat
def k0_dev16 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v120 : BitVec 32 := Scalar.addi v2 c16_i32
  let c32_i32_90 : BitVec 32 := 32#32
  let v121 : BitVec 32 := Scalar.remsi v120 c32_i32_90
  let c1_i32_92 : BitVec 32 := 1#32
  let v122 : BitVec 32 := Scalar.muli v121 c1_i32_92
  let v123 : BitVec 32 := Scalar.addi c0_i32_93 v122
  v123.toNat
def k0_dev17 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v124 : BitVec 32 := Scalar.addi v2 c17_i32
  let c32_i32_94 : BitVec 32 := 32#32
  let v125 : BitVec 32 := Scalar.remsi v124 c32_i32_94
  let c1_i32_96 : BitVec 32 := 1#32
  let v126 : BitVec 32 := Scalar.muli v125 c1_i32_96
  let v127 : BitVec 32 := Scalar.addi c0_i32_97 v126
  v127.toNat
def k0_dev18 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v128 : BitVec 32 := Scalar.addi v2 c18_i32
  let c32_i32_98 : BitVec 32 := 32#32
  let v129 : BitVec 32 := Scalar.remsi v128 c32_i32_98
  let c1_i32_100 : BitVec 32 := 1#32
  let v130 : BitVec 32 := Scalar.muli v129 c1_i32_100
  let v131 : BitVec 32 := Scalar.addi c0_i32_101 v130
  v131.toNat
def k0_dev19 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v132 : BitVec 32 := Scalar.addi v2 c19_i32
  let c32_i32_102 : BitVec 32 := 32#32
  let v133 : BitVec 32 := Scalar.remsi v132 c32_i32_102
  let c1_i32_104 : BitVec 32 := 1#32
  let v134 : BitVec 32 := Scalar.muli v133 c1_i32_104
  let v135 : BitVec 32 := Scalar.addi c0_i32_105 v134
  v135.toNat
def k0_dev20 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v136 : BitVec 32 := Scalar.addi v2 c20_i32
  let c32_i32_106 : BitVec 32 := 32#32
  let v137 : BitVec 32 := Scalar.remsi v136 c32_i32_106
  let c1_i32_108 : BitVec 32 := 1#32
  let v138 : BitVec 32 := Scalar.muli v137 c1_i32_108
  let v139 : BitVec 32 := Scalar.addi c0_i32_109 v138
  v139.toNat
def k0_dev21 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v140 : BitVec 32 := Scalar.addi v2 c21_i32
  let c32_i32_110 : BitVec 32 := 32#32
  let v141 : BitVec 32 := Scalar.remsi v140 c32_i32_110
  let c1_i32_112 : BitVec 32 := 1#32
  let v142 : BitVec 32 := Scalar.muli v141 c1_i32_112
  let v143 : BitVec 32 := Scalar.addi c0_i32_113 v142
  v143.toNat
def k0_dev22 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v144 : BitVec 32 := Scalar.addi v2 c22_i32
  let c32_i32_114 : BitVec 32 := 32#32
  let v145 : BitVec 32 := Scalar.remsi v144 c32_i32_114
  let c1_i32_116 : BitVec 32 := 1#32
  let v146 : BitVec 32 := Scalar.muli v145 c1_i32_116
  let v147 : BitVec 32 := Scalar.addi c0_i32_117 v146
  v147.toNat
def k0_dev23 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v148 : BitVec 32 := Scalar.addi v2 c23_i32
  let c32_i32_118 : BitVec 32 := 32#32
  let v149 : BitVec 32 := Scalar.remsi v148 c32_i32_118
  let c1_i32_120 : BitVec 32 := 1#32
  let v150 : BitVec 32 := Scalar.muli v149 c1_i32_120
  let v151 : BitVec 32 := Scalar.addi c0_i32_121 v150
  v151.toNat
def k0_dev24 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v152 : BitVec 32 := Scalar.addi v2 c24_i32
  let c32_i32_122 : BitVec 32 := 32#32
  let v153 : BitVec 32 := Scalar.remsi v152 c32_i32_122
  let c1_i32_124 : BitVec 32 := 1#32
  let v154 : BitVec 32 := Scalar.muli v153 c1_i32_124
  let v155 : BitVec 32 := Scalar.addi c0_i32_125 v154
  v155.toNat
def k0_dev25 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v156 : BitVec 32 := Scalar.addi v2 c25_i32
  let c32_i32_126 : BitVec 32 := 32#32
  let v157 : BitVec 32 := Scalar.remsi v156 c32_i32_126
  let c1_i32_128 : BitVec 32 := 1#32
  let v158 : BitVec 32 := Scalar.muli v157 c1_i32_128
  let v159 : BitVec 32 := Scalar.addi c0_i32_129 v158
  v159.toNat
def k0_dev26 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v160 : BitVec 32 := Scalar.addi v2 c26_i32
  let c32_i32_130 : BitVec 32 := 32#32
  let v161 : BitVec 32 := Scalar.remsi v160 c32_i32_130
  let c1_i32_132 : BitVec 32 := 1#32
  let v162 : BitVec 32 := Scalar.muli v161 c1_i32_132
  let v163 : BitVec 32 := Scalar.addi c0_i32_133 v162
  v163.toNat
def k0_dev27 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v164 : BitVec 32 := Scalar.addi v2 c27_i32
  let c32_i32_134 : BitVec 32 := 32#32
  let v165 : BitVec 32 := Scalar.remsi v164 c32_i32_134
  let c1_i32_136 : BitVec 32 := 1#32
  let v166 : BitVec 32 := Scalar.muli v165 c1_i32_136
  let v167 : BitVec 32 := Scalar.addi c0_i32_137 v166
  v167.toNat
def k0_dev28 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v168 : BitVec 32 := Scalar.addi v2 c28_i32
  let c32_i32_138 : BitVec 32 := 32#32
  let v169 : BitVec 32 := Scalar.remsi v168 c32_i32_138
  let c1_i32_140 : BitVec 32 := 1#32
  let v170 : BitVec 32 := Scalar.muli v169 c1_i32_140
  let v171 : BitVec 32 := Scalar.addi c0_i32_141 v170
  v171.toNat
def k0_dev29 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v172 : BitVec 32 := Scalar.addi v2 c29_i32
  let c32_i32_142 : BitVec 32 := 32#32
  let v173 : BitVec 32 := Scalar.remsi v172 c32_i32_142
  let c1_i32_144 : BitVec 32 := 1#32
  let v174 : BitVec 32 := Scalar.muli v173 c1_i32_144
  let v175 : BitVec 32 := Scalar.addi c0_i32_145 v174
  v175.toNat
def k0_dev30 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v176 : BitVec 32 := Scalar.addi v2 c30_i32
  let c32_i32_146 : BitVec 32 := 32#32
  let v177 : BitVec 32 := Scalar.remsi v176 c32_i32_146
  let c1_i32_148 : BitVec 32 := 1#32
  let v178 : BitVec 32 := Scalar.muli v177 c1_i32_148
  let v179 : BitVec 32 := Scalar.addi c0_i32_149 v178
  v179.toNat
def k0_dev31 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v180 : BitVec 32 := Scalar.addi v2 c31_i32
  let c32_i32_150 : BitVec 32 := 32#32
  let v181 : BitVec 32 := Scalar.remsi v180 c32_i32_150
  let c1_i32_152 : BitVec 32 := 1#32
  let v182 : BitVec 32 := Scalar.muli v181 c1_i32_152
  let v183 : BitVec 32 := Scalar.addi c0_i32_153 v182
  v183.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_158 : BitVec 32 := 4#32
  let v187 : BitVec 32 := Scalar.muli v186 c4_i32_158
  let c0_i32_159 : BitVec 32 := 0#32
  let v188 : BitVec 32 := Scalar.addi v187 c0_i32_159
  let v189 : BitVec 1 := Scalar.cmpi .ne v188 v2
  let v190 : BitVec 32 := Scalar.extui v189
  let c0_i32_160 : BitVec 32 := 0#32
  let v191 : BitVec 1 := Scalar.cmpi .ne v190 c0_i32_160
  v191

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_158 : BitVec 32 := 4#32
  let v187 : BitVec 32 := Scalar.muli v186 c4_i32_158
  let c0_i32_159 : BitVec 32 := 0#32
  let v188 : BitVec 32 := Scalar.addi v187 c0_i32_159
  let c128_i32_275 : BitVec 32 := 128#32
  let v368 : BitVec 32 := Scalar.muli v188 c128_i32_275
  let c0_i32_281 : BitVec 32 := 0#32
  ![v368.toNat, 0]
def k0_dev32 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_158 : BitVec 32 := 4#32
  let v187 : BitVec 32 := Scalar.muli v186 c4_i32_158
  let c0_i32_159 : BitVec 32 := 0#32
  let v188 : BitVec 32 := Scalar.addi v187 c0_i32_159
  let c1_i32_278 : BitVec 32 := 1#32
  let v370 : BitVec 32 := Scalar.muli v188 c1_i32_278
  let v371 : BitVec 32 := Scalar.addi c0_i32_279 v370
  v371.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_161 : BitVec 32 := 4#32
  let v192 : BitVec 32 := Scalar.muli v186 c4_i32_161
  let c1_i32_162 : BitVec 32 := 1#32
  let v193 : BitVec 32 := Scalar.addi v192 c1_i32_162
  let v194 : BitVec 1 := Scalar.cmpi .ne v193 v2
  let v195 : BitVec 32 := Scalar.extui v194
  let c0_i32_163 : BitVec 32 := 0#32
  let v196 : BitVec 1 := Scalar.cmpi .ne v195 c0_i32_163
  v196

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_161 : BitVec 32 := 4#32
  let v192 : BitVec 32 := Scalar.muli v186 c4_i32_161
  let c1_i32_162 : BitVec 32 := 1#32
  let v193 : BitVec 32 := Scalar.addi v192 c1_i32_162
  let c128_i32_275 : BitVec 32 := 128#32
  let v368 : BitVec 32 := Scalar.muli v193 c128_i32_275
  let c0_i32_281 : BitVec 32 := 0#32
  ![v368.toNat, 0]
def k0_dev33 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_161 : BitVec 32 := 4#32
  let v192 : BitVec 32 := Scalar.muli v186 c4_i32_161
  let c1_i32_162 : BitVec 32 := 1#32
  let v193 : BitVec 32 := Scalar.addi v192 c1_i32_162
  let c1_i32_278 : BitVec 32 := 1#32
  let v370 : BitVec 32 := Scalar.muli v193 c1_i32_278
  let v371 : BitVec 32 := Scalar.addi c0_i32_279 v370
  v371.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_164 : BitVec 32 := 4#32
  let v197 : BitVec 32 := Scalar.muli v186 c4_i32_164
  let c2_i32_165 : BitVec 32 := 2#32
  let v198 : BitVec 32 := Scalar.addi v197 c2_i32_165
  let v199 : BitVec 1 := Scalar.cmpi .ne v198 v2
  let v200 : BitVec 32 := Scalar.extui v199
  let c0_i32_166 : BitVec 32 := 0#32
  let v201 : BitVec 1 := Scalar.cmpi .ne v200 c0_i32_166
  v201

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_164 : BitVec 32 := 4#32
  let v197 : BitVec 32 := Scalar.muli v186 c4_i32_164
  let c2_i32_165 : BitVec 32 := 2#32
  let v198 : BitVec 32 := Scalar.addi v197 c2_i32_165
  let c128_i32_275 : BitVec 32 := 128#32
  let v368 : BitVec 32 := Scalar.muli v198 c128_i32_275
  let c0_i32_281 : BitVec 32 := 0#32
  ![v368.toNat, 0]
def k0_dev34 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_164 : BitVec 32 := 4#32
  let v197 : BitVec 32 := Scalar.muli v186 c4_i32_164
  let c2_i32_165 : BitVec 32 := 2#32
  let v198 : BitVec 32 := Scalar.addi v197 c2_i32_165
  let c1_i32_278 : BitVec 32 := 1#32
  let v370 : BitVec 32 := Scalar.muli v198 c1_i32_278
  let v371 : BitVec 32 := Scalar.addi c0_i32_279 v370
  v371.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_167 : BitVec 32 := 4#32
  let v202 : BitVec 32 := Scalar.muli v186 c4_i32_167
  let c3_i32_168 : BitVec 32 := 3#32
  let v203 : BitVec 32 := Scalar.addi v202 c3_i32_168
  let v204 : BitVec 1 := Scalar.cmpi .ne v203 v2
  let v205 : BitVec 32 := Scalar.extui v204
  let c0_i32_169 : BitVec 32 := 0#32
  let v206 : BitVec 1 := Scalar.cmpi .ne v205 c0_i32_169
  v206

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_167 : BitVec 32 := 4#32
  let v202 : BitVec 32 := Scalar.muli v186 c4_i32_167
  let c3_i32_168 : BitVec 32 := 3#32
  let v203 : BitVec 32 := Scalar.addi v202 c3_i32_168
  let c128_i32_275 : BitVec 32 := 128#32
  let v368 : BitVec 32 := Scalar.muli v203 c128_i32_275
  let c0_i32_281 : BitVec 32 := 0#32
  ![v368.toNat, 0]
def k0_dev35 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_155 : BitVec 32 := 0#32
  let v184 : BitVec 32 := Scalar.subi v3 c0_i32_155
  let c8_i32_156 : BitVec 32 := 8#32
  let v185 : BitVec 32 := Scalar.addi v184 c8_i32_156
  let c8_i32_157 : BitVec 32 := 8#32
  let v186 : BitVec 32 := Scalar.remsi v185 c8_i32_157
  let c4_i32_167 : BitVec 32 := 4#32
  let v202 : BitVec 32 := Scalar.muli v186 c4_i32_167
  let c3_i32_168 : BitVec 32 := 3#32
  let v203 : BitVec 32 := Scalar.addi v202 c3_i32_168
  let c1_i32_278 : BitVec 32 := 1#32
  let v370 : BitVec 32 := Scalar.muli v203 c1_i32_278
  let v371 : BitVec 32 := Scalar.addi c0_i32_279 v370
  v371.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_173 : BitVec 32 := 4#32
  let v210 : BitVec 32 := Scalar.muli v209 c4_i32_173
  let c0_i32_174 : BitVec 32 := 0#32
  let v211 : BitVec 32 := Scalar.addi v210 c0_i32_174
  let v212 : BitVec 1 := Scalar.cmpi .ne v211 v2
  let v213 : BitVec 32 := Scalar.extui v212
  let c0_i32_175 : BitVec 32 := 0#32
  let v214 : BitVec 1 := Scalar.cmpi .ne v213 c0_i32_175
  v214

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_173 : BitVec 32 := 4#32
  let v210 : BitVec 32 := Scalar.muli v209 c4_i32_173
  let c0_i32_174 : BitVec 32 := 0#32
  let v211 : BitVec 32 := Scalar.addi v210 c0_i32_174
  let c128_i32_275 : BitVec 32 := 128#32
  let v368 : BitVec 32 := Scalar.muli v211 c128_i32_275
  let c0_i32_281 : BitVec 32 := 0#32
  ![v368.toNat, 0]
def k0_dev36 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_173 : BitVec 32 := 4#32
  let v210 : BitVec 32 := Scalar.muli v209 c4_i32_173
  let c0_i32_174 : BitVec 32 := 0#32
  let v211 : BitVec 32 := Scalar.addi v210 c0_i32_174
  let c1_i32_278 : BitVec 32 := 1#32
  let v370 : BitVec 32 := Scalar.muli v211 c1_i32_278
  let v371 : BitVec 32 := Scalar.addi c0_i32_279 v370
  v371.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_176 : BitVec 32 := 4#32
  let v215 : BitVec 32 := Scalar.muli v209 c4_i32_176
  let c1_i32_177 : BitVec 32 := 1#32
  let v216 : BitVec 32 := Scalar.addi v215 c1_i32_177
  let v217 : BitVec 1 := Scalar.cmpi .ne v216 v2
  let v218 : BitVec 32 := Scalar.extui v217
  let c0_i32_178 : BitVec 32 := 0#32
  let v219 : BitVec 1 := Scalar.cmpi .ne v218 c0_i32_178
  v219

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_176 : BitVec 32 := 4#32
  let v215 : BitVec 32 := Scalar.muli v209 c4_i32_176
  let c1_i32_177 : BitVec 32 := 1#32
  let v216 : BitVec 32 := Scalar.addi v215 c1_i32_177
  let c128_i32_275 : BitVec 32 := 128#32
  let v368 : BitVec 32 := Scalar.muli v216 c128_i32_275
  let c0_i32_281 : BitVec 32 := 0#32
  ![v368.toNat, 0]
def k0_dev37 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_176 : BitVec 32 := 4#32
  let v215 : BitVec 32 := Scalar.muli v209 c4_i32_176
  let c1_i32_177 : BitVec 32 := 1#32
  let v216 : BitVec 32 := Scalar.addi v215 c1_i32_177
  let c1_i32_278 : BitVec 32 := 1#32
  let v370 : BitVec 32 := Scalar.muli v216 c1_i32_278
  let v371 : BitVec 32 := Scalar.addi c0_i32_279 v370
  v371.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_179 : BitVec 32 := 4#32
  let v220 : BitVec 32 := Scalar.muli v209 c4_i32_179
  let c2_i32_180 : BitVec 32 := 2#32
  let v221 : BitVec 32 := Scalar.addi v220 c2_i32_180
  let v222 : BitVec 1 := Scalar.cmpi .ne v221 v2
  let v223 : BitVec 32 := Scalar.extui v222
  let c0_i32_181 : BitVec 32 := 0#32
  let v224 : BitVec 1 := Scalar.cmpi .ne v223 c0_i32_181
  v224

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_179 : BitVec 32 := 4#32
  let v220 : BitVec 32 := Scalar.muli v209 c4_i32_179
  let c2_i32_180 : BitVec 32 := 2#32
  let v221 : BitVec 32 := Scalar.addi v220 c2_i32_180
  let c128_i32_275 : BitVec 32 := 128#32
  let v368 : BitVec 32 := Scalar.muli v221 c128_i32_275
  let c0_i32_281 : BitVec 32 := 0#32
  ![v368.toNat, 0]
def k0_dev38 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_179 : BitVec 32 := 4#32
  let v220 : BitVec 32 := Scalar.muli v209 c4_i32_179
  let c2_i32_180 : BitVec 32 := 2#32
  let v221 : BitVec 32 := Scalar.addi v220 c2_i32_180
  let c1_i32_278 : BitVec 32 := 1#32
  let v370 : BitVec 32 := Scalar.muli v221 c1_i32_278
  let v371 : BitVec 32 := Scalar.addi c0_i32_279 v370
  v371.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_182 : BitVec 32 := 4#32
  let v225 : BitVec 32 := Scalar.muli v209 c4_i32_182
  let c3_i32_183 : BitVec 32 := 3#32
  let v226 : BitVec 32 := Scalar.addi v225 c3_i32_183
  let v227 : BitVec 1 := Scalar.cmpi .ne v226 v2
  let v228 : BitVec 32 := Scalar.extui v227
  let c0_i32_184 : BitVec 32 := 0#32
  let v229 : BitVec 1 := Scalar.cmpi .ne v228 c0_i32_184
  v229

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off27 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_182 : BitVec 32 := 4#32
  let v225 : BitVec 32 := Scalar.muli v209 c4_i32_182
  let c3_i32_183 : BitVec 32 := 3#32
  let v226 : BitVec 32 := Scalar.addi v225 c3_i32_183
  let c128_i32_275 : BitVec 32 := 128#32
  let v368 : BitVec 32 := Scalar.muli v226 c128_i32_275
  let c0_i32_281 : BitVec 32 := 0#32
  ![v368.toNat, 0]
def k0_dev39 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_170 : BitVec 32 := 1#32
  let v207 : BitVec 32 := Scalar.subi v3 c1_i32_170
  let c8_i32_171 : BitVec 32 := 8#32
  let v208 : BitVec 32 := Scalar.addi v207 c8_i32_171
  let c8_i32_172 : BitVec 32 := 8#32
  let v209 : BitVec 32 := Scalar.remsi v208 c8_i32_172
  let c4_i32_182 : BitVec 32 := 4#32
  let v225 : BitVec 32 := Scalar.muli v209 c4_i32_182
  let c3_i32_183 : BitVec 32 := 3#32
  let v226 : BitVec 32 := Scalar.addi v225 c3_i32_183
  let c1_i32_278 : BitVec 32 := 1#32
  let v370 : BitVec 32 := Scalar.muli v226 c1_i32_278
  let v371 : BitVec 32 := Scalar.addi c0_i32_279 v370
  v371.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_188 : BitVec 32 := 4#32
  let v233 : BitVec 32 := Scalar.muli v232 c4_i32_188
  let c0_i32_189 : BitVec 32 := 0#32
  let v234 : BitVec 32 := Scalar.addi v233 c0_i32_189
  let v235 : BitVec 1 := Scalar.cmpi .ne v234 v2
  let v236 : BitVec 32 := Scalar.extui v235
  let c0_i32_190 : BitVec 32 := 0#32
  let v237 : BitVec 1 := Scalar.cmpi .ne v236 c0_i32_190
  v237

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_188 : BitVec 32 := 4#32
  let v233 : BitVec 32 := Scalar.muli v232 c4_i32_188
  let c0_i32_189 : BitVec 32 := 0#32
  let v234 : BitVec 32 := Scalar.addi v233 c0_i32_189
  let c128_i32_275 : BitVec 32 := 128#32
  let v368 : BitVec 32 := Scalar.muli v234 c128_i32_275
  let c0_i32_281 : BitVec 32 := 0#32
  ![v368.toNat, 0]
def k0_dev40 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_188 : BitVec 32 := 4#32
  let v233 : BitVec 32 := Scalar.muli v232 c4_i32_188
  let c0_i32_189 : BitVec 32 := 0#32
  let v234 : BitVec 32 := Scalar.addi v233 c0_i32_189
  let c1_i32_278 : BitVec 32 := 1#32
  let v370 : BitVec 32 := Scalar.muli v234 c1_i32_278
  let v371 : BitVec 32 := Scalar.addi c0_i32_279 v370
  v371.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_191 : BitVec 32 := 4#32
  let v238 : BitVec 32 := Scalar.muli v232 c4_i32_191
  let c1_i32_192 : BitVec 32 := 1#32
  let v239 : BitVec 32 := Scalar.addi v238 c1_i32_192
  let v240 : BitVec 1 := Scalar.cmpi .ne v239 v2
  let v241 : BitVec 32 := Scalar.extui v240
  let c0_i32_193 : BitVec 32 := 0#32
  let v242 : BitVec 1 := Scalar.cmpi .ne v241 c0_i32_193
  v242

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_191 : BitVec 32 := 4#32
  let v238 : BitVec 32 := Scalar.muli v232 c4_i32_191
  let c1_i32_192 : BitVec 32 := 1#32
  let v239 : BitVec 32 := Scalar.addi v238 c1_i32_192
  let c128_i32_275 : BitVec 32 := 128#32
  let v368 : BitVec 32 := Scalar.muli v239 c128_i32_275
  let c0_i32_281 : BitVec 32 := 0#32
  ![v368.toNat, 0]
def k0_dev41 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_191 : BitVec 32 := 4#32
  let v238 : BitVec 32 := Scalar.muli v232 c4_i32_191
  let c1_i32_192 : BitVec 32 := 1#32
  let v239 : BitVec 32 := Scalar.addi v238 c1_i32_192
  let c1_i32_278 : BitVec 32 := 1#32
  let v370 : BitVec 32 := Scalar.muli v239 c1_i32_278
  let v371 : BitVec 32 := Scalar.addi c0_i32_279 v370
  v371.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_194 : BitVec 32 := 4#32
  let v243 : BitVec 32 := Scalar.muli v232 c4_i32_194
  let c2_i32_195 : BitVec 32 := 2#32
  let v244 : BitVec 32 := Scalar.addi v243 c2_i32_195
  let v245 : BitVec 1 := Scalar.cmpi .ne v244 v2
  let v246 : BitVec 32 := Scalar.extui v245
  let c0_i32_196 : BitVec 32 := 0#32
  let v247 : BitVec 1 := Scalar.cmpi .ne v246 c0_i32_196
  v247

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_194 : BitVec 32 := 4#32
  let v243 : BitVec 32 := Scalar.muli v232 c4_i32_194
  let c2_i32_195 : BitVec 32 := 2#32
  let v244 : BitVec 32 := Scalar.addi v243 c2_i32_195
  let c128_i32_275 : BitVec 32 := 128#32
  let v368 : BitVec 32 := Scalar.muli v244 c128_i32_275
  let c0_i32_281 : BitVec 32 := 0#32
  ![v368.toNat, 0]
def k0_dev42 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_194 : BitVec 32 := 4#32
  let v243 : BitVec 32 := Scalar.muli v232 c4_i32_194
  let c2_i32_195 : BitVec 32 := 2#32
  let v244 : BitVec 32 := Scalar.addi v243 c2_i32_195
  let c1_i32_278 : BitVec 32 := 1#32
  let v370 : BitVec 32 := Scalar.muli v244 c1_i32_278
  let v371 : BitVec 32 := Scalar.addi c0_i32_279 v370
  v371.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_197 : BitVec 32 := 4#32
  let v248 : BitVec 32 := Scalar.muli v232 c4_i32_197
  let c3_i32_198 : BitVec 32 := 3#32
  let v249 : BitVec 32 := Scalar.addi v248 c3_i32_198
  let v250 : BitVec 1 := Scalar.cmpi .ne v249 v2
  let v251 : BitVec 32 := Scalar.extui v250
  let c0_i32_199 : BitVec 32 := 0#32
  let v252 : BitVec 1 := Scalar.cmpi .ne v251 c0_i32_199
  v252

def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off39 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_197 : BitVec 32 := 4#32
  let v248 : BitVec 32 := Scalar.muli v232 c4_i32_197
  let c3_i32_198 : BitVec 32 := 3#32
  let v249 : BitVec 32 := Scalar.addi v248 c3_i32_198
  let c128_i32_275 : BitVec 32 := 128#32
  let v368 : BitVec 32 := Scalar.muli v249 c128_i32_275
  let c0_i32_281 : BitVec 32 := 0#32
  ![v368.toNat, 0]
def k0_dev43 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_185 : BitVec 32 := 2#32
  let v230 : BitVec 32 := Scalar.subi v3 c2_i32_185
  let c8_i32_186 : BitVec 32 := 8#32
  let v231 : BitVec 32 := Scalar.addi v230 c8_i32_186
  let c8_i32_187 : BitVec 32 := 8#32
  let v232 : BitVec 32 := Scalar.remsi v231 c8_i32_187
  let c4_i32_197 : BitVec 32 := 4#32
  let v248 : BitVec 32 := Scalar.muli v232 c4_i32_197
  let c3_i32_198 : BitVec 32 := 3#32
  let v249 : BitVec 32 := Scalar.addi v248 c3_i32_198
  let c1_i32_278 : BitVec 32 := 1#32
  let v370 : BitVec 32 := Scalar.muli v249 c1_i32_278
  let v371 : BitVec 32 := Scalar.addi c0_i32_279 v370
  v371.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_203 : BitVec 32 := 4#32
  let v256 : BitVec 32 := Scalar.muli v255 c4_i32_203
  let c0_i32_204 : BitVec 32 := 0#32
  let v257 : BitVec 32 := Scalar.addi v256 c0_i32_204
  let v258 : BitVec 1 := Scalar.cmpi .ne v257 v2
  let v259 : BitVec 32 := Scalar.extui v258
  let c0_i32_205 : BitVec 32 := 0#32
  let v260 : BitVec 1 := Scalar.cmpi .ne v259 c0_i32_205
  v260

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_203 : BitVec 32 := 4#32
  let v256 : BitVec 32 := Scalar.muli v255 c4_i32_203
  let c0_i32_204 : BitVec 32 := 0#32
  let v257 : BitVec 32 := Scalar.addi v256 c0_i32_204
  let c128_i32_275 : BitVec 32 := 128#32
  let v368 : BitVec 32 := Scalar.muli v257 c128_i32_275
  let c0_i32_281 : BitVec 32 := 0#32
  ![v368.toNat, 0]
def k0_dev44 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_203 : BitVec 32 := 4#32
  let v256 : BitVec 32 := Scalar.muli v255 c4_i32_203
  let c0_i32_204 : BitVec 32 := 0#32
  let v257 : BitVec 32 := Scalar.addi v256 c0_i32_204
  let c1_i32_278 : BitVec 32 := 1#32
  let v370 : BitVec 32 := Scalar.muli v257 c1_i32_278
  let v371 : BitVec 32 := Scalar.addi c0_i32_279 v370
  v371.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_206 : BitVec 32 := 4#32
  let v261 : BitVec 32 := Scalar.muli v255 c4_i32_206
  let c1_i32_207 : BitVec 32 := 1#32
  let v262 : BitVec 32 := Scalar.addi v261 c1_i32_207
  let v263 : BitVec 1 := Scalar.cmpi .ne v262 v2
  let v264 : BitVec 32 := Scalar.extui v263
  let c0_i32_208 : BitVec 32 := 0#32
  let v265 : BitVec 1 := Scalar.cmpi .ne v264 c0_i32_208
  v265

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_206 : BitVec 32 := 4#32
  let v261 : BitVec 32 := Scalar.muli v255 c4_i32_206
  let c1_i32_207 : BitVec 32 := 1#32
  let v262 : BitVec 32 := Scalar.addi v261 c1_i32_207
  let c128_i32_275 : BitVec 32 := 128#32
  let v368 : BitVec 32 := Scalar.muli v262 c128_i32_275
  let c0_i32_281 : BitVec 32 := 0#32
  ![v368.toNat, 0]
def k0_dev45 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_206 : BitVec 32 := 4#32
  let v261 : BitVec 32 := Scalar.muli v255 c4_i32_206
  let c1_i32_207 : BitVec 32 := 1#32
  let v262 : BitVec 32 := Scalar.addi v261 c1_i32_207
  let c1_i32_278 : BitVec 32 := 1#32
  let v370 : BitVec 32 := Scalar.muli v262 c1_i32_278
  let v371 : BitVec 32 := Scalar.addi c0_i32_279 v370
  v371.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_209 : BitVec 32 := 4#32
  let v266 : BitVec 32 := Scalar.muli v255 c4_i32_209
  let c2_i32_210 : BitVec 32 := 2#32
  let v267 : BitVec 32 := Scalar.addi v266 c2_i32_210
  let v268 : BitVec 1 := Scalar.cmpi .ne v267 v2
  let v269 : BitVec 32 := Scalar.extui v268
  let c0_i32_211 : BitVec 32 := 0#32
  let v270 : BitVec 1 := Scalar.cmpi .ne v269 c0_i32_211
  v270

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off49 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_209 : BitVec 32 := 4#32
  let v266 : BitVec 32 := Scalar.muli v255 c4_i32_209
  let c2_i32_210 : BitVec 32 := 2#32
  let v267 : BitVec 32 := Scalar.addi v266 c2_i32_210
  let c128_i32_275 : BitVec 32 := 128#32
  let v368 : BitVec 32 := Scalar.muli v267 c128_i32_275
  let c0_i32_281 : BitVec 32 := 0#32
  ![v368.toNat, 0]
def k0_dev46 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_209 : BitVec 32 := 4#32
  let v266 : BitVec 32 := Scalar.muli v255 c4_i32_209
  let c2_i32_210 : BitVec 32 := 2#32
  let v267 : BitVec 32 := Scalar.addi v266 c2_i32_210
  let c1_i32_278 : BitVec 32 := 1#32
  let v370 : BitVec 32 := Scalar.muli v267 c1_i32_278
  let v371 : BitVec 32 := Scalar.addi c0_i32_279 v370
  v371.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_212 : BitVec 32 := 4#32
  let v271 : BitVec 32 := Scalar.muli v255 c4_i32_212
  let c3_i32_213 : BitVec 32 := 3#32
  let v272 : BitVec 32 := Scalar.addi v271 c3_i32_213
  let v273 : BitVec 1 := Scalar.cmpi .ne v272 v2
  let v274 : BitVec 32 := Scalar.extui v273
  let c0_i32_214 : BitVec 32 := 0#32
  let v275 : BitVec 1 := Scalar.cmpi .ne v274 c0_i32_214
  v275

def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_212 : BitVec 32 := 4#32
  let v271 : BitVec 32 := Scalar.muli v255 c4_i32_212
  let c3_i32_213 : BitVec 32 := 3#32
  let v272 : BitVec 32 := Scalar.addi v271 c3_i32_213
  let c128_i32_275 : BitVec 32 := 128#32
  let v368 : BitVec 32 := Scalar.muli v272 c128_i32_275
  let c0_i32_281 : BitVec 32 := 0#32
  ![v368.toNat, 0]
def k0_dev47 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_200 : BitVec 32 := 3#32
  let v253 : BitVec 32 := Scalar.subi v3 c3_i32_200
  let c8_i32_201 : BitVec 32 := 8#32
  let v254 : BitVec 32 := Scalar.addi v253 c8_i32_201
  let c8_i32_202 : BitVec 32 := 8#32
  let v255 : BitVec 32 := Scalar.remsi v254 c8_i32_202
  let c4_i32_212 : BitVec 32 := 4#32
  let v271 : BitVec 32 := Scalar.muli v255 c4_i32_212
  let c3_i32_213 : BitVec 32 := 3#32
  let v272 : BitVec 32 := Scalar.addi v271 c3_i32_213
  let c1_i32_278 : BitVec 32 := 1#32
  let v370 : BitVec 32 := Scalar.muli v272 c1_i32_278
  let v371 : BitVec 32 := Scalar.addi c0_i32_279 v370
  v371.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_218 : BitVec 32 := 4#32
  let v279 : BitVec 32 := Scalar.muli v278 c4_i32_218
  let c0_i32_219 : BitVec 32 := 0#32
  let v280 : BitVec 32 := Scalar.addi v279 c0_i32_219
  let v281 : BitVec 1 := Scalar.cmpi .ne v280 v2
  let v282 : BitVec 32 := Scalar.extui v281
  let c0_i32_220 : BitVec 32 := 0#32
  let v283 : BitVec 1 := Scalar.cmpi .ne v282 c0_i32_220
  v283

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off55 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_218 : BitVec 32 := 4#32
  let v279 : BitVec 32 := Scalar.muli v278 c4_i32_218
  let c0_i32_219 : BitVec 32 := 0#32
  let v280 : BitVec 32 := Scalar.addi v279 c0_i32_219
  let c128_i32_275 : BitVec 32 := 128#32
  let v368 : BitVec 32 := Scalar.muli v280 c128_i32_275
  let c0_i32_281 : BitVec 32 := 0#32
  ![v368.toNat, 0]
def k0_dev48 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_218 : BitVec 32 := 4#32
  let v279 : BitVec 32 := Scalar.muli v278 c4_i32_218
  let c0_i32_219 : BitVec 32 := 0#32
  let v280 : BitVec 32 := Scalar.addi v279 c0_i32_219
  let c1_i32_278 : BitVec 32 := 1#32
  let v370 : BitVec 32 := Scalar.muli v280 c1_i32_278
  let v371 : BitVec 32 := Scalar.addi c0_i32_279 v370
  v371.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_221 : BitVec 32 := 4#32
  let v284 : BitVec 32 := Scalar.muli v278 c4_i32_221
  let c1_i32_222 : BitVec 32 := 1#32
  let v285 : BitVec 32 := Scalar.addi v284 c1_i32_222
  let v286 : BitVec 1 := Scalar.cmpi .ne v285 v2
  let v287 : BitVec 32 := Scalar.extui v286
  let c0_i32_223 : BitVec 32 := 0#32
  let v288 : BitVec 1 := Scalar.cmpi .ne v287 c0_i32_223
  v288

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_221 : BitVec 32 := 4#32
  let v284 : BitVec 32 := Scalar.muli v278 c4_i32_221
  let c1_i32_222 : BitVec 32 := 1#32
  let v285 : BitVec 32 := Scalar.addi v284 c1_i32_222
  let c128_i32_275 : BitVec 32 := 128#32
  let v368 : BitVec 32 := Scalar.muli v285 c128_i32_275
  let c0_i32_281 : BitVec 32 := 0#32
  ![v368.toNat, 0]
def k0_dev49 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_221 : BitVec 32 := 4#32
  let v284 : BitVec 32 := Scalar.muli v278 c4_i32_221
  let c1_i32_222 : BitVec 32 := 1#32
  let v285 : BitVec 32 := Scalar.addi v284 c1_i32_222
  let c1_i32_278 : BitVec 32 := 1#32
  let v370 : BitVec 32 := Scalar.muli v285 c1_i32_278
  let v371 : BitVec 32 := Scalar.addi c0_i32_279 v370
  v371.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_224 : BitVec 32 := 4#32
  let v289 : BitVec 32 := Scalar.muli v278 c4_i32_224
  let c2_i32_225 : BitVec 32 := 2#32
  let v290 : BitVec 32 := Scalar.addi v289 c2_i32_225
  let v291 : BitVec 1 := Scalar.cmpi .ne v290 v2
  let v292 : BitVec 32 := Scalar.extui v291
  let c0_i32_226 : BitVec 32 := 0#32
  let v293 : BitVec 1 := Scalar.cmpi .ne v292 c0_i32_226
  v293

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_224 : BitVec 32 := 4#32
  let v289 : BitVec 32 := Scalar.muli v278 c4_i32_224
  let c2_i32_225 : BitVec 32 := 2#32
  let v290 : BitVec 32 := Scalar.addi v289 c2_i32_225
  let c128_i32_275 : BitVec 32 := 128#32
  let v368 : BitVec 32 := Scalar.muli v290 c128_i32_275
  let c0_i32_281 : BitVec 32 := 0#32
  ![v368.toNat, 0]
def k0_dev50 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_224 : BitVec 32 := 4#32
  let v289 : BitVec 32 := Scalar.muli v278 c4_i32_224
  let c2_i32_225 : BitVec 32 := 2#32
  let v290 : BitVec 32 := Scalar.addi v289 c2_i32_225
  let c1_i32_278 : BitVec 32 := 1#32
  let v370 : BitVec 32 := Scalar.muli v290 c1_i32_278
  let v371 : BitVec 32 := Scalar.addi c0_i32_279 v370
  v371.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_227 : BitVec 32 := 4#32
  let v294 : BitVec 32 := Scalar.muli v278 c4_i32_227
  let c3_i32_228 : BitVec 32 := 3#32
  let v295 : BitVec 32 := Scalar.addi v294 c3_i32_228
  let v296 : BitVec 1 := Scalar.cmpi .ne v295 v2
  let v297 : BitVec 32 := Scalar.extui v296
  let c0_i32_229 : BitVec 32 := 0#32
  let v298 : BitVec 1 := Scalar.cmpi .ne v297 c0_i32_229
  v298

def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_227 : BitVec 32 := 4#32
  let v294 : BitVec 32 := Scalar.muli v278 c4_i32_227
  let c3_i32_228 : BitVec 32 := 3#32
  let v295 : BitVec 32 := Scalar.addi v294 c3_i32_228
  let c128_i32_275 : BitVec 32 := 128#32
  let v368 : BitVec 32 := Scalar.muli v295 c128_i32_275
  let c0_i32_281 : BitVec 32 := 0#32
  ![v368.toNat, 0]
def k0_dev51 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_215 : BitVec 32 := 4#32
  let v276 : BitVec 32 := Scalar.subi v3 c4_i32_215
  let c8_i32_216 : BitVec 32 := 8#32
  let v277 : BitVec 32 := Scalar.addi v276 c8_i32_216
  let c8_i32_217 : BitVec 32 := 8#32
  let v278 : BitVec 32 := Scalar.remsi v277 c8_i32_217
  let c4_i32_227 : BitVec 32 := 4#32
  let v294 : BitVec 32 := Scalar.muli v278 c4_i32_227
  let c3_i32_228 : BitVec 32 := 3#32
  let v295 : BitVec 32 := Scalar.addi v294 c3_i32_228
  let c1_i32_278 : BitVec 32 := 1#32
  let v370 : BitVec 32 := Scalar.muli v295 c1_i32_278
  let v371 : BitVec 32 := Scalar.addi c0_i32_279 v370
  v371.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_233 : BitVec 32 := 4#32
  let v302 : BitVec 32 := Scalar.muli v301 c4_i32_233
  let c0_i32_234 : BitVec 32 := 0#32
  let v303 : BitVec 32 := Scalar.addi v302 c0_i32_234
  let v304 : BitVec 1 := Scalar.cmpi .ne v303 v2
  let v305 : BitVec 32 := Scalar.extui v304
  let c0_i32_235 : BitVec 32 := 0#32
  let v306 : BitVec 1 := Scalar.cmpi .ne v305 c0_i32_235
  v306

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_233 : BitVec 32 := 4#32
  let v302 : BitVec 32 := Scalar.muli v301 c4_i32_233
  let c0_i32_234 : BitVec 32 := 0#32
  let v303 : BitVec 32 := Scalar.addi v302 c0_i32_234
  let c128_i32_275 : BitVec 32 := 128#32
  let v368 : BitVec 32 := Scalar.muli v303 c128_i32_275
  let c0_i32_281 : BitVec 32 := 0#32
  ![v368.toNat, 0]
def k0_dev52 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_233 : BitVec 32 := 4#32
  let v302 : BitVec 32 := Scalar.muli v301 c4_i32_233
  let c0_i32_234 : BitVec 32 := 0#32
  let v303 : BitVec 32 := Scalar.addi v302 c0_i32_234
  let c1_i32_278 : BitVec 32 := 1#32
  let v370 : BitVec 32 := Scalar.muli v303 c1_i32_278
  let v371 : BitVec 32 := Scalar.addi c0_i32_279 v370
  v371.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_236 : BitVec 32 := 4#32
  let v307 : BitVec 32 := Scalar.muli v301 c4_i32_236
  let c1_i32_237 : BitVec 32 := 1#32
  let v308 : BitVec 32 := Scalar.addi v307 c1_i32_237
  let v309 : BitVec 1 := Scalar.cmpi .ne v308 v2
  let v310 : BitVec 32 := Scalar.extui v309
  let c0_i32_238 : BitVec 32 := 0#32
  let v311 : BitVec 1 := Scalar.cmpi .ne v310 c0_i32_238
  v311

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off69 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_236 : BitVec 32 := 4#32
  let v307 : BitVec 32 := Scalar.muli v301 c4_i32_236
  let c1_i32_237 : BitVec 32 := 1#32
  let v308 : BitVec 32 := Scalar.addi v307 c1_i32_237
  let c128_i32_275 : BitVec 32 := 128#32
  let v368 : BitVec 32 := Scalar.muli v308 c128_i32_275
  let c0_i32_281 : BitVec 32 := 0#32
  ![v368.toNat, 0]
def k0_dev53 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_236 : BitVec 32 := 4#32
  let v307 : BitVec 32 := Scalar.muli v301 c4_i32_236
  let c1_i32_237 : BitVec 32 := 1#32
  let v308 : BitVec 32 := Scalar.addi v307 c1_i32_237
  let c1_i32_278 : BitVec 32 := 1#32
  let v370 : BitVec 32 := Scalar.muli v308 c1_i32_278
  let v371 : BitVec 32 := Scalar.addi c0_i32_279 v370
  v371.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_239 : BitVec 32 := 4#32
  let v312 : BitVec 32 := Scalar.muli v301 c4_i32_239
  let c2_i32_240 : BitVec 32 := 2#32
  let v313 : BitVec 32 := Scalar.addi v312 c2_i32_240
  let v314 : BitVec 1 := Scalar.cmpi .ne v313 v2
  let v315 : BitVec 32 := Scalar.extui v314
  let c0_i32_241 : BitVec 32 := 0#32
  let v316 : BitVec 1 := Scalar.cmpi .ne v315 c0_i32_241
  v316

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_239 : BitVec 32 := 4#32
  let v312 : BitVec 32 := Scalar.muli v301 c4_i32_239
  let c2_i32_240 : BitVec 32 := 2#32
  let v313 : BitVec 32 := Scalar.addi v312 c2_i32_240
  let c128_i32_275 : BitVec 32 := 128#32
  let v368 : BitVec 32 := Scalar.muli v313 c128_i32_275
  let c0_i32_281 : BitVec 32 := 0#32
  ![v368.toNat, 0]
def k0_dev54 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_239 : BitVec 32 := 4#32
  let v312 : BitVec 32 := Scalar.muli v301 c4_i32_239
  let c2_i32_240 : BitVec 32 := 2#32
  let v313 : BitVec 32 := Scalar.addi v312 c2_i32_240
  let c1_i32_278 : BitVec 32 := 1#32
  let v370 : BitVec 32 := Scalar.muli v313 c1_i32_278
  let v371 : BitVec 32 := Scalar.addi c0_i32_279 v370
  v371.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_242 : BitVec 32 := 4#32
  let v317 : BitVec 32 := Scalar.muli v301 c4_i32_242
  let c3_i32_243 : BitVec 32 := 3#32
  let v318 : BitVec 32 := Scalar.addi v317 c3_i32_243
  let v319 : BitVec 1 := Scalar.cmpi .ne v318 v2
  let v320 : BitVec 32 := Scalar.extui v319
  let c0_i32_244 : BitVec 32 := 0#32
  let v321 : BitVec 1 := Scalar.cmpi .ne v320 c0_i32_244
  v321

def k0_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off75 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off76 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_242 : BitVec 32 := 4#32
  let v317 : BitVec 32 := Scalar.muli v301 c4_i32_242
  let c3_i32_243 : BitVec 32 := 3#32
  let v318 : BitVec 32 := Scalar.addi v317 c3_i32_243
  let c128_i32_275 : BitVec 32 := 128#32
  let v368 : BitVec 32 := Scalar.muli v318 c128_i32_275
  let c0_i32_281 : BitVec 32 := 0#32
  ![v368.toNat, 0]
def k0_dev55 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32_230 : BitVec 32 := 5#32
  let v299 : BitVec 32 := Scalar.subi v3 c5_i32_230
  let c8_i32_231 : BitVec 32 := 8#32
  let v300 : BitVec 32 := Scalar.addi v299 c8_i32_231
  let c8_i32_232 : BitVec 32 := 8#32
  let v301 : BitVec 32 := Scalar.remsi v300 c8_i32_232
  let c4_i32_242 : BitVec 32 := 4#32
  let v317 : BitVec 32 := Scalar.muli v301 c4_i32_242
  let c3_i32_243 : BitVec 32 := 3#32
  let v318 : BitVec 32 := Scalar.addi v317 c3_i32_243
  let c1_i32_278 : BitVec 32 := 1#32
  let v370 : BitVec 32 := Scalar.muli v318 c1_i32_278
  let v371 : BitVec 32 := Scalar.addi c0_i32_279 v370
  v371.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_248 : BitVec 32 := 4#32
  let v325 : BitVec 32 := Scalar.muli v324 c4_i32_248
  let c0_i32_249 : BitVec 32 := 0#32
  let v326 : BitVec 32 := Scalar.addi v325 c0_i32_249
  let v327 : BitVec 1 := Scalar.cmpi .ne v326 v2
  let v328 : BitVec 32 := Scalar.extui v327
  let c0_i32_250 : BitVec 32 := 0#32
  let v329 : BitVec 1 := Scalar.cmpi .ne v328 c0_i32_250
  v329

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_248 : BitVec 32 := 4#32
  let v325 : BitVec 32 := Scalar.muli v324 c4_i32_248
  let c0_i32_249 : BitVec 32 := 0#32
  let v326 : BitVec 32 := Scalar.addi v325 c0_i32_249
  let c128_i32_275 : BitVec 32 := 128#32
  let v368 : BitVec 32 := Scalar.muli v326 c128_i32_275
  let c0_i32_281 : BitVec 32 := 0#32
  ![v368.toNat, 0]
def k0_dev56 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_248 : BitVec 32 := 4#32
  let v325 : BitVec 32 := Scalar.muli v324 c4_i32_248
  let c0_i32_249 : BitVec 32 := 0#32
  let v326 : BitVec 32 := Scalar.addi v325 c0_i32_249
  let c1_i32_278 : BitVec 32 := 1#32
  let v370 : BitVec 32 := Scalar.muli v326 c1_i32_278
  let v371 : BitVec 32 := Scalar.addi c0_i32_279 v370
  v371.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_251 : BitVec 32 := 4#32
  let v330 : BitVec 32 := Scalar.muli v324 c4_i32_251
  let c1_i32_252 : BitVec 32 := 1#32
  let v331 : BitVec 32 := Scalar.addi v330 c1_i32_252
  let v332 : BitVec 1 := Scalar.cmpi .ne v331 v2
  let v333 : BitVec 32 := Scalar.extui v332
  let c0_i32_253 : BitVec 32 := 0#32
  let v334 : BitVec 1 := Scalar.cmpi .ne v333 c0_i32_253
  v334

def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off81 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_251 : BitVec 32 := 4#32
  let v330 : BitVec 32 := Scalar.muli v324 c4_i32_251
  let c1_i32_252 : BitVec 32 := 1#32
  let v331 : BitVec 32 := Scalar.addi v330 c1_i32_252
  let c128_i32_275 : BitVec 32 := 128#32
  let v368 : BitVec 32 := Scalar.muli v331 c128_i32_275
  let c0_i32_281 : BitVec 32 := 0#32
  ![v368.toNat, 0]
def k0_dev57 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_251 : BitVec 32 := 4#32
  let v330 : BitVec 32 := Scalar.muli v324 c4_i32_251
  let c1_i32_252 : BitVec 32 := 1#32
  let v331 : BitVec 32 := Scalar.addi v330 c1_i32_252
  let c1_i32_278 : BitVec 32 := 1#32
  let v370 : BitVec 32 := Scalar.muli v331 c1_i32_278
  let v371 : BitVec 32 := Scalar.addi c0_i32_279 v370
  v371.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_254 : BitVec 32 := 4#32
  let v335 : BitVec 32 := Scalar.muli v324 c4_i32_254
  let c2_i32_255 : BitVec 32 := 2#32
  let v336 : BitVec 32 := Scalar.addi v335 c2_i32_255
  let v337 : BitVec 1 := Scalar.cmpi .ne v336 v2
  let v338 : BitVec 32 := Scalar.extui v337
  let c0_i32_256 : BitVec 32 := 0#32
  let v339 : BitVec 1 := Scalar.cmpi .ne v338 c0_i32_256
  v339

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_254 : BitVec 32 := 4#32
  let v335 : BitVec 32 := Scalar.muli v324 c4_i32_254
  let c2_i32_255 : BitVec 32 := 2#32
  let v336 : BitVec 32 := Scalar.addi v335 c2_i32_255
  let c128_i32_275 : BitVec 32 := 128#32
  let v368 : BitVec 32 := Scalar.muli v336 c128_i32_275
  let c0_i32_281 : BitVec 32 := 0#32
  ![v368.toNat, 0]
def k0_dev58 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_254 : BitVec 32 := 4#32
  let v335 : BitVec 32 := Scalar.muli v324 c4_i32_254
  let c2_i32_255 : BitVec 32 := 2#32
  let v336 : BitVec 32 := Scalar.addi v335 c2_i32_255
  let c1_i32_278 : BitVec 32 := 1#32
  let v370 : BitVec 32 := Scalar.muli v336 c1_i32_278
  let v371 : BitVec 32 := Scalar.addi c0_i32_279 v370
  v371.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_257 : BitVec 32 := 4#32
  let v340 : BitVec 32 := Scalar.muli v324 c4_i32_257
  let c3_i32_258 : BitVec 32 := 3#32
  let v341 : BitVec 32 := Scalar.addi v340 c3_i32_258
  let v342 : BitVec 1 := Scalar.cmpi .ne v341 v2
  let v343 : BitVec 32 := Scalar.extui v342
  let c0_i32_259 : BitVec 32 := 0#32
  let v344 : BitVec 1 := Scalar.cmpi .ne v343 c0_i32_259
  v344

def k0_off86 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off87 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_257 : BitVec 32 := 4#32
  let v340 : BitVec 32 := Scalar.muli v324 c4_i32_257
  let c3_i32_258 : BitVec 32 := 3#32
  let v341 : BitVec 32 := Scalar.addi v340 c3_i32_258
  let c128_i32_275 : BitVec 32 := 128#32
  let v368 : BitVec 32 := Scalar.muli v341 c128_i32_275
  let c0_i32_281 : BitVec 32 := 0#32
  ![v368.toNat, 0]
def k0_dev59 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32_245 : BitVec 32 := 6#32
  let v322 : BitVec 32 := Scalar.subi v3 c6_i32_245
  let c8_i32_246 : BitVec 32 := 8#32
  let v323 : BitVec 32 := Scalar.addi v322 c8_i32_246
  let c8_i32_247 : BitVec 32 := 8#32
  let v324 : BitVec 32 := Scalar.remsi v323 c8_i32_247
  let c4_i32_257 : BitVec 32 := 4#32
  let v340 : BitVec 32 := Scalar.muli v324 c4_i32_257
  let c3_i32_258 : BitVec 32 := 3#32
  let v341 : BitVec 32 := Scalar.addi v340 c3_i32_258
  let c1_i32_278 : BitVec 32 := 1#32
  let v370 : BitVec 32 := Scalar.muli v341 c1_i32_278
  let v371 : BitVec 32 := Scalar.addi c0_i32_279 v370
  v371.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_263 : BitVec 32 := 4#32
  let v348 : BitVec 32 := Scalar.muli v347 c4_i32_263
  let c0_i32_264 : BitVec 32 := 0#32
  let v349 : BitVec 32 := Scalar.addi v348 c0_i32_264
  let v350 : BitVec 1 := Scalar.cmpi .ne v349 v2
  let v351 : BitVec 32 := Scalar.extui v350
  let c0_i32_265 : BitVec 32 := 0#32
  let v352 : BitVec 1 := Scalar.cmpi .ne v351 c0_i32_265
  v352

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_263 : BitVec 32 := 4#32
  let v348 : BitVec 32 := Scalar.muli v347 c4_i32_263
  let c0_i32_264 : BitVec 32 := 0#32
  let v349 : BitVec 32 := Scalar.addi v348 c0_i32_264
  let c128_i32_275 : BitVec 32 := 128#32
  let v368 : BitVec 32 := Scalar.muli v349 c128_i32_275
  let c0_i32_281 : BitVec 32 := 0#32
  ![v368.toNat, 0]
def k0_dev60 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_263 : BitVec 32 := 4#32
  let v348 : BitVec 32 := Scalar.muli v347 c4_i32_263
  let c0_i32_264 : BitVec 32 := 0#32
  let v349 : BitVec 32 := Scalar.addi v348 c0_i32_264
  let c1_i32_278 : BitVec 32 := 1#32
  let v370 : BitVec 32 := Scalar.muli v349 c1_i32_278
  let v371 : BitVec 32 := Scalar.addi c0_i32_279 v370
  v371.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_266 : BitVec 32 := 4#32
  let v353 : BitVec 32 := Scalar.muli v347 c4_i32_266
  let c1_i32_267 : BitVec 32 := 1#32
  let v354 : BitVec 32 := Scalar.addi v353 c1_i32_267
  let v355 : BitVec 1 := Scalar.cmpi .ne v354 v2
  let v356 : BitVec 32 := Scalar.extui v355
  let c0_i32_268 : BitVec 32 := 0#32
  let v357 : BitVec 1 := Scalar.cmpi .ne v356 c0_i32_268
  v357

def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off93 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_266 : BitVec 32 := 4#32
  let v353 : BitVec 32 := Scalar.muli v347 c4_i32_266
  let c1_i32_267 : BitVec 32 := 1#32
  let v354 : BitVec 32 := Scalar.addi v353 c1_i32_267
  let c128_i32_275 : BitVec 32 := 128#32
  let v368 : BitVec 32 := Scalar.muli v354 c128_i32_275
  let c0_i32_281 : BitVec 32 := 0#32
  ![v368.toNat, 0]
def k0_dev61 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_266 : BitVec 32 := 4#32
  let v353 : BitVec 32 := Scalar.muli v347 c4_i32_266
  let c1_i32_267 : BitVec 32 := 1#32
  let v354 : BitVec 32 := Scalar.addi v353 c1_i32_267
  let c1_i32_278 : BitVec 32 := 1#32
  let v370 : BitVec 32 := Scalar.muli v354 c1_i32_278
  let v371 : BitVec 32 := Scalar.addi c0_i32_279 v370
  v371.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_269 : BitVec 32 := 4#32
  let v358 : BitVec 32 := Scalar.muli v347 c4_i32_269
  let c2_i32_270 : BitVec 32 := 2#32
  let v359 : BitVec 32 := Scalar.addi v358 c2_i32_270
  let v360 : BitVec 1 := Scalar.cmpi .ne v359 v2
  let v361 : BitVec 32 := Scalar.extui v360
  let c0_i32_271 : BitVec 32 := 0#32
  let v362 : BitVec 1 := Scalar.cmpi .ne v361 c0_i32_271
  v362

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_269 : BitVec 32 := 4#32
  let v358 : BitVec 32 := Scalar.muli v347 c4_i32_269
  let c2_i32_270 : BitVec 32 := 2#32
  let v359 : BitVec 32 := Scalar.addi v358 c2_i32_270
  let c128_i32_275 : BitVec 32 := 128#32
  let v368 : BitVec 32 := Scalar.muli v359 c128_i32_275
  let c0_i32_281 : BitVec 32 := 0#32
  ![v368.toNat, 0]
def k0_dev62 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_269 : BitVec 32 := 4#32
  let v358 : BitVec 32 := Scalar.muli v347 c4_i32_269
  let c2_i32_270 : BitVec 32 := 2#32
  let v359 : BitVec 32 := Scalar.addi v358 c2_i32_270
  let c1_i32_278 : BitVec 32 := 1#32
  let v370 : BitVec 32 := Scalar.muli v359 c1_i32_278
  let v371 : BitVec 32 := Scalar.addi c0_i32_279 v370
  v371.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_272 : BitVec 32 := 4#32
  let v363 : BitVec 32 := Scalar.muli v347 c4_i32_272
  let c3_i32_273 : BitVec 32 := 3#32
  let v364 : BitVec 32 := Scalar.addi v363 c3_i32_273
  let v365 : BitVec 1 := Scalar.cmpi .ne v364 v2
  let v366 : BitVec 32 := Scalar.extui v365
  let c0_i32_274 : BitVec 32 := 0#32
  let v367 : BitVec 1 := Scalar.cmpi .ne v366 c0_i32_274
  v367

def k0_off98 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off99 (d0 : Dev nD) : Fin 2 → Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_276 : BitVec 32 := 128#32
  let v369 : BitVec 32 := Scalar.muli v2 c128_i32_276
  ![0, v369.toNat]
def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_272 : BitVec 32 := 4#32
  let v363 : BitVec 32 := Scalar.muli v347 c4_i32_272
  let c3_i32_273 : BitVec 32 := 3#32
  let v364 : BitVec 32 := Scalar.addi v363 c3_i32_273
  let c128_i32_275 : BitVec 32 := 128#32
  let v368 : BitVec 32 := Scalar.muli v364 c128_i32_275
  let c0_i32_281 : BitVec 32 := 0#32
  ![v368.toNat, 0]
def k0_dev63 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_260 : BitVec 32 := 7#32
  let v345 : BitVec 32 := Scalar.subi v3 c7_i32_260
  let c8_i32_261 : BitVec 32 := 8#32
  let v346 : BitVec 32 := Scalar.addi v345 c8_i32_261
  let c8_i32_262 : BitVec 32 := 8#32
  let v347 : BitVec 32 := Scalar.remsi v346 c8_i32_262
  let c4_i32_272 : BitVec 32 := 4#32
  let v363 : BitVec 32 := Scalar.muli v347 c4_i32_272
  let c3_i32_273 : BitVec 32 := 3#32
  let v364 : BitVec 32 := Scalar.addi v363 c3_i32_273
  let c1_i32_278 : BitVec 32 := 1#32
  let v370 : BitVec 32 := Scalar.muli v364 c1_i32_278
  let v371 : BitVec 32 := Scalar.addi c0_i32_279 v370
  v371.toNat
def k0_off101 (v5 : BitVec 32) : Fin 1 → Nat :=
  let c4_i32_1 : BitVec 32 := 4#32
  let v9 : BitVec 32 := Scalar.muli v5 c4_i32_1
  let c0_i32_2 : BitVec 32 := 0#32
  let v10 : BitVec 32 := Scalar.addi v9 c0_i32_2
  ![v10.toNat]
def k0_cond34 (d0 : Dev nD) (v5 : BitVec 32) : BitVec 1 :=
  let c4_i32_1 : BitVec 32 := 4#32
  let v9 : BitVec 32 := Scalar.muli v5 c4_i32_1
  let c0_i32_2 : BitVec 32 := 0#32
  let v10 : BitVec 32 := Scalar.addi v9 c0_i32_2
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v11 : BitVec 1 := Scalar.cmpi .ne v10 v2
  let v12 : BitVec 32 := Scalar.extui v11
  let c0_i32_3 : BitVec 32 := 0#32
  let v13 : BitVec 1 := Scalar.cmpi .ne v12 c0_i32_3
  v13

def k0_off102 (v5 : BitVec 32) : Fin 2 → Nat :=
  let c0_i32_21 : BitVec 32 := 0#32
  let c4_i32_1 : BitVec 32 := 4#32
  let v9 : BitVec 32 := Scalar.muli v5 c4_i32_1
  let c0_i32_2 : BitVec 32 := 0#32
  let v10 : BitVec 32 := Scalar.addi v9 c0_i32_2
  let c128_i32 : BitVec 32 := 128#32
  let v46 : BitVec 32 := Scalar.muli v10 c128_i32
  ![0, v46.toNat]
def k0_off103 (v5 : BitVec 32) : Fin 1 → Nat :=
  let c4_i32_4 : BitVec 32 := 4#32
  let v14 : BitVec 32 := Scalar.muli v5 c4_i32_4
  let c1_i32_5 : BitVec 32 := 1#32
  let v15 : BitVec 32 := Scalar.addi v14 c1_i32_5
  ![v15.toNat]
def k0_cond35 (d0 : Dev nD) (v5 : BitVec 32) : BitVec 1 :=
  let c4_i32_4 : BitVec 32 := 4#32
  let v14 : BitVec 32 := Scalar.muli v5 c4_i32_4
  let c1_i32_5 : BitVec 32 := 1#32
  let v15 : BitVec 32 := Scalar.addi v14 c1_i32_5
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v16 : BitVec 1 := Scalar.cmpi .ne v15 v2
  let v17 : BitVec 32 := Scalar.extui v16
  let c0_i32_6 : BitVec 32 := 0#32
  let v18 : BitVec 1 := Scalar.cmpi .ne v17 c0_i32_6
  v18

def k0_off104 (v5 : BitVec 32) : Fin 2 → Nat :=
  let c0_i32_21 : BitVec 32 := 0#32
  let c4_i32_4 : BitVec 32 := 4#32
  let v14 : BitVec 32 := Scalar.muli v5 c4_i32_4
  let c1_i32_5 : BitVec 32 := 1#32
  let v15 : BitVec 32 := Scalar.addi v14 c1_i32_5
  let c128_i32 : BitVec 32 := 128#32
  let v46 : BitVec 32 := Scalar.muli v15 c128_i32
  ![0, v46.toNat]
def k0_off105 (v5 : BitVec 32) : Fin 1 → Nat :=
  let c4_i32_7 : BitVec 32 := 4#32
  let v19 : BitVec 32 := Scalar.muli v5 c4_i32_7
  let c2_i32 : BitVec 32 := 2#32
  let v20 : BitVec 32 := Scalar.addi v19 c2_i32
  ![v20.toNat]
def k0_cond36 (d0 : Dev nD) (v5 : BitVec 32) : BitVec 1 :=
  let c4_i32_7 : BitVec 32 := 4#32
  let v19 : BitVec 32 := Scalar.muli v5 c4_i32_7
  let c2_i32 : BitVec 32 := 2#32
  let v20 : BitVec 32 := Scalar.addi v19 c2_i32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v21 : BitVec 1 := Scalar.cmpi .ne v20 v2
  let v22 : BitVec 32 := Scalar.extui v21
  let c0_i32_8 : BitVec 32 := 0#32
  let v23 : BitVec 1 := Scalar.cmpi .ne v22 c0_i32_8
  v23

def k0_off106 (v5 : BitVec 32) : Fin 2 → Nat :=
  let c0_i32_21 : BitVec 32 := 0#32
  let c4_i32_7 : BitVec 32 := 4#32
  let v19 : BitVec 32 := Scalar.muli v5 c4_i32_7
  let c2_i32 : BitVec 32 := 2#32
  let v20 : BitVec 32 := Scalar.addi v19 c2_i32
  let c128_i32 : BitVec 32 := 128#32
  let v46 : BitVec 32 := Scalar.muli v20 c128_i32
  ![0, v46.toNat]
def k0_off107 (v5 : BitVec 32) : Fin 1 → Nat :=
  let c4_i32_9 : BitVec 32 := 4#32
  let v24 : BitVec 32 := Scalar.muli v5 c4_i32_9
  let c3_i32 : BitVec 32 := 3#32
  let v25 : BitVec 32 := Scalar.addi v24 c3_i32
  ![v25.toNat]
def k0_cond37 (d0 : Dev nD) (v5 : BitVec 32) : BitVec 1 :=
  let c4_i32_9 : BitVec 32 := 4#32
  let v24 : BitVec 32 := Scalar.muli v5 c4_i32_9
  let c3_i32 : BitVec 32 := 3#32
  let v25 : BitVec 32 := Scalar.addi v24 c3_i32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v26 : BitVec 1 := Scalar.cmpi .ne v25 v2
  let v27 : BitVec 32 := Scalar.extui v26
  let c0_i32_10 : BitVec 32 := 0#32
  let v28 : BitVec 1 := Scalar.cmpi .ne v27 c0_i32_10
  v28

def k0_off108 (v5 : BitVec 32) : Fin 2 → Nat :=
  let c0_i32_21 : BitVec 32 := 0#32
  let c4_i32_9 : BitVec 32 := 4#32
  let v24 : BitVec 32 := Scalar.muli v5 c4_i32_9
  let c3_i32 : BitVec 32 := 3#32
  let v25 : BitVec 32 := Scalar.addi v24 c3_i32
  let c128_i32 : BitVec 32 := 128#32
  let v46 : BitVec 32 := Scalar.muli v25 c128_i32
  ![0, v46.toNat]
def k0_off109 (v5 : BitVec 32) : Fin 2 → Nat :=
  let c0 : Index := 0#32
  let c512_i32 : BitVec 32 := 512#32
  let v29 : BitVec 32 := Scalar.muli v5 c512_i32
  let v30 : Index := Scalar.indexCast v29
  ![0, v30.toNat]

def k0_chk1 (d0 : Dev nD) (v5 : BitVec 32) : Prop :=
  (∀ (k0_h34 : k0_cond34 d0 v5 = 1#1), ∀ a, (k0_off101 v5) a + S1.size a ≤ S32.size a) ∧
  (∀ (k0_h34 : k0_cond34 d0 v5 = 1#1), ∀ a, (k0_off102 v5) a + S128x128.size a ≤ S128x4096.size a) ∧
  (∀ (k0_h34 : k0_cond34 d0 v5 = 1#1), ∀ (hinb : ∀ a, (k0_off102 v5) a + S128x128.size a ≤ S128x4096.size a), (Rect.unit (s := S128x4096) (k0_off102 v5) S128x128.size hinb).WholeWords (EltTy.packing .fp8e4m3)) ∧
  (∀ (k0_h35 : k0_cond35 d0 v5 = 1#1), ∀ a, (k0_off103 v5) a + S1.size a ≤ S32.size a) ∧
  (∀ (k0_h35 : k0_cond35 d0 v5 = 1#1), ∀ a, (k0_off104 v5) a + S128x128.size a ≤ S128x4096.size a) ∧
  (∀ (k0_h35 : k0_cond35 d0 v5 = 1#1), ∀ (hinb : ∀ a, (k0_off104 v5) a + S128x128.size a ≤ S128x4096.size a), (Rect.unit (s := S128x4096) (k0_off104 v5) S128x128.size hinb).WholeWords (EltTy.packing .fp8e4m3)) ∧
  (∀ (k0_h36 : k0_cond36 d0 v5 = 1#1), ∀ a, (k0_off105 v5) a + S1.size a ≤ S32.size a) ∧
  (∀ (k0_h36 : k0_cond36 d0 v5 = 1#1), ∀ a, (k0_off106 v5) a + S128x128.size a ≤ S128x4096.size a) ∧
  (∀ (k0_h36 : k0_cond36 d0 v5 = 1#1), ∀ (hinb : ∀ a, (k0_off106 v5) a + S128x128.size a ≤ S128x4096.size a), (Rect.unit (s := S128x4096) (k0_off106 v5) S128x128.size hinb).WholeWords (EltTy.packing .fp8e4m3)) ∧
  (∀ (k0_h37 : k0_cond37 d0 v5 = 1#1), ∀ a, (k0_off107 v5) a + S1.size a ≤ S32.size a) ∧
  (∀ (k0_h37 : k0_cond37 d0 v5 = 1#1), ∀ a, (k0_off108 v5) a + S128x128.size a ≤ S128x4096.size a) ∧
  (∀ (k0_h37 : k0_cond37 d0 v5 = 1#1), ∀ (hinb : ∀ a, (k0_off108 v5) a + S128x128.size a ≤ S128x4096.size a), (Rect.unit (s := S128x4096) (k0_off108 v5) S128x128.size hinb).WholeWords (EltTy.packing .fp8e4m3)) ∧
  (∀ a, (k0_off109 v5) a + S128x512.size a ≤ S128x4096.size a)
theorem k0_off101_inb : ∀ (d0 : Dev nD) (v5 : BitVec 32) (k0_hw1 : k0_chk1 d0 v5), ∀ (k0_h34 : k0_cond34 d0 v5 = 1#1), ∀ a, (k0_off101 v5) a + S1.size a ≤ S32.size a := fun d0 v5 k0_hw1 k0_h34 => k0_hw1.1 k0_h34
theorem k0_off102_inb : ∀ (d0 : Dev nD) (v5 : BitVec 32) (k0_hw1 : k0_chk1 d0 v5), ∀ (k0_h34 : k0_cond34 d0 v5 = 1#1), ∀ a, (k0_off102 v5) a + S128x128.size a ≤ S128x4096.size a := fun d0 v5 k0_hw1 k0_h34 => k0_hw1.2.1 k0_h34
theorem k0_off102_wordsfp8e4m3 : ∀ (d0 : Dev nD) (v5 : BitVec 32) (k0_hw1 : k0_chk1 d0 v5), ∀ (k0_h34 : k0_cond34 d0 v5 = 1#1), (Rect.unit (s := S128x4096) (k0_off102 v5) S128x128.size (k0_off102_inb d0 v5 k0_hw1 k0_h34)).WholeWords (EltTy.packing .fp8e4m3) := fun d0 v5 k0_hw1 k0_h34 => k0_hw1.2.2.1 k0_h34 (k0_off102_inb d0 v5 k0_hw1 k0_h34)
theorem k0_off103_inb : ∀ (d0 : Dev nD) (v5 : BitVec 32) (k0_hw1 : k0_chk1 d0 v5), ∀ (k0_h35 : k0_cond35 d0 v5 = 1#1), ∀ a, (k0_off103 v5) a + S1.size a ≤ S32.size a := fun d0 v5 k0_hw1 k0_h35 => k0_hw1.2.2.2.1 k0_h35
theorem k0_off104_inb : ∀ (d0 : Dev nD) (v5 : BitVec 32) (k0_hw1 : k0_chk1 d0 v5), ∀ (k0_h35 : k0_cond35 d0 v5 = 1#1), ∀ a, (k0_off104 v5) a + S128x128.size a ≤ S128x4096.size a := fun d0 v5 k0_hw1 k0_h35 => k0_hw1.2.2.2.2.1 k0_h35
theorem k0_off104_wordsfp8e4m3 : ∀ (d0 : Dev nD) (v5 : BitVec 32) (k0_hw1 : k0_chk1 d0 v5), ∀ (k0_h35 : k0_cond35 d0 v5 = 1#1), (Rect.unit (s := S128x4096) (k0_off104 v5) S128x128.size (k0_off104_inb d0 v5 k0_hw1 k0_h35)).WholeWords (EltTy.packing .fp8e4m3) := fun d0 v5 k0_hw1 k0_h35 => k0_hw1.2.2.2.2.2.1 k0_h35 (k0_off104_inb d0 v5 k0_hw1 k0_h35)
theorem k0_off105_inb : ∀ (d0 : Dev nD) (v5 : BitVec 32) (k0_hw1 : k0_chk1 d0 v5), ∀ (k0_h36 : k0_cond36 d0 v5 = 1#1), ∀ a, (k0_off105 v5) a + S1.size a ≤ S32.size a := fun d0 v5 k0_hw1 k0_h36 => k0_hw1.2.2.2.2.2.2.1 k0_h36
theorem k0_off106_inb : ∀ (d0 : Dev nD) (v5 : BitVec 32) (k0_hw1 : k0_chk1 d0 v5), ∀ (k0_h36 : k0_cond36 d0 v5 = 1#1), ∀ a, (k0_off106 v5) a + S128x128.size a ≤ S128x4096.size a := fun d0 v5 k0_hw1 k0_h36 => k0_hw1.2.2.2.2.2.2.2.1 k0_h36
theorem k0_off106_wordsfp8e4m3 : ∀ (d0 : Dev nD) (v5 : BitVec 32) (k0_hw1 : k0_chk1 d0 v5), ∀ (k0_h36 : k0_cond36 d0 v5 = 1#1), (Rect.unit (s := S128x4096) (k0_off106 v5) S128x128.size (k0_off106_inb d0 v5 k0_hw1 k0_h36)).WholeWords (EltTy.packing .fp8e4m3) := fun d0 v5 k0_hw1 k0_h36 => k0_hw1.2.2.2.2.2.2.2.2.1 k0_h36 (k0_off106_inb d0 v5 k0_hw1 k0_h36)
theorem k0_off107_inb : ∀ (d0 : Dev nD) (v5 : BitVec 32) (k0_hw1 : k0_chk1 d0 v5), ∀ (k0_h37 : k0_cond37 d0 v5 = 1#1), ∀ a, (k0_off107 v5) a + S1.size a ≤ S32.size a := fun d0 v5 k0_hw1 k0_h37 => k0_hw1.2.2.2.2.2.2.2.2.2.1 k0_h37
theorem k0_off108_inb : ∀ (d0 : Dev nD) (v5 : BitVec 32) (k0_hw1 : k0_chk1 d0 v5), ∀ (k0_h37 : k0_cond37 d0 v5 = 1#1), ∀ a, (k0_off108 v5) a + S128x128.size a ≤ S128x4096.size a := fun d0 v5 k0_hw1 k0_h37 => k0_hw1.2.2.2.2.2.2.2.2.2.2.1 k0_h37
theorem k0_off108_wordsfp8e4m3 : ∀ (d0 : Dev nD) (v5 : BitVec 32) (k0_hw1 : k0_chk1 d0 v5), ∀ (k0_h37 : k0_cond37 d0 v5 = 1#1), (Rect.unit (s := S128x4096) (k0_off108 v5) S128x128.size (k0_off108_inb d0 v5 k0_hw1 k0_h37)).WholeWords (EltTy.packing .fp8e4m3) := fun d0 v5 k0_hw1 k0_h37 => k0_hw1.2.2.2.2.2.2.2.2.2.2.2.1 k0_h37 (k0_off108_inb d0 v5 k0_hw1 k0_h37)
theorem k0_off109_inb : ∀ (d0 : Dev nD) (v5 : BitVec 32) (k0_hw1 : k0_chk1 d0 v5), ∀ a, (k0_off109 v5) a + S128x512.size a ≤ S128x4096.size a := fun d0 v5 k0_hw1 => k0_hw1.2.2.2.2.2.2.2.2.2.2.2.2

def k0_cond40 (i : grid0.Coords) : BitVec 1 :=
  let arg0 : BitVec 32 := BitVec.ofNat 32 (i 0).val
  let c7_i32 : BitVec 32 := 7#32
  let v43 : BitVec 1 := Scalar.cmpi .eq arg0 c7_i32
  let v44 : BitVec 32 := Scalar.extui v43
  let c0_i32_17 : BitVec 32 := 0#32
  let v45 : BitVec 1 := Scalar.cmpi .ne v44 c0_i32_17
  v45

def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_24 : BitVec 32 := 0#32
  let v56 : BitVec 32 := Scalar.subi v3 c0_i32_24
  let c8_i32 : BitVec 32 := 8#32
  let v57 : BitVec 32 := Scalar.addi v56 c8_i32
  let c8_i32_25 : BitVec 32 := 8#32
  let v58 : BitVec 32 := Scalar.remsi v57 c8_i32_25
  let c4_i32_26 : BitVec 32 := 4#32
  let v59 : BitVec 32 := Scalar.muli v58 c4_i32_26
  let c0_i32_27 : BitVec 32 := 0#32
  let v60 : BitVec 32 := Scalar.addi v59 c0_i32_27
  let v61 : BitVec 1 := Scalar.cmpi .ne v60 v2
  let v62 : BitVec 32 := Scalar.extui v61
  let c0_i32_28 : BitVec 32 := 0#32
  let v63 : BitVec 1 := Scalar.cmpi .ne v62 c0_i32_28
  v63

def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_24 : BitVec 32 := 0#32
  let v56 : BitVec 32 := Scalar.subi v3 c0_i32_24
  let c8_i32 : BitVec 32 := 8#32
  let v57 : BitVec 32 := Scalar.addi v56 c8_i32
  let c8_i32_25 : BitVec 32 := 8#32
  let v58 : BitVec 32 := Scalar.remsi v57 c8_i32_25
  let c4_i32_26 : BitVec 32 := 4#32
  let v59 : BitVec 32 := Scalar.muli v58 c4_i32_26
  let c0_i32_27 : BitVec 32 := 0#32
  let v60 : BitVec 32 := Scalar.addi v59 c0_i32_27
  let c128_i32 : BitVec 32 := 128#32
  let v240 : BitVec 32 := Scalar.muli v60 c128_i32
  let c0_i32_144 : BitVec 32 := 0#32
  ![v240.toNat, 0]
def k0_off111 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_24 : BitVec 32 := 0#32
  let v56 : BitVec 32 := Scalar.subi v3 c0_i32_24
  let c8_i32 : BitVec 32 := 8#32
  let v57 : BitVec 32 := Scalar.addi v56 c8_i32
  let c8_i32_25 : BitVec 32 := 8#32
  let v58 : BitVec 32 := Scalar.remsi v57 c8_i32_25
  let c4_i32_29 : BitVec 32 := 4#32
  let v64 : BitVec 32 := Scalar.muli v58 c4_i32_29
  let c1_i32_30 : BitVec 32 := 1#32
  let v65 : BitVec 32 := Scalar.addi v64 c1_i32_30
  let v66 : BitVec 1 := Scalar.cmpi .ne v65 v2
  let v67 : BitVec 32 := Scalar.extui v66
  let c0_i32_31 : BitVec 32 := 0#32
  let v68 : BitVec 1 := Scalar.cmpi .ne v67 c0_i32_31
  v68

def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_24 : BitVec 32 := 0#32
  let v56 : BitVec 32 := Scalar.subi v3 c0_i32_24
  let c8_i32 : BitVec 32 := 8#32
  let v57 : BitVec 32 := Scalar.addi v56 c8_i32
  let c8_i32_25 : BitVec 32 := 8#32
  let v58 : BitVec 32 := Scalar.remsi v57 c8_i32_25
  let c4_i32_29 : BitVec 32 := 4#32
  let v64 : BitVec 32 := Scalar.muli v58 c4_i32_29
  let c1_i32_30 : BitVec 32 := 1#32
  let v65 : BitVec 32 := Scalar.addi v64 c1_i32_30
  let c128_i32 : BitVec 32 := 128#32
  let v240 : BitVec 32 := Scalar.muli v65 c128_i32
  let c0_i32_144 : BitVec 32 := 0#32
  ![v240.toNat, 0]
def k0_off113 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_24 : BitVec 32 := 0#32
  let v56 : BitVec 32 := Scalar.subi v3 c0_i32_24
  let c8_i32 : BitVec 32 := 8#32
  let v57 : BitVec 32 := Scalar.addi v56 c8_i32
  let c8_i32_25 : BitVec 32 := 8#32
  let v58 : BitVec 32 := Scalar.remsi v57 c8_i32_25
  let c4_i32_32 : BitVec 32 := 4#32
  let v69 : BitVec 32 := Scalar.muli v58 c4_i32_32
  let c2_i32_33 : BitVec 32 := 2#32
  let v70 : BitVec 32 := Scalar.addi v69 c2_i32_33
  let v71 : BitVec 1 := Scalar.cmpi .ne v70 v2
  let v72 : BitVec 32 := Scalar.extui v71
  let c0_i32_34 : BitVec 32 := 0#32
  let v73 : BitVec 1 := Scalar.cmpi .ne v72 c0_i32_34
  v73

def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_24 : BitVec 32 := 0#32
  let v56 : BitVec 32 := Scalar.subi v3 c0_i32_24
  let c8_i32 : BitVec 32 := 8#32
  let v57 : BitVec 32 := Scalar.addi v56 c8_i32
  let c8_i32_25 : BitVec 32 := 8#32
  let v58 : BitVec 32 := Scalar.remsi v57 c8_i32_25
  let c4_i32_32 : BitVec 32 := 4#32
  let v69 : BitVec 32 := Scalar.muli v58 c4_i32_32
  let c2_i32_33 : BitVec 32 := 2#32
  let v70 : BitVec 32 := Scalar.addi v69 c2_i32_33
  let c128_i32 : BitVec 32 := 128#32
  let v240 : BitVec 32 := Scalar.muli v70 c128_i32
  let c0_i32_144 : BitVec 32 := 0#32
  ![v240.toNat, 0]
def k0_off115 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_24 : BitVec 32 := 0#32
  let v56 : BitVec 32 := Scalar.subi v3 c0_i32_24
  let c8_i32 : BitVec 32 := 8#32
  let v57 : BitVec 32 := Scalar.addi v56 c8_i32
  let c8_i32_25 : BitVec 32 := 8#32
  let v58 : BitVec 32 := Scalar.remsi v57 c8_i32_25
  let c4_i32_35 : BitVec 32 := 4#32
  let v74 : BitVec 32 := Scalar.muli v58 c4_i32_35
  let c3_i32_36 : BitVec 32 := 3#32
  let v75 : BitVec 32 := Scalar.addi v74 c3_i32_36
  let v76 : BitVec 1 := Scalar.cmpi .ne v75 v2
  let v77 : BitVec 32 := Scalar.extui v76
  let c0_i32_37 : BitVec 32 := 0#32
  let v78 : BitVec 1 := Scalar.cmpi .ne v77 c0_i32_37
  v78

def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c0_i32_24 : BitVec 32 := 0#32
  let v56 : BitVec 32 := Scalar.subi v3 c0_i32_24
  let c8_i32 : BitVec 32 := 8#32
  let v57 : BitVec 32 := Scalar.addi v56 c8_i32
  let c8_i32_25 : BitVec 32 := 8#32
  let v58 : BitVec 32 := Scalar.remsi v57 c8_i32_25
  let c4_i32_35 : BitVec 32 := 4#32
  let v74 : BitVec 32 := Scalar.muli v58 c4_i32_35
  let c3_i32_36 : BitVec 32 := 3#32
  let v75 : BitVec 32 := Scalar.addi v74 c3_i32_36
  let c128_i32 : BitVec 32 := 128#32
  let v240 : BitVec 32 := Scalar.muli v75 c128_i32
  let c0_i32_144 : BitVec 32 := 0#32
  ![v240.toNat, 0]
def k0_off117 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_38 : BitVec 32 := 1#32
  let v79 : BitVec 32 := Scalar.subi v3 c1_i32_38
  let c8_i32_39 : BitVec 32 := 8#32
  let v80 : BitVec 32 := Scalar.addi v79 c8_i32_39
  let c8_i32_40 : BitVec 32 := 8#32
  let v81 : BitVec 32 := Scalar.remsi v80 c8_i32_40
  let c4_i32_41 : BitVec 32 := 4#32
  let v82 : BitVec 32 := Scalar.muli v81 c4_i32_41
  let c0_i32_42 : BitVec 32 := 0#32
  let v83 : BitVec 32 := Scalar.addi v82 c0_i32_42
  let v84 : BitVec 1 := Scalar.cmpi .ne v83 v2
  let v85 : BitVec 32 := Scalar.extui v84
  let c0_i32_43 : BitVec 32 := 0#32
  let v86 : BitVec 1 := Scalar.cmpi .ne v85 c0_i32_43
  v86

def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_38 : BitVec 32 := 1#32
  let v79 : BitVec 32 := Scalar.subi v3 c1_i32_38
  let c8_i32_39 : BitVec 32 := 8#32
  let v80 : BitVec 32 := Scalar.addi v79 c8_i32_39
  let c8_i32_40 : BitVec 32 := 8#32
  let v81 : BitVec 32 := Scalar.remsi v80 c8_i32_40
  let c4_i32_41 : BitVec 32 := 4#32
  let v82 : BitVec 32 := Scalar.muli v81 c4_i32_41
  let c0_i32_42 : BitVec 32 := 0#32
  let v83 : BitVec 32 := Scalar.addi v82 c0_i32_42
  let c128_i32 : BitVec 32 := 128#32
  let v240 : BitVec 32 := Scalar.muli v83 c128_i32
  let c0_i32_144 : BitVec 32 := 0#32
  ![v240.toNat, 0]
def k0_off119 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_38 : BitVec 32 := 1#32
  let v79 : BitVec 32 := Scalar.subi v3 c1_i32_38
  let c8_i32_39 : BitVec 32 := 8#32
  let v80 : BitVec 32 := Scalar.addi v79 c8_i32_39
  let c8_i32_40 : BitVec 32 := 8#32
  let v81 : BitVec 32 := Scalar.remsi v80 c8_i32_40
  let c4_i32_44 : BitVec 32 := 4#32
  let v87 : BitVec 32 := Scalar.muli v81 c4_i32_44
  let c1_i32_45 : BitVec 32 := 1#32
  let v88 : BitVec 32 := Scalar.addi v87 c1_i32_45
  let v89 : BitVec 1 := Scalar.cmpi .ne v88 v2
  let v90 : BitVec 32 := Scalar.extui v89
  let c0_i32_46 : BitVec 32 := 0#32
  let v91 : BitVec 1 := Scalar.cmpi .ne v90 c0_i32_46
  v91

def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_38 : BitVec 32 := 1#32
  let v79 : BitVec 32 := Scalar.subi v3 c1_i32_38
  let c8_i32_39 : BitVec 32 := 8#32
  let v80 : BitVec 32 := Scalar.addi v79 c8_i32_39
  let c8_i32_40 : BitVec 32 := 8#32
  let v81 : BitVec 32 := Scalar.remsi v80 c8_i32_40
  let c4_i32_44 : BitVec 32 := 4#32
  let v87 : BitVec 32 := Scalar.muli v81 c4_i32_44
  let c1_i32_45 : BitVec 32 := 1#32
  let v88 : BitVec 32 := Scalar.addi v87 c1_i32_45
  let c128_i32 : BitVec 32 := 128#32
  let v240 : BitVec 32 := Scalar.muli v88 c128_i32
  let c0_i32_144 : BitVec 32 := 0#32
  ![v240.toNat, 0]
def k0_off121 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_38 : BitVec 32 := 1#32
  let v79 : BitVec 32 := Scalar.subi v3 c1_i32_38
  let c8_i32_39 : BitVec 32 := 8#32
  let v80 : BitVec 32 := Scalar.addi v79 c8_i32_39
  let c8_i32_40 : BitVec 32 := 8#32
  let v81 : BitVec 32 := Scalar.remsi v80 c8_i32_40
  let c4_i32_47 : BitVec 32 := 4#32
  let v92 : BitVec 32 := Scalar.muli v81 c4_i32_47
  let c2_i32_48 : BitVec 32 := 2#32
  let v93 : BitVec 32 := Scalar.addi v92 c2_i32_48
  let v94 : BitVec 1 := Scalar.cmpi .ne v93 v2
  let v95 : BitVec 32 := Scalar.extui v94
  let c0_i32_49 : BitVec 32 := 0#32
  let v96 : BitVec 1 := Scalar.cmpi .ne v95 c0_i32_49
  v96

def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_38 : BitVec 32 := 1#32
  let v79 : BitVec 32 := Scalar.subi v3 c1_i32_38
  let c8_i32_39 : BitVec 32 := 8#32
  let v80 : BitVec 32 := Scalar.addi v79 c8_i32_39
  let c8_i32_40 : BitVec 32 := 8#32
  let v81 : BitVec 32 := Scalar.remsi v80 c8_i32_40
  let c4_i32_47 : BitVec 32 := 4#32
  let v92 : BitVec 32 := Scalar.muli v81 c4_i32_47
  let c2_i32_48 : BitVec 32 := 2#32
  let v93 : BitVec 32 := Scalar.addi v92 c2_i32_48
  let c128_i32 : BitVec 32 := 128#32
  let v240 : BitVec 32 := Scalar.muli v93 c128_i32
  let c0_i32_144 : BitVec 32 := 0#32
  ![v240.toNat, 0]
def k0_off123 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_38 : BitVec 32 := 1#32
  let v79 : BitVec 32 := Scalar.subi v3 c1_i32_38
  let c8_i32_39 : BitVec 32 := 8#32
  let v80 : BitVec 32 := Scalar.addi v79 c8_i32_39
  let c8_i32_40 : BitVec 32 := 8#32
  let v81 : BitVec 32 := Scalar.remsi v80 c8_i32_40
  let c4_i32_50 : BitVec 32 := 4#32
  let v97 : BitVec 32 := Scalar.muli v81 c4_i32_50
  let c3_i32_51 : BitVec 32 := 3#32
  let v98 : BitVec 32 := Scalar.addi v97 c3_i32_51
  let v99 : BitVec 1 := Scalar.cmpi .ne v98 v2
  let v100 : BitVec 32 := Scalar.extui v99
  let c0_i32_52 : BitVec 32 := 0#32
  let v101 : BitVec 1 := Scalar.cmpi .ne v100 c0_i32_52
  v101

def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c1_i32_38 : BitVec 32 := 1#32
  let v79 : BitVec 32 := Scalar.subi v3 c1_i32_38
  let c8_i32_39 : BitVec 32 := 8#32
  let v80 : BitVec 32 := Scalar.addi v79 c8_i32_39
  let c8_i32_40 : BitVec 32 := 8#32
  let v81 : BitVec 32 := Scalar.remsi v80 c8_i32_40
  let c4_i32_50 : BitVec 32 := 4#32
  let v97 : BitVec 32 := Scalar.muli v81 c4_i32_50
  let c3_i32_51 : BitVec 32 := 3#32
  let v98 : BitVec 32 := Scalar.addi v97 c3_i32_51
  let c128_i32 : BitVec 32 := 128#32
  let v240 : BitVec 32 := Scalar.muli v98 c128_i32
  let c0_i32_144 : BitVec 32 := 0#32
  ![v240.toNat, 0]
def k0_off125 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_53 : BitVec 32 := 2#32
  let v102 : BitVec 32 := Scalar.subi v3 c2_i32_53
  let c8_i32_54 : BitVec 32 := 8#32
  let v103 : BitVec 32 := Scalar.addi v102 c8_i32_54
  let c8_i32_55 : BitVec 32 := 8#32
  let v104 : BitVec 32 := Scalar.remsi v103 c8_i32_55
  let c4_i32_56 : BitVec 32 := 4#32
  let v105 : BitVec 32 := Scalar.muli v104 c4_i32_56
  let c0_i32_57 : BitVec 32 := 0#32
  let v106 : BitVec 32 := Scalar.addi v105 c0_i32_57
  let v107 : BitVec 1 := Scalar.cmpi .ne v106 v2
  let v108 : BitVec 32 := Scalar.extui v107
  let c0_i32_58 : BitVec 32 := 0#32
  let v109 : BitVec 1 := Scalar.cmpi .ne v108 c0_i32_58
  v109

def k0_off126 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_53 : BitVec 32 := 2#32
  let v102 : BitVec 32 := Scalar.subi v3 c2_i32_53
  let c8_i32_54 : BitVec 32 := 8#32
  let v103 : BitVec 32 := Scalar.addi v102 c8_i32_54
  let c8_i32_55 : BitVec 32 := 8#32
  let v104 : BitVec 32 := Scalar.remsi v103 c8_i32_55
  let c4_i32_56 : BitVec 32 := 4#32
  let v105 : BitVec 32 := Scalar.muli v104 c4_i32_56
  let c0_i32_57 : BitVec 32 := 0#32
  let v106 : BitVec 32 := Scalar.addi v105 c0_i32_57
  let c128_i32 : BitVec 32 := 128#32
  let v240 : BitVec 32 := Scalar.muli v106 c128_i32
  let c0_i32_144 : BitVec 32 := 0#32
  ![v240.toNat, 0]
def k0_off127 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_53 : BitVec 32 := 2#32
  let v102 : BitVec 32 := Scalar.subi v3 c2_i32_53
  let c8_i32_54 : BitVec 32 := 8#32
  let v103 : BitVec 32 := Scalar.addi v102 c8_i32_54
  let c8_i32_55 : BitVec 32 := 8#32
  let v104 : BitVec 32 := Scalar.remsi v103 c8_i32_55
  let c4_i32_59 : BitVec 32 := 4#32
  let v110 : BitVec 32 := Scalar.muli v104 c4_i32_59
  let c1_i32_60 : BitVec 32 := 1#32
  let v111 : BitVec 32 := Scalar.addi v110 c1_i32_60
  let v112 : BitVec 1 := Scalar.cmpi .ne v111 v2
  let v113 : BitVec 32 := Scalar.extui v112
  let c0_i32_61 : BitVec 32 := 0#32
  let v114 : BitVec 1 := Scalar.cmpi .ne v113 c0_i32_61
  v114

def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_53 : BitVec 32 := 2#32
  let v102 : BitVec 32 := Scalar.subi v3 c2_i32_53
  let c8_i32_54 : BitVec 32 := 8#32
  let v103 : BitVec 32 := Scalar.addi v102 c8_i32_54
  let c8_i32_55 : BitVec 32 := 8#32
  let v104 : BitVec 32 := Scalar.remsi v103 c8_i32_55
  let c4_i32_59 : BitVec 32 := 4#32
  let v110 : BitVec 32 := Scalar.muli v104 c4_i32_59
  let c1_i32_60 : BitVec 32 := 1#32
  let v111 : BitVec 32 := Scalar.addi v110 c1_i32_60
  let c128_i32 : BitVec 32 := 128#32
  let v240 : BitVec 32 := Scalar.muli v111 c128_i32
  let c0_i32_143 : BitVec 32 := 0#32
  ![v240.toNat, 0]
def k0_off129 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_53 : BitVec 32 := 2#32
  let v102 : BitVec 32 := Scalar.subi v3 c2_i32_53
  let c8_i32_54 : BitVec 32 := 8#32
  let v103 : BitVec 32 := Scalar.addi v102 c8_i32_54
  let c8_i32_55 : BitVec 32 := 8#32
  let v104 : BitVec 32 := Scalar.remsi v103 c8_i32_55
  let c4_i32_62 : BitVec 32 := 4#32
  let v115 : BitVec 32 := Scalar.muli v104 c4_i32_62
  let c2_i32_63 : BitVec 32 := 2#32
  let v116 : BitVec 32 := Scalar.addi v115 c2_i32_63
  let v117 : BitVec 1 := Scalar.cmpi .ne v116 v2
  let v118 : BitVec 32 := Scalar.extui v117
  let c0_i32_64 : BitVec 32 := 0#32
  let v119 : BitVec 1 := Scalar.cmpi .ne v118 c0_i32_64
  v119

def k0_off130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_53 : BitVec 32 := 2#32
  let v102 : BitVec 32 := Scalar.subi v3 c2_i32_53
  let c8_i32_54 : BitVec 32 := 8#32
  let v103 : BitVec 32 := Scalar.addi v102 c8_i32_54
  let c8_i32_55 : BitVec 32 := 8#32
  let v104 : BitVec 32 := Scalar.remsi v103 c8_i32_55
  let c4_i32_62 : BitVec 32 := 4#32
  let v115 : BitVec 32 := Scalar.muli v104 c4_i32_62
  let c2_i32_63 : BitVec 32 := 2#32
  let v116 : BitVec 32 := Scalar.addi v115 c2_i32_63
  let c128_i32 : BitVec 32 := 128#32
  let v240 : BitVec 32 := Scalar.muli v116 c128_i32
  let c0_i32_143 : BitVec 32 := 0#32
  ![v240.toNat, 0]
def k0_off131 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_53 : BitVec 32 := 2#32
  let v102 : BitVec 32 := Scalar.subi v3 c2_i32_53
  let c8_i32_54 : BitVec 32 := 8#32
  let v103 : BitVec 32 := Scalar.addi v102 c8_i32_54
  let c8_i32_55 : BitVec 32 := 8#32
  let v104 : BitVec 32 := Scalar.remsi v103 c8_i32_55
  let c4_i32_65 : BitVec 32 := 4#32
  let v120 : BitVec 32 := Scalar.muli v104 c4_i32_65
  let c3_i32_66 : BitVec 32 := 3#32
  let v121 : BitVec 32 := Scalar.addi v120 c3_i32_66
  let v122 : BitVec 1 := Scalar.cmpi .ne v121 v2
  let v123 : BitVec 32 := Scalar.extui v122
  let c0_i32_67 : BitVec 32 := 0#32
  let v124 : BitVec 1 := Scalar.cmpi .ne v123 c0_i32_67
  v124

def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c2_i32_53 : BitVec 32 := 2#32
  let v102 : BitVec 32 := Scalar.subi v3 c2_i32_53
  let c8_i32_54 : BitVec 32 := 8#32
  let v103 : BitVec 32 := Scalar.addi v102 c8_i32_54
  let c8_i32_55 : BitVec 32 := 8#32
  let v104 : BitVec 32 := Scalar.remsi v103 c8_i32_55
  let c4_i32_65 : BitVec 32 := 4#32
  let v120 : BitVec 32 := Scalar.muli v104 c4_i32_65
  let c3_i32_66 : BitVec 32 := 3#32
  let v121 : BitVec 32 := Scalar.addi v120 c3_i32_66
  let c128_i32 : BitVec 32 := 128#32
  let v240 : BitVec 32 := Scalar.muli v121 c128_i32
  let c0_i32_143 : BitVec 32 := 0#32
  ![v240.toNat, 0]
def k0_off133 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_68 : BitVec 32 := 3#32
  let v125 : BitVec 32 := Scalar.subi v3 c3_i32_68
  let c8_i32_69 : BitVec 32 := 8#32
  let v126 : BitVec 32 := Scalar.addi v125 c8_i32_69
  let c8_i32_70 : BitVec 32 := 8#32
  let v127 : BitVec 32 := Scalar.remsi v126 c8_i32_70
  let c4_i32_71 : BitVec 32 := 4#32
  let v128 : BitVec 32 := Scalar.muli v127 c4_i32_71
  let c0_i32_72 : BitVec 32 := 0#32
  let v129 : BitVec 32 := Scalar.addi v128 c0_i32_72
  let v130 : BitVec 1 := Scalar.cmpi .ne v129 v2
  let v131 : BitVec 32 := Scalar.extui v130
  let c0_i32_73 : BitVec 32 := 0#32
  let v132 : BitVec 1 := Scalar.cmpi .ne v131 c0_i32_73
  v132

def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_68 : BitVec 32 := 3#32
  let v125 : BitVec 32 := Scalar.subi v3 c3_i32_68
  let c8_i32_69 : BitVec 32 := 8#32
  let v126 : BitVec 32 := Scalar.addi v125 c8_i32_69
  let c8_i32_70 : BitVec 32 := 8#32
  let v127 : BitVec 32 := Scalar.remsi v126 c8_i32_70
  let c4_i32_71 : BitVec 32 := 4#32
  let v128 : BitVec 32 := Scalar.muli v127 c4_i32_71
  let c0_i32_72 : BitVec 32 := 0#32
  let v129 : BitVec 32 := Scalar.addi v128 c0_i32_72
  let c128_i32 : BitVec 32 := 128#32
  let v240 : BitVec 32 := Scalar.muli v129 c128_i32
  let c0_i32_143 : BitVec 32 := 0#32
  ![v240.toNat, 0]
def k0_off135 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_68 : BitVec 32 := 3#32
  let v125 : BitVec 32 := Scalar.subi v3 c3_i32_68
  let c8_i32_69 : BitVec 32 := 8#32
  let v126 : BitVec 32 := Scalar.addi v125 c8_i32_69
  let c8_i32_70 : BitVec 32 := 8#32
  let v127 : BitVec 32 := Scalar.remsi v126 c8_i32_70
  let c4_i32_74 : BitVec 32 := 4#32
  let v133 : BitVec 32 := Scalar.muli v127 c4_i32_74
  let c1_i32_75 : BitVec 32 := 1#32
  let v134 : BitVec 32 := Scalar.addi v133 c1_i32_75
  let v135 : BitVec 1 := Scalar.cmpi .ne v134 v2
  let v136 : BitVec 32 := Scalar.extui v135
  let c0_i32_76 : BitVec 32 := 0#32
  let v137 : BitVec 1 := Scalar.cmpi .ne v136 c0_i32_76
  v137

def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_68 : BitVec 32 := 3#32
  let v125 : BitVec 32 := Scalar.subi v3 c3_i32_68
  let c8_i32_69 : BitVec 32 := 8#32
  let v126 : BitVec 32 := Scalar.addi v125 c8_i32_69
  let c8_i32_70 : BitVec 32 := 8#32
  let v127 : BitVec 32 := Scalar.remsi v126 c8_i32_70
  let c4_i32_74 : BitVec 32 := 4#32
  let v133 : BitVec 32 := Scalar.muli v127 c4_i32_74
  let c1_i32_75 : BitVec 32 := 1#32
  let v134 : BitVec 32 := Scalar.addi v133 c1_i32_75
  let c128_i32 : BitVec 32 := 128#32
  let v240 : BitVec 32 := Scalar.muli v134 c128_i32
  let c0_i32_143 : BitVec 32 := 0#32
  ![v240.toNat, 0]
def k0_off137 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_68 : BitVec 32 := 3#32
  let v125 : BitVec 32 := Scalar.subi v3 c3_i32_68
  let c8_i32_69 : BitVec 32 := 8#32
  let v126 : BitVec 32 := Scalar.addi v125 c8_i32_69
  let c8_i32_70 : BitVec 32 := 8#32
  let v127 : BitVec 32 := Scalar.remsi v126 c8_i32_70
  let c4_i32_77 : BitVec 32 := 4#32
  let v138 : BitVec 32 := Scalar.muli v127 c4_i32_77
  let c2_i32_78 : BitVec 32 := 2#32
  let v139 : BitVec 32 := Scalar.addi v138 c2_i32_78
  let v140 : BitVec 1 := Scalar.cmpi .ne v139 v2
  let v141 : BitVec 32 := Scalar.extui v140
  let c0_i32_79 : BitVec 32 := 0#32
  let v142 : BitVec 1 := Scalar.cmpi .ne v141 c0_i32_79
  v142

def k0_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_68 : BitVec 32 := 3#32
  let v125 : BitVec 32 := Scalar.subi v3 c3_i32_68
  let c8_i32_69 : BitVec 32 := 8#32
  let v126 : BitVec 32 := Scalar.addi v125 c8_i32_69
  let c8_i32_70 : BitVec 32 := 8#32
  let v127 : BitVec 32 := Scalar.remsi v126 c8_i32_70
  let c4_i32_77 : BitVec 32 := 4#32
  let v138 : BitVec 32 := Scalar.muli v127 c4_i32_77
  let c2_i32_78 : BitVec 32 := 2#32
  let v139 : BitVec 32 := Scalar.addi v138 c2_i32_78
  let c128_i32 : BitVec 32 := 128#32
  let v240 : BitVec 32 := Scalar.muli v139 c128_i32
  let c0_i32_143 : BitVec 32 := 0#32
  ![v240.toNat, 0]
def k0_off139 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_68 : BitVec 32 := 3#32
  let v125 : BitVec 32 := Scalar.subi v3 c3_i32_68
  let c8_i32_69 : BitVec 32 := 8#32
  let v126 : BitVec 32 := Scalar.addi v125 c8_i32_69
  let c8_i32_70 : BitVec 32 := 8#32
  let v127 : BitVec 32 := Scalar.remsi v126 c8_i32_70
  let c4_i32_80 : BitVec 32 := 4#32
  let v143 : BitVec 32 := Scalar.muli v127 c4_i32_80
  let c3_i32_81 : BitVec 32 := 3#32
  let v144 : BitVec 32 := Scalar.addi v143 c3_i32_81
  let v145 : BitVec 1 := Scalar.cmpi .ne v144 v2
  let v146 : BitVec 32 := Scalar.extui v145
  let c0_i32_82 : BitVec 32 := 0#32
  let v147 : BitVec 1 := Scalar.cmpi .ne v146 c0_i32_82
  v147

def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c3_i32_68 : BitVec 32 := 3#32
  let v125 : BitVec 32 := Scalar.subi v3 c3_i32_68
  let c8_i32_69 : BitVec 32 := 8#32
  let v126 : BitVec 32 := Scalar.addi v125 c8_i32_69
  let c8_i32_70 : BitVec 32 := 8#32
  let v127 : BitVec 32 := Scalar.remsi v126 c8_i32_70
  let c4_i32_80 : BitVec 32 := 4#32
  let v143 : BitVec 32 := Scalar.muli v127 c4_i32_80
  let c3_i32_81 : BitVec 32 := 3#32
  let v144 : BitVec 32 := Scalar.addi v143 c3_i32_81
  let c128_i32 : BitVec 32 := 128#32
  let v240 : BitVec 32 := Scalar.muli v144 c128_i32
  let c0_i32_143 : BitVec 32 := 0#32
  ![v240.toNat, 0]
def k0_off141 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_83 : BitVec 32 := 4#32
  let v148 : BitVec 32 := Scalar.subi v3 c4_i32_83
  let c8_i32_84 : BitVec 32 := 8#32
  let v149 : BitVec 32 := Scalar.addi v148 c8_i32_84
  let c8_i32_85 : BitVec 32 := 8#32
  let v150 : BitVec 32 := Scalar.remsi v149 c8_i32_85
  let c4_i32_86 : BitVec 32 := 4#32
  let v151 : BitVec 32 := Scalar.muli v150 c4_i32_86
  let c0_i32_87 : BitVec 32 := 0#32
  let v152 : BitVec 32 := Scalar.addi v151 c0_i32_87
  let v153 : BitVec 1 := Scalar.cmpi .ne v152 v2
  let v154 : BitVec 32 := Scalar.extui v153
  let c0_i32_88 : BitVec 32 := 0#32
  let v155 : BitVec 1 := Scalar.cmpi .ne v154 c0_i32_88
  v155

def k0_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_83 : BitVec 32 := 4#32
  let v148 : BitVec 32 := Scalar.subi v3 c4_i32_83
  let c8_i32_84 : BitVec 32 := 8#32
  let v149 : BitVec 32 := Scalar.addi v148 c8_i32_84
  let c8_i32_85 : BitVec 32 := 8#32
  let v150 : BitVec 32 := Scalar.remsi v149 c8_i32_85
  let c4_i32_86 : BitVec 32 := 4#32
  let v151 : BitVec 32 := Scalar.muli v150 c4_i32_86
  let c0_i32_87 : BitVec 32 := 0#32
  let v152 : BitVec 32 := Scalar.addi v151 c0_i32_87
  let c128_i32 : BitVec 32 := 128#32
  let v240 : BitVec 32 := Scalar.muli v152 c128_i32
  let c0_i32_143 : BitVec 32 := 0#32
  ![v240.toNat, 0]
def k0_off143 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_83 : BitVec 32 := 4#32
  let v148 : BitVec 32 := Scalar.subi v3 c4_i32_83
  let c8_i32_84 : BitVec 32 := 8#32
  let v149 : BitVec 32 := Scalar.addi v148 c8_i32_84
  let c8_i32_85 : BitVec 32 := 8#32
  let v150 : BitVec 32 := Scalar.remsi v149 c8_i32_85
  let c4_i32_89 : BitVec 32 := 4#32
  let v156 : BitVec 32 := Scalar.muli v150 c4_i32_89
  let c1_i32_90 : BitVec 32 := 1#32
  let v157 : BitVec 32 := Scalar.addi v156 c1_i32_90
  let v158 : BitVec 1 := Scalar.cmpi .ne v157 v2
  let v159 : BitVec 32 := Scalar.extui v158
  let c0_i32_91 : BitVec 32 := 0#32
  let v160 : BitVec 1 := Scalar.cmpi .ne v159 c0_i32_91
  v160

def k0_off144 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_83 : BitVec 32 := 4#32
  let v148 : BitVec 32 := Scalar.subi v3 c4_i32_83
  let c8_i32_84 : BitVec 32 := 8#32
  let v149 : BitVec 32 := Scalar.addi v148 c8_i32_84
  let c8_i32_85 : BitVec 32 := 8#32
  let v150 : BitVec 32 := Scalar.remsi v149 c8_i32_85
  let c4_i32_89 : BitVec 32 := 4#32
  let v156 : BitVec 32 := Scalar.muli v150 c4_i32_89
  let c1_i32_90 : BitVec 32 := 1#32
  let v157 : BitVec 32 := Scalar.addi v156 c1_i32_90
  let c128_i32 : BitVec 32 := 128#32
  let v240 : BitVec 32 := Scalar.muli v157 c128_i32
  let c0_i32_143 : BitVec 32 := 0#32
  ![v240.toNat, 0]
def k0_off145 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_83 : BitVec 32 := 4#32
  let v148 : BitVec 32 := Scalar.subi v3 c4_i32_83
  let c8_i32_84 : BitVec 32 := 8#32
  let v149 : BitVec 32 := Scalar.addi v148 c8_i32_84
  let c8_i32_85 : BitVec 32 := 8#32
  let v150 : BitVec 32 := Scalar.remsi v149 c8_i32_85
  let c4_i32_92 : BitVec 32 := 4#32
  let v161 : BitVec 32 := Scalar.muli v150 c4_i32_92
  let c2_i32_93 : BitVec 32 := 2#32
  let v162 : BitVec 32 := Scalar.addi v161 c2_i32_93
  let v163 : BitVec 1 := Scalar.cmpi .ne v162 v2
  let v164 : BitVec 32 := Scalar.extui v163
  let c0_i32_94 : BitVec 32 := 0#32
  let v165 : BitVec 1 := Scalar.cmpi .ne v164 c0_i32_94
  v165

def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_83 : BitVec 32 := 4#32
  let v148 : BitVec 32 := Scalar.subi v3 c4_i32_83
  let c8_i32_84 : BitVec 32 := 8#32
  let v149 : BitVec 32 := Scalar.addi v148 c8_i32_84
  let c8_i32_85 : BitVec 32 := 8#32
  let v150 : BitVec 32 := Scalar.remsi v149 c8_i32_85
  let c4_i32_92 : BitVec 32 := 4#32
  let v161 : BitVec 32 := Scalar.muli v150 c4_i32_92
  let c2_i32_93 : BitVec 32 := 2#32
  let v162 : BitVec 32 := Scalar.addi v161 c2_i32_93
  let c128_i32 : BitVec 32 := 128#32
  let v240 : BitVec 32 := Scalar.muli v162 c128_i32
  let c0_i32_143 : BitVec 32 := 0#32
  ![v240.toNat, 0]
def k0_off147 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_83 : BitVec 32 := 4#32
  let v148 : BitVec 32 := Scalar.subi v3 c4_i32_83
  let c8_i32_84 : BitVec 32 := 8#32
  let v149 : BitVec 32 := Scalar.addi v148 c8_i32_84
  let c8_i32_85 : BitVec 32 := 8#32
  let v150 : BitVec 32 := Scalar.remsi v149 c8_i32_85
  let c4_i32_95 : BitVec 32 := 4#32
  let v166 : BitVec 32 := Scalar.muli v150 c4_i32_95
  let c3_i32_96 : BitVec 32 := 3#32
  let v167 : BitVec 32 := Scalar.addi v166 c3_i32_96
  let v168 : BitVec 1 := Scalar.cmpi .ne v167 v2
  let v169 : BitVec 32 := Scalar.extui v168
  let c0_i32_97 : BitVec 32 := 0#32
  let v170 : BitVec 1 := Scalar.cmpi .ne v169 c0_i32_97
  v170

def k0_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c4_i32_83 : BitVec 32 := 4#32
  let v148 : BitVec 32 := Scalar.subi v3 c4_i32_83
  let c8_i32_84 : BitVec 32 := 8#32
  let v149 : BitVec 32 := Scalar.addi v148 c8_i32_84
  let c8_i32_85 : BitVec 32 := 8#32
  let v150 : BitVec 32 := Scalar.remsi v149 c8_i32_85
  let c4_i32_95 : BitVec 32 := 4#32
  let v166 : BitVec 32 := Scalar.muli v150 c4_i32_95
  let c3_i32_96 : BitVec 32 := 3#32
  let v167 : BitVec 32 := Scalar.addi v166 c3_i32_96
  let c128_i32 : BitVec 32 := 128#32
  let v240 : BitVec 32 := Scalar.muli v167 c128_i32
  let c0_i32_143 : BitVec 32 := 0#32
  ![v240.toNat, 0]
def k0_off149 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32 : BitVec 32 := 5#32
  let v171 : BitVec 32 := Scalar.subi v3 c5_i32
  let c8_i32_98 : BitVec 32 := 8#32
  let v172 : BitVec 32 := Scalar.addi v171 c8_i32_98
  let c8_i32_99 : BitVec 32 := 8#32
  let v173 : BitVec 32 := Scalar.remsi v172 c8_i32_99
  let c4_i32_100 : BitVec 32 := 4#32
  let v174 : BitVec 32 := Scalar.muli v173 c4_i32_100
  let c0_i32_101 : BitVec 32 := 0#32
  let v175 : BitVec 32 := Scalar.addi v174 c0_i32_101
  let v176 : BitVec 1 := Scalar.cmpi .ne v175 v2
  let v177 : BitVec 32 := Scalar.extui v176
  let c0_i32_102 : BitVec 32 := 0#32
  let v178 : BitVec 1 := Scalar.cmpi .ne v177 c0_i32_102
  v178

def k0_off150 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32 : BitVec 32 := 5#32
  let v171 : BitVec 32 := Scalar.subi v3 c5_i32
  let c8_i32_98 : BitVec 32 := 8#32
  let v172 : BitVec 32 := Scalar.addi v171 c8_i32_98
  let c8_i32_99 : BitVec 32 := 8#32
  let v173 : BitVec 32 := Scalar.remsi v172 c8_i32_99
  let c4_i32_100 : BitVec 32 := 4#32
  let v174 : BitVec 32 := Scalar.muli v173 c4_i32_100
  let c0_i32_101 : BitVec 32 := 0#32
  let v175 : BitVec 32 := Scalar.addi v174 c0_i32_101
  let c128_i32 : BitVec 32 := 128#32
  let v240 : BitVec 32 := Scalar.muli v175 c128_i32
  let c0_i32_143 : BitVec 32 := 0#32
  ![v240.toNat, 0]
def k0_off151 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32 : BitVec 32 := 5#32
  let v171 : BitVec 32 := Scalar.subi v3 c5_i32
  let c8_i32_98 : BitVec 32 := 8#32
  let v172 : BitVec 32 := Scalar.addi v171 c8_i32_98
  let c8_i32_99 : BitVec 32 := 8#32
  let v173 : BitVec 32 := Scalar.remsi v172 c8_i32_99
  let c4_i32_103 : BitVec 32 := 4#32
  let v179 : BitVec 32 := Scalar.muli v173 c4_i32_103
  let c1_i32_104 : BitVec 32 := 1#32
  let v180 : BitVec 32 := Scalar.addi v179 c1_i32_104
  let v181 : BitVec 1 := Scalar.cmpi .ne v180 v2
  let v182 : BitVec 32 := Scalar.extui v181
  let c0_i32_105 : BitVec 32 := 0#32
  let v183 : BitVec 1 := Scalar.cmpi .ne v182 c0_i32_105
  v183

def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32 : BitVec 32 := 5#32
  let v171 : BitVec 32 := Scalar.subi v3 c5_i32
  let c8_i32_98 : BitVec 32 := 8#32
  let v172 : BitVec 32 := Scalar.addi v171 c8_i32_98
  let c8_i32_99 : BitVec 32 := 8#32
  let v173 : BitVec 32 := Scalar.remsi v172 c8_i32_99
  let c4_i32_103 : BitVec 32 := 4#32
  let v179 : BitVec 32 := Scalar.muli v173 c4_i32_103
  let c1_i32_104 : BitVec 32 := 1#32
  let v180 : BitVec 32 := Scalar.addi v179 c1_i32_104
  let c128_i32 : BitVec 32 := 128#32
  let v240 : BitVec 32 := Scalar.muli v180 c128_i32
  let c0_i32_143 : BitVec 32 := 0#32
  ![v240.toNat, 0]
def k0_off153 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32 : BitVec 32 := 5#32
  let v171 : BitVec 32 := Scalar.subi v3 c5_i32
  let c8_i32_98 : BitVec 32 := 8#32
  let v172 : BitVec 32 := Scalar.addi v171 c8_i32_98
  let c8_i32_99 : BitVec 32 := 8#32
  let v173 : BitVec 32 := Scalar.remsi v172 c8_i32_99
  let c4_i32_106 : BitVec 32 := 4#32
  let v184 : BitVec 32 := Scalar.muli v173 c4_i32_106
  let c2_i32_107 : BitVec 32 := 2#32
  let v185 : BitVec 32 := Scalar.addi v184 c2_i32_107
  let v186 : BitVec 1 := Scalar.cmpi .ne v185 v2
  let v187 : BitVec 32 := Scalar.extui v186
  let c0_i32_108 : BitVec 32 := 0#32
  let v188 : BitVec 1 := Scalar.cmpi .ne v187 c0_i32_108
  v188

def k0_off154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32 : BitVec 32 := 5#32
  let v171 : BitVec 32 := Scalar.subi v3 c5_i32
  let c8_i32_98 : BitVec 32 := 8#32
  let v172 : BitVec 32 := Scalar.addi v171 c8_i32_98
  let c8_i32_99 : BitVec 32 := 8#32
  let v173 : BitVec 32 := Scalar.remsi v172 c8_i32_99
  let c4_i32_106 : BitVec 32 := 4#32
  let v184 : BitVec 32 := Scalar.muli v173 c4_i32_106
  let c2_i32_107 : BitVec 32 := 2#32
  let v185 : BitVec 32 := Scalar.addi v184 c2_i32_107
  let c128_i32 : BitVec 32 := 128#32
  let v240 : BitVec 32 := Scalar.muli v185 c128_i32
  let c0_i32_143 : BitVec 32 := 0#32
  ![v240.toNat, 0]
def k0_off155 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32 : BitVec 32 := 5#32
  let v171 : BitVec 32 := Scalar.subi v3 c5_i32
  let c8_i32_98 : BitVec 32 := 8#32
  let v172 : BitVec 32 := Scalar.addi v171 c8_i32_98
  let c8_i32_99 : BitVec 32 := 8#32
  let v173 : BitVec 32 := Scalar.remsi v172 c8_i32_99
  let c4_i32_109 : BitVec 32 := 4#32
  let v189 : BitVec 32 := Scalar.muli v173 c4_i32_109
  let c3_i32_110 : BitVec 32 := 3#32
  let v190 : BitVec 32 := Scalar.addi v189 c3_i32_110
  let v191 : BitVec 1 := Scalar.cmpi .ne v190 v2
  let v192 : BitVec 32 := Scalar.extui v191
  let c0_i32_111 : BitVec 32 := 0#32
  let v193 : BitVec 1 := Scalar.cmpi .ne v192 c0_i32_111
  v193

def k0_off156 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c5_i32 : BitVec 32 := 5#32
  let v171 : BitVec 32 := Scalar.subi v3 c5_i32
  let c8_i32_98 : BitVec 32 := 8#32
  let v172 : BitVec 32 := Scalar.addi v171 c8_i32_98
  let c8_i32_99 : BitVec 32 := 8#32
  let v173 : BitVec 32 := Scalar.remsi v172 c8_i32_99
  let c4_i32_109 : BitVec 32 := 4#32
  let v189 : BitVec 32 := Scalar.muli v173 c4_i32_109
  let c3_i32_110 : BitVec 32 := 3#32
  let v190 : BitVec 32 := Scalar.addi v189 c3_i32_110
  let c128_i32 : BitVec 32 := 128#32
  let v240 : BitVec 32 := Scalar.muli v190 c128_i32
  let c0_i32_143 : BitVec 32 := 0#32
  ![v240.toNat, 0]
def k0_off157 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32 : BitVec 32 := 6#32
  let v194 : BitVec 32 := Scalar.subi v3 c6_i32
  let c8_i32_112 : BitVec 32 := 8#32
  let v195 : BitVec 32 := Scalar.addi v194 c8_i32_112
  let c8_i32_113 : BitVec 32 := 8#32
  let v196 : BitVec 32 := Scalar.remsi v195 c8_i32_113
  let c4_i32_114 : BitVec 32 := 4#32
  let v197 : BitVec 32 := Scalar.muli v196 c4_i32_114
  let c0_i32_115 : BitVec 32 := 0#32
  let v198 : BitVec 32 := Scalar.addi v197 c0_i32_115
  let v199 : BitVec 1 := Scalar.cmpi .ne v198 v2
  let v200 : BitVec 32 := Scalar.extui v199
  let c0_i32_116 : BitVec 32 := 0#32
  let v201 : BitVec 1 := Scalar.cmpi .ne v200 c0_i32_116
  v201

def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32 : BitVec 32 := 6#32
  let v194 : BitVec 32 := Scalar.subi v3 c6_i32
  let c8_i32_112 : BitVec 32 := 8#32
  let v195 : BitVec 32 := Scalar.addi v194 c8_i32_112
  let c8_i32_113 : BitVec 32 := 8#32
  let v196 : BitVec 32 := Scalar.remsi v195 c8_i32_113
  let c4_i32_114 : BitVec 32 := 4#32
  let v197 : BitVec 32 := Scalar.muli v196 c4_i32_114
  let c0_i32_115 : BitVec 32 := 0#32
  let v198 : BitVec 32 := Scalar.addi v197 c0_i32_115
  let c128_i32 : BitVec 32 := 128#32
  let v240 : BitVec 32 := Scalar.muli v198 c128_i32
  let c0_i32_143 : BitVec 32 := 0#32
  ![v240.toNat, 0]
def k0_off159 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32 : BitVec 32 := 6#32
  let v194 : BitVec 32 := Scalar.subi v3 c6_i32
  let c8_i32_112 : BitVec 32 := 8#32
  let v195 : BitVec 32 := Scalar.addi v194 c8_i32_112
  let c8_i32_113 : BitVec 32 := 8#32
  let v196 : BitVec 32 := Scalar.remsi v195 c8_i32_113
  let c4_i32_117 : BitVec 32 := 4#32
  let v202 : BitVec 32 := Scalar.muli v196 c4_i32_117
  let c1_i32_118 : BitVec 32 := 1#32
  let v203 : BitVec 32 := Scalar.addi v202 c1_i32_118
  let v204 : BitVec 1 := Scalar.cmpi .ne v203 v2
  let v205 : BitVec 32 := Scalar.extui v204
  let c0_i32_119 : BitVec 32 := 0#32
  let v206 : BitVec 1 := Scalar.cmpi .ne v205 c0_i32_119
  v206

def k0_off160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32 : BitVec 32 := 6#32
  let v194 : BitVec 32 := Scalar.subi v3 c6_i32
  let c8_i32_112 : BitVec 32 := 8#32
  let v195 : BitVec 32 := Scalar.addi v194 c8_i32_112
  let c8_i32_113 : BitVec 32 := 8#32
  let v196 : BitVec 32 := Scalar.remsi v195 c8_i32_113
  let c4_i32_117 : BitVec 32 := 4#32
  let v202 : BitVec 32 := Scalar.muli v196 c4_i32_117
  let c1_i32_118 : BitVec 32 := 1#32
  let v203 : BitVec 32 := Scalar.addi v202 c1_i32_118
  let c128_i32 : BitVec 32 := 128#32
  let v240 : BitVec 32 := Scalar.muli v203 c128_i32
  let c0_i32_143 : BitVec 32 := 0#32
  ![v240.toNat, 0]
def k0_off161 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32 : BitVec 32 := 6#32
  let v194 : BitVec 32 := Scalar.subi v3 c6_i32
  let c8_i32_112 : BitVec 32 := 8#32
  let v195 : BitVec 32 := Scalar.addi v194 c8_i32_112
  let c8_i32_113 : BitVec 32 := 8#32
  let v196 : BitVec 32 := Scalar.remsi v195 c8_i32_113
  let c4_i32_120 : BitVec 32 := 4#32
  let v207 : BitVec 32 := Scalar.muli v196 c4_i32_120
  let c2_i32_121 : BitVec 32 := 2#32
  let v208 : BitVec 32 := Scalar.addi v207 c2_i32_121
  let v209 : BitVec 1 := Scalar.cmpi .ne v208 v2
  let v210 : BitVec 32 := Scalar.extui v209
  let c0_i32_122 : BitVec 32 := 0#32
  let v211 : BitVec 1 := Scalar.cmpi .ne v210 c0_i32_122
  v211

def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32 : BitVec 32 := 6#32
  let v194 : BitVec 32 := Scalar.subi v3 c6_i32
  let c8_i32_112 : BitVec 32 := 8#32
  let v195 : BitVec 32 := Scalar.addi v194 c8_i32_112
  let c8_i32_113 : BitVec 32 := 8#32
  let v196 : BitVec 32 := Scalar.remsi v195 c8_i32_113
  let c4_i32_120 : BitVec 32 := 4#32
  let v207 : BitVec 32 := Scalar.muli v196 c4_i32_120
  let c2_i32_121 : BitVec 32 := 2#32
  let v208 : BitVec 32 := Scalar.addi v207 c2_i32_121
  let c128_i32 : BitVec 32 := 128#32
  let v240 : BitVec 32 := Scalar.muli v208 c128_i32
  let c0_i32_143 : BitVec 32 := 0#32
  ![v240.toNat, 0]
def k0_off163 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32 : BitVec 32 := 6#32
  let v194 : BitVec 32 := Scalar.subi v3 c6_i32
  let c8_i32_112 : BitVec 32 := 8#32
  let v195 : BitVec 32 := Scalar.addi v194 c8_i32_112
  let c8_i32_113 : BitVec 32 := 8#32
  let v196 : BitVec 32 := Scalar.remsi v195 c8_i32_113
  let c4_i32_123 : BitVec 32 := 4#32
  let v212 : BitVec 32 := Scalar.muli v196 c4_i32_123
  let c3_i32_124 : BitVec 32 := 3#32
  let v213 : BitVec 32 := Scalar.addi v212 c3_i32_124
  let v214 : BitVec 1 := Scalar.cmpi .ne v213 v2
  let v215 : BitVec 32 := Scalar.extui v214
  let c0_i32_125 : BitVec 32 := 0#32
  let v216 : BitVec 1 := Scalar.cmpi .ne v215 c0_i32_125
  v216

def k0_off164 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c6_i32 : BitVec 32 := 6#32
  let v194 : BitVec 32 := Scalar.subi v3 c6_i32
  let c8_i32_112 : BitVec 32 := 8#32
  let v195 : BitVec 32 := Scalar.addi v194 c8_i32_112
  let c8_i32_113 : BitVec 32 := 8#32
  let v196 : BitVec 32 := Scalar.remsi v195 c8_i32_113
  let c4_i32_123 : BitVec 32 := 4#32
  let v212 : BitVec 32 := Scalar.muli v196 c4_i32_123
  let c3_i32_124 : BitVec 32 := 3#32
  let v213 : BitVec 32 := Scalar.addi v212 c3_i32_124
  let c128_i32 : BitVec 32 := 128#32
  let v240 : BitVec 32 := Scalar.muli v213 c128_i32
  let c0_i32_143 : BitVec 32 := 0#32
  ![v240.toNat, 0]
def k0_off165 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_126 : BitVec 32 := 7#32
  let v217 : BitVec 32 := Scalar.subi v3 c7_i32_126
  let c8_i32_127 : BitVec 32 := 8#32
  let v218 : BitVec 32 := Scalar.addi v217 c8_i32_127
  let c8_i32_128 : BitVec 32 := 8#32
  let v219 : BitVec 32 := Scalar.remsi v218 c8_i32_128
  let c4_i32_129 : BitVec 32 := 4#32
  let v220 : BitVec 32 := Scalar.muli v219 c4_i32_129
  let c0_i32_130 : BitVec 32 := 0#32
  let v221 : BitVec 32 := Scalar.addi v220 c0_i32_130
  let v222 : BitVec 1 := Scalar.cmpi .ne v221 v2
  let v223 : BitVec 32 := Scalar.extui v222
  let c0_i32_131 : BitVec 32 := 0#32
  let v224 : BitVec 1 := Scalar.cmpi .ne v223 c0_i32_131
  v224

def k0_off166 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_126 : BitVec 32 := 7#32
  let v217 : BitVec 32 := Scalar.subi v3 c7_i32_126
  let c8_i32_127 : BitVec 32 := 8#32
  let v218 : BitVec 32 := Scalar.addi v217 c8_i32_127
  let c8_i32_128 : BitVec 32 := 8#32
  let v219 : BitVec 32 := Scalar.remsi v218 c8_i32_128
  let c4_i32_129 : BitVec 32 := 4#32
  let v220 : BitVec 32 := Scalar.muli v219 c4_i32_129
  let c0_i32_130 : BitVec 32 := 0#32
  let v221 : BitVec 32 := Scalar.addi v220 c0_i32_130
  let c128_i32 : BitVec 32 := 128#32
  let v240 : BitVec 32 := Scalar.muli v221 c128_i32
  let c0_i32_143 : BitVec 32 := 0#32
  ![v240.toNat, 0]
def k0_off167 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_126 : BitVec 32 := 7#32
  let v217 : BitVec 32 := Scalar.subi v3 c7_i32_126
  let c8_i32_127 : BitVec 32 := 8#32
  let v218 : BitVec 32 := Scalar.addi v217 c8_i32_127
  let c8_i32_128 : BitVec 32 := 8#32
  let v219 : BitVec 32 := Scalar.remsi v218 c8_i32_128
  let c4_i32_132 : BitVec 32 := 4#32
  let v225 : BitVec 32 := Scalar.muli v219 c4_i32_132
  let c1_i32_133 : BitVec 32 := 1#32
  let v226 : BitVec 32 := Scalar.addi v225 c1_i32_133
  let v227 : BitVec 1 := Scalar.cmpi .ne v226 v2
  let v228 : BitVec 32 := Scalar.extui v227
  let c0_i32_134 : BitVec 32 := 0#32
  let v229 : BitVec 1 := Scalar.cmpi .ne v228 c0_i32_134
  v229

def k0_off168 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_126 : BitVec 32 := 7#32
  let v217 : BitVec 32 := Scalar.subi v3 c7_i32_126
  let c8_i32_127 : BitVec 32 := 8#32
  let v218 : BitVec 32 := Scalar.addi v217 c8_i32_127
  let c8_i32_128 : BitVec 32 := 8#32
  let v219 : BitVec 32 := Scalar.remsi v218 c8_i32_128
  let c4_i32_132 : BitVec 32 := 4#32
  let v225 : BitVec 32 := Scalar.muli v219 c4_i32_132
  let c1_i32_133 : BitVec 32 := 1#32
  let v226 : BitVec 32 := Scalar.addi v225 c1_i32_133
  let c128_i32 : BitVec 32 := 128#32
  let v240 : BitVec 32 := Scalar.muli v226 c128_i32
  let c0_i32_143 : BitVec 32 := 0#32
  ![v240.toNat, 0]
def k0_off169 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_126 : BitVec 32 := 7#32
  let v217 : BitVec 32 := Scalar.subi v3 c7_i32_126
  let c8_i32_127 : BitVec 32 := 8#32
  let v218 : BitVec 32 := Scalar.addi v217 c8_i32_127
  let c8_i32_128 : BitVec 32 := 8#32
  let v219 : BitVec 32 := Scalar.remsi v218 c8_i32_128
  let c4_i32_135 : BitVec 32 := 4#32
  let v230 : BitVec 32 := Scalar.muli v219 c4_i32_135
  let c2_i32_136 : BitVec 32 := 2#32
  let v231 : BitVec 32 := Scalar.addi v230 c2_i32_136
  let v232 : BitVec 1 := Scalar.cmpi .ne v231 v2
  let v233 : BitVec 32 := Scalar.extui v232
  let c0_i32_137 : BitVec 32 := 0#32
  let v234 : BitVec 1 := Scalar.cmpi .ne v233 c0_i32_137
  v234

def k0_off170 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_126 : BitVec 32 := 7#32
  let v217 : BitVec 32 := Scalar.subi v3 c7_i32_126
  let c8_i32_127 : BitVec 32 := 8#32
  let v218 : BitVec 32 := Scalar.addi v217 c8_i32_127
  let c8_i32_128 : BitVec 32 := 8#32
  let v219 : BitVec 32 := Scalar.remsi v218 c8_i32_128
  let c4_i32_135 : BitVec 32 := 4#32
  let v230 : BitVec 32 := Scalar.muli v219 c4_i32_135
  let c2_i32_136 : BitVec 32 := 2#32
  let v231 : BitVec 32 := Scalar.addi v230 c2_i32_136
  let c128_i32 : BitVec 32 := 128#32
  let v240 : BitVec 32 := Scalar.muli v231 c128_i32
  let c0_i32_143 : BitVec 32 := 0#32
  ![v240.toNat, 0]
def k0_off171 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_126 : BitVec 32 := 7#32
  let v217 : BitVec 32 := Scalar.subi v3 c7_i32_126
  let c8_i32_127 : BitVec 32 := 8#32
  let v218 : BitVec 32 := Scalar.addi v217 c8_i32_127
  let c8_i32_128 : BitVec 32 := 8#32
  let v219 : BitVec 32 := Scalar.remsi v218 c8_i32_128
  let c4_i32_138 : BitVec 32 := 4#32
  let v235 : BitVec 32 := Scalar.muli v219 c4_i32_138
  let c3_i32_139 : BitVec 32 := 3#32
  let v236 : BitVec 32 := Scalar.addi v235 c3_i32_139
  let v237 : BitVec 1 := Scalar.cmpi .ne v236 v2
  let v238 : BitVec 32 := Scalar.extui v237
  let c0_i32_140 : BitVec 32 := 0#32
  let v239 : BitVec 1 := Scalar.cmpi .ne v238 c0_i32_140
  v239

def k0_off172 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.divsi v2 c4_i32
  let c7_i32_126 : BitVec 32 := 7#32
  let v217 : BitVec 32 := Scalar.subi v3 c7_i32_126
  let c8_i32_127 : BitVec 32 := 8#32
  let v218 : BitVec 32 := Scalar.addi v217 c8_i32_127
  let c8_i32_128 : BitVec 32 := 8#32
  let v219 : BitVec 32 := Scalar.remsi v218 c8_i32_128
  let c4_i32_138 : BitVec 32 := 4#32
  let v235 : BitVec 32 := Scalar.muli v219 c4_i32_138
  let c3_i32_139 : BitVec 32 := 3#32
  let v236 : BitVec 32 := Scalar.addi v235 c3_i32_139
  let c128_i32 : BitVec 32 := 128#32
  let v240 : BitVec 32 := Scalar.muli v236 c128_i32
  let c0_i32_143 : BitVec 32 := 0#32
  ![v240.toNat, 0]
def k0_off173 (d0 : Dev nD) : Fin 2 → Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v241 : BitVec 32 := Scalar.muli v2 c128_i32_141
  ![0, v241.toNat]
def k0_cond38 (i : grid0.Coords) : BitVec 1 :=
  let arg0 : BitVec 32 := BitVec.ofNat 32 (i 0).val
  let c0_i32_13 : BitVec 32 := 0#32
  let v37 : BitVec 1 := Scalar.cmpi .eq arg0 c0_i32_13
  let v38 : BitVec 32 := Scalar.extui v37
  let c0_i32_14 : BitVec 32 := 0#32
  let v39 : BitVec 1 := Scalar.cmpi .ne v38 c0_i32_14
  v39

def k0_cond39 (i : grid0.Coords) : BitVec 1 :=
  let arg0 : BitVec 32 := BitVec.ofNat 32 (i 0).val
  let c0_i32_15 : BitVec 32 := 0#32
  let v40 : BitVec 1 := Scalar.cmpi .sgt arg0 c0_i32_15
  let v41 : BitVec 32 := Scalar.extui v40
  let c0_i32_16 : BitVec 32 := 0#32
  let v42 : BitVec 1 := Scalar.cmpi .ne v41 c0_i32_16
  v42

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KI.Proto.lean ====
/-
  The protocol of the kernel's one round of exchange, stated: the cells of its three kinds (a barrier, thirty-two send
  and thirty-two receive semaphores on every device), the orders in which a device serves its peers, what each buffer
  holds, and the schedule — who pays which cell, how much, and what comes with it.
-/
module

public import proofs.«01_k».proof.Proof.Gen.KernelIdeal.Launch
public import Idealize.ShloMosaic.Lib.Rounds
public import Idealize.ShloMosaic.Lib.Ring
public import Idealize.ShloMosaic.Lib.Tactic
public import Idealize.ShloMosaic.Lib.ValueIdxCore

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx (ix2)

variable {F : FTy → Type} [FloatOps F]

/-! ## Resources -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## The orders in which a device serves its peers -/

/-- The step at which device `c` signals device `p`: their distance around the ring of all devices. -/
def off (c p : Dev nD) : ℕ := (p.val + 32 - c.val) % 32
/-- The device `c` signals at step `s`. -/
def nxt (c : Dev nD) (s : ℕ) : Dev nD := ⟨(c.val + s) % 32, Nat.mod_lt _ (by decide)⟩
/-- The step at which device `c` sends to device `p`: groups of four, the own group first, descending. -/
def slot (c p : Dev nD) : ℕ := ((c.val / 4 + 8 - p.val / 4) % 8) * 4 + p.val % 4
/-- The device `c` sends to at step `n`. -/
def dst (c : Dev nD) (n : ℕ) : Dev nD :=
  ⟨((c.val / 4 + 8 - n / 4 % 8) % 8) * 4 + n % 4, by show _ < 32; omega⟩
/-- The step at which device `c` waits for device `p`'s rows: groups of four, the own group first, ascending. -/
def rslot (c p : Dev nD) : ℕ := ((p.val / 4 + 8 - c.val / 4) % 8) * 4 + p.val % 4
/-- The device whose rows `c` waits for at step `n`. -/
def src (c : Dev nD) (n : ℕ) : Dev nD := ⟨((c.val / 4 + n / 4) % 8) * 4 + n % 4, by show _ < 32; omega⟩

theorem lt32 (c : Dev nD) : c.val < 32 := c.isLt
theorem off_lt (c p : Dev nD) : off c p < 32 := Nat.mod_lt _ (by decide)
theorem slot_lt (c p : Dev nD) : slot c p < 32 := by unfold slot; omega
theorem rslot_lt (c p : Dev nD) : rslot c p < 32 := by unfold rslot; omega

theorem off_nxt (c : Dev nD) {s : ℕ} (h : s < 32) : off c (nxt c s) = s := by
  have := lt32 c; simp only [off, nxt]; omega
theorem nxt_off (c p : Dev nD) : nxt c (off c p) = p := by
  have := lt32 c; have := lt32 p; apply Fin.ext; simp only [off, nxt]; omega
theorem slot_dst (c : Dev nD) {n : ℕ} (h : n < 32) : slot c (dst c n) = n := by
  have := lt32 c; simp only [slot, dst]; omega
theorem dst_slot (c p : Dev nD) : dst c (slot c p) = p := by
  have := lt32 c; have := lt32 p; apply Fin.ext; simp only [slot, dst]; omega
theorem rslot_src (c : Dev nD) {n : ℕ} (h : n < 32) : rslot c (src c n) = n := by
  have := lt32 c; simp only [rslot, src]; omega
theorem src_rslot (c p : Dev nD) : src c (rslot c p) = p := by
  have := lt32 c; have := lt32 p; apply Fin.ext; simp only [rslot, src]; omega
theorem off_inj (c : Dev nD) {p q : Dev nD} (h : off c p = off c q) : p = q := by
  rw [← nxt_off c p, ← nxt_off c q, h]
theorem slot_inj (c : Dev nD) {p q : Dev nD} (h : slot c p = slot c q) : p = q := by
  rw [← dst_slot c p, ← dst_slot c q, h]
theorem rslot_inj (c : Dev nD) {p q : Dev nD} (h : rslot c p = rslot c q) : p = q := by
  rw [← src_rslot c p, ← src_rslot c q, h]
theorem off_pos (c p : Dev nD) (h : p ≠ c) : 1 ≤ off c p := by
  have := lt32 c; have := lt32 p
  have : p.val ≠ c.val := fun e => h (Fin.ext e)
  unfold off; omega

/-! ## The cells -/

/-- The kernel's own semaphores: the thirty-two it sends on, then the thirty-two it receives on. -/
def osem (k : Fin 64) : SemLoc sig := .dma ⟨6 + k.val, by have := k.isLt; show _ < 70; omega⟩

theorem osem_inj {k k' : Fin 64} (h : osem k = osem k') : k = k' := by
  have := congrArg Fin.val (SemLoc.dma.inj h); simp only at this; apply Fin.ext; omega

def sendIx (c p : Dev nD) : Fin 64 := ⟨slot c p, by have := slot_lt c p; omega⟩
def recvIx (p : Dev nD) : Fin 64 := ⟨32 + p.val, by have := lt32 p; omega⟩

abbrev barCell (c : Dev nD) : GSem nD τ sig := ((c : Thread nD τ), .reg barrier0)
/-- The semaphore of `c` on which its copy to `p` reports its source free. -/
abbrev sendCell (c p : Dev nD) : GSem nD τ sig := ((c : Thread nD τ), osem (sendIx c p))
/-- The semaphore of `c` on which the copy from `p` reports its landing. -/
abbrev recvCell (c p : Dev nD) : GSem nD τ sig := ((c : Thread nD τ), osem (recvIx p))

/-! ## The buffers -/

/-- Rows `128 q … 128 q + 127` of the device's copy of its own columns of x. -/
abbrev rowM (q : Dev nD) : Memref sig .tc .vmem S128x128 .fp8e4m3 :=
  (Memref.whole cc0_scratch0).slice (Rect.unit (s := S4096x128) ![128 * q.val, 0] S128x128.size
    (fun a => by have := lt32 q; fin_cases a <;> simp [S128x128, S4096x128] <;> omega)) (fun _ => rfl)
/-- Columns `128 p … 128 p + 127` of the device's gathered rows of x. -/
abbrev colM (p : Dev nD) : Memref sig .tc .vmem S128x128 .fp8e4m3 :=
  (Memref.whole cc0_scratch1).slice (Rect.unit (s := S128x4096) ![0, 128 * p.val] S128x128.size
    (fun a => by have := lt32 p; fin_cases a <;> simp [S128x128, S128x4096] <;> omega)) (fun _ => rfl)

abbrev rowSet (q : Dev nD) : Finset (cc0_scratch0 : Ref sig .tc).ty.shape.Idx := (rowM q).view.set
abbrev colSet (p : Dev nD) : Finset (cc0_scratch1 : Ref sig .tc).ty.shape.Idx := (colM p).view.set

/-- The units one copy of a 128 × 128 block brings. -/
abbrev N : ℕ := (colM 0).view.dmaCredit
theorem N_pos : 0 < N := View.dmaCredit_pos _ (by decide)
theorem N_col (p : Dev nD) : (colM p).view.dmaCredit = N := rfl

/-- Every device's columns of x, as the launch finds them. -/
abbrev Cols : Type := Dev nD → (⟨S4096x128, .fp8e4m3⟩ : BufTy).Contents (Elt F)

variable (X : Cols (F := F))

/-- Device `c`'s rows of x, gathered from every device's columns. -/
def xtAll (c : Dev nD) : (⟨S128x4096, .fp8e4m3⟩ : BufTy).Contents (Elt F) := fun i =>
  X ⟨(i 1).val / 128, by have h : (i 1).val < 4096 := (i 1).isLt; show _ < 32; omega⟩
    (ix2 ⟨128 * c.val + (i 0).val, by have h : (i 0).val < 128 := (i 0).isLt; have := lt32 c; omega⟩
      ⟨(i 1).val % 128, by omega⟩)

theorem mem_rowSet (q : Dev nD) (i : (cc0_scratch0 : Ref sig .tc).ty.shape.Idx) :
    i ∈ rowSet q ↔ (i 0).val / 128 = q.val := by
  have h1 : (i 1).val < 128 := (i 1).isLt
  unfold rowSet
  rw [show (rowM q).view.set = _ from View.set_slice_whole _ _, Rect.mem_set_unit]
  refine (Fin.forall_fin_two (p := fun a : Fin 2 => _)).trans ?_
  show ((128 * q.val ≤ (i 0).val ∧ (i 0).val < 128 * q.val + 128) ∧ (0 ≤ (i 1).val ∧ (i 1).val < 0 + 128)) ↔ _
  omega

theorem mem_colSet (p : Dev nD) (i : (cc0_scratch1 : Ref sig .tc).ty.shape.Idx) :
    i ∈ colSet p ↔ (i 1).val / 128 = p.val := by
  have h1 : (i 0).val < 128 := (i 0).isLt
  unfold colSet
  rw [show (colM p).view.set = _ from View.set_slice_whole _ _, Rect.mem_set_unit]
  refine (Fin.forall_fin_two (p := fun a : Fin 2 => _)).trans ?_
  show ((0 ≤ (i 0).val ∧ (i 0).val < 0 + 128) ∧ (128 * p.val ≤ (i 1).val ∧ (i 1).val < 128 * p.val + 128)) ↔ _
  omega

theorem rowSet_disjoint (p q : Dev nD) (h : p ≠ q) : Disjoint (rowSet p) (rowSet q) :=
  Finset.disjoint_left.mpr fun i hp hq => h (Fin.ext (((mem_rowSet p i).mp hp).symm.trans ((mem_rowSet q i).mp hq)))
theorem colSet_disjoint (p q : Dev nD) (h : p ≠ q) : Disjoint (colSet p) (colSet q) :=
  Finset.disjoint_left.mpr fun i hp hq => h (Fin.ext (((mem_colSet p i).mp hp).symm.trans ((mem_colSet q i).mp hq)))
theorem rowSet_cover : Finset.univ.biUnion rowSet = Finset.univ := by
  ext i
  have h : (i 0).val < 4096 := (i 0).isLt
  simp only [Finset.mem_biUnion, Finset.mem_univ, _root_.true_and, iff_true]
  exact ⟨⟨(i 0).val / 128, by show _ < 32; omega⟩, (mem_rowSet _ i).mpr rfl⟩
theorem colSet_cover : Finset.univ.biUnion colSet = Finset.univ := by
  ext i
  have h : (i 1).val < 4096 := (i 1).isLt
  simp only [Finset.mem_biUnion, Finset.mem_univ, _root_.true_and, iff_true]
  exact ⟨⟨(i 1).val / 128, by show _ < 32; omega⟩, (mem_colSet _ i).mpr rfl⟩

/-- Device `c`'s row block `q`, at its own columns of x. -/
def rowPts (c q : Dev nD) : sProp 𝕄 :=
  (rowM q).view.loc (c : Thread nD τ) ↦[(rowM q).view.set]{fullShare} X c
/-- Device `c`'s column block `p`, at `f`. -/
def colPts (c p : Dev nD) (f : Buf (Elt F) ((colM p).view.loc (c : Thread nD τ))) : sProp 𝕄 :=
  (colM p).view.loc (c : Thread nD τ) ↦[(colM p).view.set]{fullShare} f
def colAny (c p : Dev nD) : sProp 𝕄 := iprop(∃ f, colPts c p f)

instance rowPts_storable (c q : Dev nD) : BI.Storable (upEmb : UEmb _ 𝕄) (rowPts X c q) := by unfold rowPts; infer_instance
instance colPts_storable (c p : Dev nD) (f) : BI.Storable (upEmb : UEmb _ 𝕄) (colPts (F := F) c p f) := by unfold colPts; infer_instance
instance colAny_storable (c p : Dev nD) : BI.Storable (upEmb : UEmb _ 𝕄) (colAny (F := F) c p) := by unfold colAny; infer_instance

/-- What device `p`'s copy into device `d`'s column block `p` leaves there is that block of `d`'s gathered rows. -/
theorem landed (d p : Dev nD) (fd : Buf (Elt F) ((colM p).view.loc (d : Thread nD τ))) :
    (colPts d p ((colM p).view.write (Elt F) fd ((rowM d).view.read (Elt F) (X p)) Finset.univ) : sProp 𝕄)
      = colPts d p (xtAll X d) := by
  refine pointsTo_congr fun i hi => ?_
  obtain ⟨j, -, rfl⟩ := Finset.mem_map.mp hi
  rw [View.write_emb_of_mem (h := Finset.mem_univ j), View.read_apply]
  have h0 : (j 0).val < 128 := (j 0).isLt
  have h1 : (j 1).val < 128 := (j 1).isLt
  have e0 : ((colM p).view.emb j 0).val = 0 + 1 * (j 0).val := rfl
  have e1 : ((colM p).view.emb j 1).val = 128 * p.val + 1 * (j 1).val := rfl
  have hp : ∀ h, (⟨((colM p).view.emb j 1).val / 128, h⟩ : Dev nD) = p := fun h => Fin.ext (by
    show ((colM p).view.emb j 1).val / 128 = p.val
    rw [e1]; omega)
  show X p _ = xtAll X d _
  unfold xtAll
  rw [hp]
  congr 1
  funext a
  apply Fin.ext
  fin_cases a
  · show 128 * d.val + 1 * (j 0).val = 128 * d.val + ((colM p).view.emb j 0).val
    rw [e0]; omega
  · show 0 + 1 * (j 1).val = ((colM p).view.emb j 1).val % 128
    rw [e1]; omega

/-! ## The schedule -/

/-- What device `p`'s signal brings device `d`: the right to write into `p`'s column block `d`, and that `p` has
    opened the cell on which it awaits that block. -/
def barPay (d p : Dev nD) : sProp 𝕄 := iprop(colAny p d ∗ reached ER (recvCell p d) 0)

/-- One round. A device's barrier is paid one unit by each of its peers; each of its receive semaphores the copy's
    units by the peer it is for; each of its send semaphores the copy's units by its own copy. -/
def Rd : Rounds.Schedule (GSem nD τ sig) (Dev nD) 𝕄 where
  duties g r := if r = 0 ∧ g.1.2 = .tc then
      match g.2 with
      | .reg _ => Finset.univ.erase g.1.1
      | .dma k => if 38 ≤ k.val then (if k.val - 38 ≠ g.1.1.val then {⟨(k.val - 38) % 32, Nat.mod_lt _ (by decide)⟩} else ∅)
        else if 6 ≤ k.val then (if dst g.1.1 (k.val - 6) ≠ g.1.1 then {g.1.1} else ∅) else ∅
    else ∅
  amount g _ _ := match g.2 with
    | .reg _ => 1
    | .dma _ => N
  payload g _ p := match g.2 with
    | .reg _ => barPay g.1.1 p
    | .dma k => if 38 ≤ k.val then colPts g.1.1 p (xtAll X g.1.1) else rowPts X g.1.1 (dst g.1.1 (k.val - 6))
  amount_pos g _ _ _ := by
    match g.2 with
    | .reg _ => exact Nat.one_pos
    | .dma _ => exact N_pos

instance Rd_payload_storable (g : GSem nD τ sig) (r : ℕ) (d : Dev nD) :
    BI.Storable (upEmb : UEmb _ 𝕄) ((Rd (F := F) X).payload g r d) := by
  obtain ⟨t, sm⟩ := g
  cases sm with
  | reg s => show BI.Storable upEmb (barPay t.1 d); unfold barPay; infer_instance
  | dma k =>
    show BI.Storable upEmb (if 38 ≤ k.val then colPts t.1 d (xtAll X t.1) else rowPts X t.1 (dst t.1 (k.val - 6)))
    split <;> infer_instance

theorem duties_bar (c : Dev nD) : (Rd (F := F) X).duties (barCell c) 0 = Finset.univ.erase c := by
  unfold Rd; dsimp only
  exact if_pos (And.intro rfl rfl)
theorem duties_dma (c : Dev nD) (k : DmaSem sig) : (Rd (F := F) X).duties ((c : Thread nD τ), .dma k) 0
    = if 38 ≤ k.val then (if k.val - 38 ≠ c.val then {⟨(k.val - 38) % 32, Nat.mod_lt _ (by decide)⟩} else ∅)
        else if 6 ≤ k.val then (if dst c (k.val - 6) ≠ c then {c} else ∅) else ∅ := by
  unfold Rd; dsimp only
  exact if_pos (And.intro rfl rfl)
theorem duties_send (c p : Dev nD) (h : p ≠ c) : (Rd (F := F) X).duties (sendCell c p) 0 = {c} := by
  have hs := slot_lt c p
  refine (duties_dma X c _).trans ?_
  show (if 38 ≤ 6 + slot c p then _ else if 6 ≤ 6 + slot c p then (if dst c (6 + slot c p - 6) ≠ c then _ else _) else _) = _
  rw [if_neg (by omega), if_pos (by omega), Nat.add_sub_cancel_left, dst_slot, if_pos h]
theorem duties_recv (c p : Dev nD) (h : p ≠ c) : (Rd (F := F) X).duties (recvCell c p) 0 = {p} := by
  have hp := lt32 p
  have hne : p.val ≠ c.val := fun e => h (Fin.ext e)
  refine (duties_dma X c _).trans ?_
  show (if 38 ≤ 6 + (32 + p.val) then (if 6 + (32 + p.val) - 38 ≠ c.val then {(⟨(6 + (32 + p.val) - 38) % 32, _⟩ : Dev nD)} else _) else _) = _
  rw [if_pos (by omega), if_pos (by omega)]
  exact congrArg singleton (Fin.ext (by show (6 + (32 + p.val) - 38) % 32 = p.val; omega))
theorem duties_send_self (c : Dev nD) : (Rd (F := F) X).duties (sendCell c c) 0 = ∅ := by
  have hs := slot_lt c c
  refine (duties_dma X c _).trans ?_
  show (if 38 ≤ 6 + slot c c then _ else if 6 ≤ 6 + slot c c then (if dst c (6 + slot c c - 6) ≠ c then _ else _) else _) = _
  rw [if_neg (by omega), if_pos (by omega), Nat.add_sub_cancel_left, dst_slot, if_neg (fun h => h rfl)]
theorem duties_recv_self (c : Dev nD) : (Rd (F := F) X).duties (recvCell c c) 0 = ∅ := by
  refine (duties_dma X c _).trans ?_
  show (if 38 ≤ 6 + (32 + c.val) then (if 6 + (32 + c.val) - 38 ≠ c.val then _ else _) else _) = _
  rw [if_pos (by omega), if_neg (by omega)]
theorem duties_later (g : GSem nD τ sig) : ∀ r, 1 ≤ r → (Rd (F := F) X).duties g r = ∅ :=
  fun r hr => if_neg fun h => by omega

theorem amount_bar (c d : Dev nD) : (Rd (F := F) X).amount (barCell c) 0 d = 1 := rfl
theorem amount_send (c p d : Dev nD) : (Rd (F := F) X).amount (sendCell c p) 0 d = N := rfl
theorem amount_recv (c p d : Dev nD) : (Rd (F := F) X).amount (recvCell c p) 0 d = N := rfl

theorem expect_bar (c : Dev nD) : (Rd (F := F) X).expect (barCell c) 0 = 31 := by
  unfold Schedule.expect Schedule.amountOf
  rw [duties_bar, Finset.sum_congr rfl (fun d _ => amount_bar X c d), Finset.sum_const, Finset.card_erase_of_mem (Finset.mem_univ c),
    Finset.card_univ, Fintype.card_fin]; rfl
theorem expect_send (c p : Dev nD) (h : p ≠ c) : (Rd (F := F) X).expect (sendCell c p) 0 = N := by
  unfold Schedule.expect Schedule.amountOf; rw [duties_send X c p h, Finset.sum_singleton, amount_send]
theorem expect_recv (c p : Dev nD) (h : p ≠ c) : (Rd (F := F) X).expect (recvCell c p) 0 = N := by
  unfold Schedule.expect Schedule.amountOf; rw [duties_recv X c p h, Finset.sum_singleton, amount_recv]

theorem payload_bar (c p : Dev nD) : (Rd (F := F) X).payload (barCell c) 0 p = barPay c p := rfl
theorem payload_send (c p d : Dev nD) : (Rd (F := F) X).payload (sendCell c p) 0 d = rowPts X c p := by
  have hs := slot_lt c p
  show (if 38 ≤ 6 + slot c p then _ else rowPts X c (dst c (6 + slot c p - 6))) = _
  rw [if_neg (by omega), Nat.add_sub_cancel_left, dst_slot]
theorem payload_recv (c p d : Dev nD) : (Rd (F := F) X).payload (recvCell c p) 0 d = colPts c d (xtAll X c) :=
  if_pos (by show 38 ≤ 6 + (32 + p.val); omega)

theorem rest_bar (c : Dev nD) : bigSep ((Rd (F := F) X).duties (barCell c) 0 \ ∅) (fun p => (Rd (F := F) X).payload (barCell c) 0 p)
    = bigSep (Finset.univ.erase c) (barPay c) := by
  rw [Finset.sdiff_empty, duties_bar]; rfl
theorem rest_send (c p : Dev nD) (h : p ≠ c) :
    bigSep ((Rd (F := F) X).duties (sendCell c p) 0 \ ∅) (fun d => (Rd (F := F) X).payload (sendCell c p) 0 d) = rowPts X c p := by
  rw [Finset.sdiff_empty, duties_send X c p h, bigSep_singleton, payload_send]
theorem rest_recv (c p : Dev nD) (h : p ≠ c) :
    bigSep ((Rd (F := F) X).duties (recvCell c p) 0 \ ∅) (fun d => (Rd (F := F) X).payload (recvCell c p) 0 d) = colPts c p (xtAll X c) := by
  rw [Finset.sdiff_empty, duties_recv X c p h, bigSep_singleton, payload_recv]

/-! ## What a device owes, and the order of waiting -/

def L (g : GSem nD τ sig) : Finset Unit := if g.1.2 = .tc then {()} else ∅
/-- Barriers below receive semaphores: a device awaits its peers' signals while it owes them their rows. -/
def lv (g : GSem nD τ sig) (_ : Unit) : ℕ := match g.2 with
  | .reg _ => 1
  | .dma k => if 38 ≤ k.val then 2 else 0

theorem L_tc (c : Dev nD) (sm : SemLoc sig) : L ((c : Thread nD τ), sm) = {()} := if_pos rfl
theorem L_of_ne (g : GSem nD τ sig) (h : g.1.2 ≠ .tc) : L g = ∅ := if_neg h

/-- The signals device `c` has yet to send from step `n` on. -/
def oSig (c : Dev nD) (n : ℕ) : CellTallies nD τ sig Unit :=
  ∑ p : Dev nD, if p ≠ c ∧ n ≤ off c p then tallyAt (barCell p) () 1 else 0
/-- The rows device `c` has yet to send from step `n` on. -/
def oSnd (c : Dev nD) (n : ℕ) : CellTallies nD τ sig Unit :=
  ∑ p : Dev nD, if p ≠ c ∧ n ≤ slot c p then tallyAt (recvCell p c) () N else 0

theorem sum_step {A : Type} [AddCommMonoid A] (f g : Dev nD → A) (q : Dev nD) (h : ∀ p, p ≠ q → f p = g p) (hg : g q = 0) :
    ∑ p, f p = (∑ p, g p) + f q := by
  rw [← Finset.sum_erase_add _ _ (Finset.mem_univ q), ← Finset.sum_erase_add (Finset.univ) g (Finset.mem_univ q), hg, add_zero,
    Finset.sum_congr rfl fun p hp => h p (Finset.ne_of_mem_erase hp)]

theorem oSig_step (c q : Dev nD) (n : ℕ) (hq : off c q = n) (hne : q ≠ c) : oSig c n = oSig c (n + 1) + tallyAt (barCell q) () 1 := by
  unfold oSig
  rw [sum_step (fun p => if p ≠ c ∧ n ≤ off c p then tallyAt (barCell p) () 1 else 0)
    (fun p => if p ≠ c ∧ n + 1 ≤ off c p then tallyAt (barCell p) () 1 else 0) q ?_ ?_, if_pos ⟨hne, hq.ge⟩]
  · intro p hp
    have : off c p ≠ n := fun e => hp (off_inj c (e.trans hq.symm))
    exact if_congr (and_congr_right fun _ => by omega) rfl rfl
  · exact if_neg fun h => by omega
theorem oSig_zero (c : Dev nD) : oSig c 32 = 0 :=
  Finset.sum_eq_zero fun p _ => if_neg fun h => by have := off_lt c p; omega
theorem oSnd_step (c q : Dev nD) (n : ℕ) (hq : slot c q = n) (hne : q ≠ c) : oSnd c n = oSnd c (n + 1) + tallyAt (recvCell q c) () N := by
  unfold oSnd
  rw [sum_step (fun p => if p ≠ c ∧ n ≤ slot c p then tallyAt (recvCell p c) () N else 0)
    (fun p => if p ≠ c ∧ n + 1 ≤ slot c p then tallyAt (recvCell p c) () N else 0) q ?_ ?_, if_pos ⟨hne, hq.ge⟩]
  · intro p hp
    have : slot c p ≠ n := fun e => hp (slot_inj c (e.trans hq.symm))
    exact if_congr (and_congr_right fun _ => by omega) rfl rfl
  · exact if_neg fun h => by omega
theorem oSnd_skip (c : Dev nD) (n : ℕ) (hq : slot c c = n) : oSnd c n = oSnd c (n + 1) := by
  unfold oSnd
  refine Finset.sum_congr rfl fun p _ => if_congr (and_congr_right fun hp => ?_) rfl rfl
  have : slot c p ≠ n := fun e => hp (slot_inj c (e.trans hq.symm))
  omega
theorem oSnd_zero (c : Dev nD) : oSnd c 32 = 0 :=
  Finset.sum_eq_zero fun p _ => if_neg fun h => by have := slot_lt c p; omega

theorem oSnd_pos {c : Dev nD} {n : ℕ} {g : GSem nD τ sig} {u : Unit} (h : 0 < oSnd c n g u) : ∃ p, g = recvCell p c := by
  unfold oSnd at h
  rw [Finset.sum_apply, Finsupp.finset_sum_apply] at h
  obtain ⟨p, -, hp⟩ := Finset.exists_ne_zero_of_sum_ne_zero h.ne'
  refine ⟨p, ?_⟩
  by_contra hg
  apply hp
  split
  · rw [tallyAt_apply, if_neg fun e => hg e.1]
  · rfl

/-- A device may await its peers' signals while it owes them their rows. -/
theorem mayWait_bar (c : Dev nD) (n : ℕ) :
    (levAts L lv : sProp 𝕄) ⊢ MayWait (c : Thread nD τ) (.reg barrier0) () (oSnd c n) :=
  MayOwe.of_cut (L := L) (lev := lv) 1 (fun p hp => by rw [Finset.mem_singleton.mp hp, L_tc]; exact Finset.mem_singleton_self _)
    (fun g u hg => by obtain ⟨p, rfl⟩ := oSnd_pos hg; rw [L_tc]; exact Finset.mem_singleton_self _)
    (fun p hp => by rw [Finset.mem_singleton.mp hp]; exact Nat.le_refl 1)
    (fun g u hg => by
      obtain ⟨p, rfl⟩ := oSnd_pos hg
      show 1 < (if 38 ≤ 6 + (32 + c.val) then 2 else 0)
      rw [if_pos (by omega)]; decide)

end Cert.KernelIdeal.Exchange
-- ==== Proof.KI.Steps.lean ====
/-
  One step of the exchange at a time: a signal, the wait for all peers, one row block sent, one column block awaited,
  one sent block's source recovered. Each says what the program's next operation does to the device's whole share of
  the exchange; what the step does not touch rides along in `R`.
-/
module

public import proofs.«01_k».proof.Proof.KI.Proto

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (X : Cols (F := F)) (K : GSem nD τ sig → ℕ) (c : Dev nD)

/-! ## The state of the exchange -/

theorem take_one {I : Type} [DecidableEq I] {s : Finset I} {i : I} (h : i ∈ s) {Φ : I → sProp 𝕄} :
    bigSep s Φ = iprop(Φ i ∗ bigSep (s.erase i) Φ) := bigSep_erase h
theorem take_any {I : Type} [DecidableEq I] {s : Finset I} {i : I} (h : i ∈ s) {Φ : I → sProp 𝕄} : (bigSep s Φ : sProp 𝕄) ⊢ Φ i :=
  bigSep_elim h

/-- What is known throughout: every cell follows the schedule, and which rounds are open. -/
def env : sProp 𝕄 := iprop(bigSep Finset.univ (fun p : Dev nD => cellInv ER (Rd X) (K (barCell p)) (barCell p))
  ∗ bigSep Finset.univ (fun x : Dev nD × Dev nD => cellInv ER (Rd X) (K (sendCell x.1 x.2)) (sendCell x.1 x.2))
  ∗ bigSep Finset.univ (fun x : Dev nD × Dev nD => cellInv ER (Rd X) (K (recvCell x.1 x.2)) (recvCell x.1 x.2))
  ∗ bigSep Finset.univ (fun p : Dev nD => reached ER (barCell p) 0)
  ∗ bigSep Finset.univ (fun p : Dev nD => reached ER (sendCell c p) 0)
  ∗ bigSep Finset.univ (fun p : Dev nD => reached ER (recvCell c p) 0)
  ∗ (levAts L lv : sProp 𝕄))

instance env_persistent : BI.Persistent (env X K c) := by unfold env; infer_instance

theorem env_bar (p : Dev nD) : env X K c ⊢ cellInv ER (Rd X) (K (barCell p)) (barCell p) := by
  unfold env; iintro ⟨H, -⟩; iapply (take_any (Φ := fun p : Dev nD => cellInv ER (Rd X) (K (barCell p)) (barCell p)) (Finset.mem_univ p)); iexact H
theorem env_send (d p : Dev nD) : env X K c ⊢ cellInv ER (Rd X) (K (sendCell d p)) (sendCell d p) := by
  unfold env; iintro ⟨-, H, -⟩
  iapply (take_any (Φ := fun x : Dev nD × Dev nD => cellInv ER (Rd X) (K (sendCell x.1 x.2)) (sendCell x.1 x.2)) (Finset.mem_univ (d, p))); iexact H
theorem env_recv (d p : Dev nD) : env X K c ⊢ cellInv ER (Rd X) (K (recvCell d p)) (recvCell d p) := by
  unfold env; iintro ⟨-, -, H, -⟩
  iapply (take_any (Φ := fun x : Dev nD × Dev nD => cellInv ER (Rd X) (K (recvCell x.1 x.2)) (recvCell x.1 x.2)) (Finset.mem_univ (d, p))); iexact H
theorem env_rbar (p : Dev nD) : env X K c ⊢ reached ER (barCell p) 0 := by
  unfold env; iintro ⟨-, -, -, H, -⟩; iapply (take_any (Φ := fun p : Dev nD => reached ER (barCell p) 0) (Finset.mem_univ p)); iexact H
theorem env_rsend (p : Dev nD) : env X K c ⊢ reached ER (sendCell c p) 0 := by
  unfold env; iintro ⟨-, -, -, -, H, -⟩; iapply (take_any (Φ := fun p : Dev nD => reached ER (sendCell c p) 0) (Finset.mem_univ p)); iexact H
theorem env_rrecv (p : Dev nD) : env X K c ⊢ reached ER (recvCell c p) 0 := by
  unfold env; iintro ⟨-, -, -, -, -, H, -⟩; iapply (take_any (Φ := fun p : Dev nD => reached ER (recvCell c p) 0) (Finset.mem_univ p)); iexact H
theorem env_may (n : ℕ) : env X K c ⊢ MayWait (c : Thread nD τ) (.reg barrier0) () (oSnd c n) := by
  unfold env; iintro ⟨-, -, -, -, -, -, H⟩; iapply (mayWait_bar (F := F) c n); iexact H

/-- Device `c` owes `O`, whatever it has awaited. -/
def own (O : CellTallies nD τ sig Unit) : sProp 𝕄 := iprop(∃ W, owes (c : Thread nD τ) O W)

/-- Nothing more comes to cell `g`. -/
def don (g : GSem nD τ sig) : sProp 𝕄 := iprop(∃ r, ⌜∀ r' ≥ r, (Rd (F := F) X).duties g r' = ∅⌝ ∗ atPos ER g r ∅ 0)

theorem don_intro (g : GSem nD τ sig) : atPos ER g 1 ∅ 0 ⊢ don X g := by
  unfold don
  iintro H; iexists 1; isplitr; · ipureintro; exact duties_later X g
  iexact H
theorem don_self (g : GSem nD τ sig) (h : (Rd (F := F) X).duties g 0 = ∅) : atPos ER g 0 ∅ 0 ⊢ don X g := by
  unfold don
  iintro H; iexists 0; isplitr
  · ipureintro
    intro r' _
    rcases Nat.eq_zero_or_pos r' with rfl | hr
    · exact h
    · exact duties_later X g r' hr
  iexact H

/-- A family of which one member changes. -/
theorem fam_step (Φ Ψ : Dev nD → sProp 𝕄) (q : Dev nD) (h : ∀ p, p ≠ q → Φ p = Ψ p) :
    bigSep Finset.univ Φ ⊢ iprop(Φ q ∗ (Ψ q -∗ bigSep Finset.univ Ψ)) := by
  rw [take_one (Finset.mem_univ q), take_one (Finset.mem_univ q) (Φ := Ψ),
    bigSep_congr fun p hp => h p (Finset.ne_of_mem_erase hp)]
  iintro ⟨H, Hr⟩
  isplitl [H]; · iexact H
  iintro H; isplitl [H] <;> iassumption

/-- Before the signal of step `n`: the rights still to be given out. -/
def sgn (n : ℕ) (p : Dev nD) : sProp 𝕄 :=
  if p ≠ c ∧ n ≤ off c p then iprop(dutyTok ER (barCell p) 0 c ∗ colAny c p) else iprop(emp)

/-- Before the peers have signalled: what device `c` sends to device `p`. -/
def pre (p : Dev nD) : sProp 𝕄 :=
  if p ≠ c then iprop(dutyTok ER (recvCell p c) 0 c ∗ dutyTok ER (sendCell c p) 0 c ∗ rowPts X c p ∗ atPos ER (sendCell c p) 0 ∅ 0)
  else iprop(don X (sendCell c c) ∗ rowPts X c c)

/-- Before the send of step `n`. -/
def snd (n : ℕ) (p : Dev nD) : sProp 𝕄 :=
  if p ≠ c then
    if n ≤ slot c p then iprop((dutyTok ER (recvCell p c) 0 c ∗ dutyTok ER (sendCell c p) 0 c ∗ rowPts X c p ∗ atPos ER (sendCell c p) 0 ∅ 0)
      ∗ colAny p c ∗ reached ER (recvCell p c) 0)
    else iprop(cred (tallyAt (sendCell c p) () N) ∗ atPos ER (sendCell c p) 0 ∅ 0)
  else iprop(don X (sendCell c c) ∗ rowPts X c c)

/-- Before the source of step `n`'s send is recovered. -/
def drn (n : ℕ) (p : Dev nD) : sProp 𝕄 :=
  if p ≠ c ∧ n ≤ slot c p then iprop(cred (tallyAt (sendCell c p) () N) ∗ atPos ER (sendCell c p) 0 ∅ 0)
  else iprop(don X (sendCell c p) ∗ rowPts X c p)

/-- Before the wait of step `n`. -/
def rcv (n : ℕ) (p : Dev nD) : sProp 𝕄 :=
  if p ≠ c ∧ n ≤ rslot c p then iprop(cred (tallyAt (recvCell c p) () N) ∗ atPos ER (recvCell c p) 0 ∅ 0)
  else iprop(don X (recvCell c p) ∗ colPts c p (xtAll X c))

/-- While signalling. -/
def sgnSt (n : ℕ) : sProp 𝕄 := iprop(env X K c ∗ own c (oSig c n + oSnd c 0) ∗ bigSep Finset.univ (sgn c n))
/-- While sending. -/
def sndSt (n : ℕ) : sProp 𝕄 := iprop(env X K c ∗ own c (oSnd c n) ∗ bigSep Finset.univ (snd X c n))
/-- While recovering what was sent. -/
def drnSt (n : ℕ) : sProp 𝕄 := iprop(env X K c ∗ own c 0 ∗ bigSep Finset.univ (drn X c n))
/-- While awaiting. -/
def rcvSt (n : ℕ) : sProp 𝕄 := iprop(env X K c ∗ own c 0 ∗ bigSep Finset.univ (rcv X c n))

theorem snd_drn : snd X c 32 = drn X c 0 := funext fun p => by
  unfold snd drn
  by_cases h : p ≠ c
  · rw [if_pos h, if_neg (by have := slot_lt c p; omega), if_pos ⟨h, Nat.zero_le _⟩]
  · rw [if_neg h, if_neg fun h' => h h'.1, not_not.mp h]

theorem sndSt_drnSt : sndSt X K c 32 = drnSt X K c 0 := by unfold sndSt drnSt; rw [oSnd_zero, snd_drn]

/-! ## Which semaphore, which block -/

/-- One semaphore of an array of thirty-two. -/
theorem ix_at (A : DmaSems sig S32) (b : ℕ) (hb : b + 32 ≤ 70)
    (hA : A = SemArray.consecutive b S32 hb) (n : ℕ) (hn : n < 32) (inb : ∀ a, (![n] : Fin 1 → ℕ) a + S1.size a ≤ S32.size a) (sq : S1.Squeezes S_) :
    (((A.slice (Rect.unit (s := S32) ![n] S1.size inb)).squeeze S_ sq).sem : DmaSem sig) = ⟨b + n, by show _ < 70; omega⟩ := by
  subst hA
  refine Fin.ext (congrArg (b + ·) ?_)
  refine (Shape.rowMajor_val_one _).trans ?_
  have h1 : ∀ j : S1.Idx, ((Rect.unit (s := S32) ![n] S1.size inb).emb j 0).val = n + 1 * (j 0).val := fun _ => rfl
  rw [h1]
  have h2 : ∀ j : S1.Idx, (j 0).val = 0 := fun j => by have : (j 0).val < 1 := (j 0).isLt; omega
  rw [h2, Nat.mul_zero, Nat.add_zero]

theorem sem9 (o : Fin 1 → ℕ) (n : ℕ) (hn : n < 32) (ho : o = ![n]) (inb : ∀ a, o a + S1.size a ≤ S32.size a) (sq : S1.Squeezes S_) :
    (SemLoc.dma ((cc0_scratch2.slice (Rect.unit (s := S32) o S1.size inb)).squeeze S_ sq).sem : SemLoc sig)
      = osem (sendIx c (dst c n)) := by
  subst ho
  rw [ix_at cc0_scratch2 6 (by decide) rfl n hn]
  exact congrArg SemLoc.dma (Fin.ext (by show 6 + n = 6 + slot c (dst c n); rw [slot_dst c hn]))
theorem sem10 (o : Fin 1 → ℕ) (p : Dev nD) (ho : o = ![p.val]) (inb : ∀ a, o a + S1.size a ≤ S32.size a) (sq : S1.Squeezes S_) :
    (SemLoc.dma ((cc0_scratch3.slice (Rect.unit (s := S32) o S1.size inb)).squeeze S_ sq).sem : SemLoc sig) = osem (recvIx p) := by
  subst ho
  rw [ix_at cc0_scratch3 38 (by decide) rfl p.val (lt32 p)]
  exact congrArg SemLoc.dma (Fin.ext (by show 38 + p.val = 6 + (32 + p.val); omega))

theorem N_row (q : Dev nD) : (rowM q).view.dmaCredit = N := rfl

/-! ## The steps -/

variable {α : Type} {Q : α → sProp (MT nD τ sig Unit (Elt F) ℕ UU ℕ)} (R : sProp (MT nD τ sig Unit (Elt F) ℕ UU ℕ))

/-- Signal the device `n` further along. -/
theorem sgn_step (n : ℕ) (hn : 1 ≤ n ∧ n < 32) {d : Dev nD} {sem : Sem sig} (hd : d.val = (nxt c n).val) (hs : sem = barrier0)
    {J : Prog (TpuEff nD τ sig (Elt F) Λ₀ .tc) α}
    (rest : iprop(sgnSt X K c (n + 1) ∗ R) ⊢ wp frame (wpE (defs₀ (F := F)) 𝒱₀ c none) Set.univ J Q) :
    iprop(sgnSt X K c n ∗ R)
      ⊢ wp frame (wpE (defs₀ (F := F)) 𝒱₀ c none) Set.univ ((semSignalWord d sem 1#32 : Prog (TpuEff nD τ sig (Elt F) Λ₀ .tc) PUnit) >>= fun _ => J) Q := by
  obtain rfl := Fin.ext hd
  subst hs
  have ho : off c (nxt c n) = n := off_nxt c hn.2
  have hne : nxt c n ≠ c := fun e => by rw [e] at ho; unfold off at ho; have := lt32 c; omega
  refine .trans ?_ (show _ ⊢ wp frame (wpE (defs₀ (F := F)) 𝒱₀ c none) Set.univ
    (.op (.semSignal ((nxt c n : Dev nD) : Thread nD τ) barrier0 1) fun _ => J) Q from Entails.rfl)
  unfold sgnSt own
  iintro ⟨⟨#He, ⟨%W, HO⟩, Hf⟩, HR⟩
  ihave Hf := (fam_step (sgn c n) (sgn c (n + 1)) (nxt c n) (fun p hp => by
    unfold sgn
    have : off c p ≠ n := fun e => hp (off_inj c (e.trans ho.symm))
    exact if_congr (and_congr_right fun _ => by omega) rfl rfl)) $$ Hf
  icases Hf with ⟨H1, Hf⟩
  ihave H1 := (Entails.of_eq (show sgn c n (nxt c n) = _ from if_pos ⟨hne, ho.ge⟩)) $$ H1
  icases H1 with ⟨Ht, Hc⟩
  ihave #HI := (env_bar X K c (nxt c n)) $$ He
  ihave #Hr := (env_rbar X K c (nxt c n)) $$ He
  ihave #Hr' := (env_rrecv X K c (nxt c n)) $$ He
  iapply (Rounds.wp_signal 𝒱₀ ER (Rd X) (c : Thread nD τ) none (dst := (nxt c n : Thread nD τ)) (sem := barrier0) (r := 0) (d := c)
    (κ := K (barCell (nxt c n))) (by rw [duties_bar]; exact Finset.mem_erase.mpr ⟨hne.symm, Finset.mem_univ _⟩) (amount_bar X (nxt c n) c) ()
    (O₀ := oSig c n + oSnd c 0) (oSig c (n + 1) + oSnd c 0) (by rw [oSig_step c (nxt c n) n ho hne, add_right_comm])) $$ [HO Ht Hc]
  · isplitr; · iexact HI
    isplitl [HO]; · iexact HO
    isplitl [Ht]; · iexact Ht
    isplitl [Hc]
    · rw [payload_bar]; unfold barPay
      isplitl [Hc]; · iexact Hc
      iexact Hr'
    iexact Hr
  iintro HO
  ispecialize Hf $$ []
  · rw [show sgn c (n + 1) (nxt c n) = (iprop(emp) : sProp 𝕄) from if_neg fun h => by omega]; iempintro
  iapply rest
  unfold sgnSt own
  isplitr [HR]
  · isplitr; · iexact He
    isplitl [HO]; · iexists W; iexact HO
    iexact Hf
  iexact HR

theorem bar_join : iprop(bigSep (Finset.univ.erase c) (pre X c) ∗ bigSep (Finset.univ.erase c) (barPay c))
    ⊢ bigSep (Finset.univ.erase c) (snd X c 0) := by
  refine (Entails.of_eq (bigSep_sep _ (pre X c) (barPay c)).symm).trans (bigSep_mono fun p hp => ?_)
  have hne := Finset.ne_of_mem_erase hp
  unfold pre snd barPay
  rw [if_pos hne, if_pos hne, if_pos (Nat.zero_le _)]
  exact BI.Entails.refl _

/-- Await the thirty-one peers' signals: every peer's column block for the own rows comes with them. -/
theorem bar_step {sem : Sem sig} (hs : sem = barrier0) {J : Prog (TpuEff nD τ sig (Elt F) Λ₀ .tc) α}
    (rest : iprop(sndSt X K c 0 ∗ don X (barCell c) ∗ R) ⊢ wp frame (wpE (defs₀ (F := F)) 𝒱₀ c none) Set.univ J Q) :
    iprop(sgnSt X K c 32 ∗ (cred (tallyAt (barCell c) () 31) ∗ atPos ER (barCell c) 0 ∅ 0 ∗ bigSep Finset.univ (pre X c)) ∗ R)
      ⊢ wp frame (wpE (defs₀ (F := F)) 𝒱₀ c none) Set.univ ((semWaitWord sem 31#32 : Prog (TpuEff nD τ sig (Elt F) Λ₀ .tc) PUnit) >>= fun _ => J) Q := by
  subst hs
  refine .trans ?_ (show _ ⊢ wp frame (wpE (defs₀ (F := F)) 𝒱₀ c none) Set.univ (.op (.semWait barrier0 31) fun _ => J) Q from Entails.rfl)
  unfold sgnSt own
  rw [oSig_zero, zero_add]
  iintro ⟨⟨#He, ⟨%W, HO⟩, -⟩, ⟨Hcr, Hat, Hp⟩, HR⟩
  ihave #HI := (env_bar X K c c) $$ He
  iapply (Rounds.wp_wait_rest_token 𝒱₀ ER (Rd X) (c : Thread nD τ) none (κ := K (barCell c)) (wpE_semWait_eq 𝒱₀ (c : Thread nD τ) none Set.univ)
    (Set.mem_univ _) () (O := oSnd c 0) (W := W) (R := 0) (m := 0) (T := ∅) (by rw [expect_bar])) $$ [Hcr HO Hat]
  · isplitr; · iexact HI
    isplitl [Hcr]; · iexact Hcr
    isplitl [HO]; · iexact HO
    isplitr; · iapply (env_may X K c 0); iexact He
    iexact Hat
  iintro ⟨HO, Hat, -, Hpay⟩
  ihave Hb := (Entails.of_eq (rest_bar X c)) $$ Hpay
  iapply rest
  unfold sndSt own
  isplitr [Hat HR]
  · isplitr; · iexact He
    isplitl [HO]; · iexists _; iexact HO
    ihave Hp := (Entails.of_eq (take_one (Finset.mem_univ c))) $$ Hp
    icases Hp with ⟨H1, Hp⟩
    ihave H1 := (Entails.of_eq (show pre X c c = snd X c 0 c by unfold pre snd; rw [if_neg (fun h => h rfl), if_neg (fun h => h rfl)])) $$ H1
    iapply (Entails.of_eq (take_one (Finset.mem_univ c)).symm)
    isplitl [H1]; · iexact H1
    iapply (bar_join X c)
    isplitl [Hp] <;> iassumption
  isplitl [Hat]; · iapply (don_intro X (barCell c)); iexact Hat
  iexact HR

/-- One copy to another device, its two cells named. -/
theorem snd_core (q : Dev nD) (hne : q ≠ c) (n : ℕ) (hn : slot c q = n) {sS sR : SemLoc sig} (hS : sS = osem (sendIx c q)) (hR : sR = osem (recvIx c))
    {hsc e1 e2 e3} {J : Prog (TpuEff nD τ sig (Elt F) Λ₀ .tc) α}
    (rest : iprop(sndSt X K c (n + 1) ∗ R) ⊢ wp frame (wpE (defs₀ (F := F)) 𝒱₀ c none) Set.univ J Q) :
    iprop(sndSt X K c n ∗ R)
      ⊢ wp frame (wpE (defs₀ (F := F)) 𝒱₀ c none) Set.univ
          (.op (.enqueueDma (rowM q) (.remote (Dev.tc q) (colM c) sS hsc) sR e1 e2 e3) fun _ => J) Q := by
  subst hS hR
  unfold sndSt own
  iintro ⟨⟨#He, ⟨%W, HO⟩, Hf⟩, HR⟩
  ihave Hf := (fam_step (snd X c n) (snd X c (n + 1)) q (fun p hp => by
    unfold snd
    have : slot c p ≠ n := fun e => hp (slot_inj c (e.trans hn.symm))
    split
    · exact if_congr (by omega) rfl rfl
    · rfl)) $$ Hf
  icases Hf with ⟨H1, Hf⟩
  ihave H1 := (Entails.of_eq (show snd X c n q = _ from (if_pos hne).trans (if_pos hn.ge))) $$ H1
  icases H1 with ⟨⟨Ht2, Ht1, Hrow, Hat⟩, Hcol, Hr2⟩
  unfold colAny
  icases Hcol with ⟨%fd, Hcol⟩
  ihave #HI1 := (env_send X K c c q) $$ He
  ihave #HI2 := (env_recv X K c q c) $$ He
  ihave #Hr1 := (env_rsend X K c q) $$ He
  unfold rowPts colPts
  iapply (Rounds.wp_send_pointsTo 𝒱₀ ER (Rd X) (c : Thread nD τ) none (c' := (q : Thread nD τ)) (src := rowM q) (dst := colM c)
    (sS := osem (sendIx c q)) (sem := osem (recvIx c)) (q := fullShare) (fs := X c) (fd := fd) (κ₁ := K (sendCell c q)) (κ₂ := K (recvCell q c))
    (r₁ := 0) (r₂ := 0) (d₁ := c) (d₂ := c) (by rw [duties_send X c q hne]; exact Finset.mem_singleton_self _)
    (by rw [duties_recv X q c hne.symm]; exact Finset.mem_singleton_self _) () () N rfl (amount_send X c q c) (amount_recv X q c c)
    (O₀ := oSnd c n) (oSnd c (n + 1)) (oSnd_step c q n hn hne) (W := W)
    (by rw [payload_send]; exact BI.Entails.refl _) (by rw [payload_recv]; exact Entails.of_eq (landed X q c fd))) $$ [Hrow Hcol HO Ht1 Ht2 Hr2]
  · isplitr; · iexact HI1
    isplitr; · iexact HI2
    isplitl [Hrow]; · iexact Hrow
    isplitl [Hcol]; · iexact Hcol
    isplitl [HO]; · iexact HO
    isplitl [Ht1]; · iexact Ht1
    isplitr; · iexact Hr1
    isplitl [Ht2]; · iexact Ht2
    iexact Hr2
  iintro ⟨Hcr, HO⟩
  ispecialize Hf $$ [Hcr Hat]
  · iapply (Entails.of_eq (show snd X c (n + 1) q = _ from (if_pos hne).trans (if_neg (by omega))).symm)
    isplitl [Hcr] <;> iassumption
  iapply rest
  unfold sndSt own
  isplitr [HR]
  · isplitr; · iexact He
    isplitl [HO]; · iexists W; iexact HO
    iexact Hf
  iexact HR

/-- Send the row block of step `n`'s device, if that is another one. -/
theorem snd_step (n : ℕ) (hn : n < 32) {b : BitVec 1} {db : Decidable (b = 1#1)} (hb : b = 1#1 ↔ dst c n ≠ c)
    {o9 o10 : Fin 1 → ℕ} {od os : Fin 2 → ℕ} (h9 : o9 = ![n]) (h10 : o10 = ![c.val]) (hod : od = ![0, 128 * c.val]) (hos : os = ![128 * (dst c n).val, 0])
    {i9 : b = 1#1 → ∀ a, o9 a + S1.size a ≤ S32.size a} {i10 : b = 1#1 → ∀ a, o10 a + S1.size a ≤ S32.size a} {sq9 sq10 : S1.Squeezes S_}
    {id : b = 1#1 → ∀ a, od a + S128x128.size a ≤ S128x4096.size a} {is : b = 1#1 → ∀ a, os a + S128x128.size a ≤ S4096x128.size a} {us : ∀ h : b = 1#1, _} {ud : ∀ h : b = 1#1, _}
    {dv : b = 1#1 → Dev nD} (hdv : ∀ h, (dv h).val = (dst c n).val) {hsc : ∀ h : b = 1#1, _} {e1 : ∀ h : b = 1#1, _} {e2 : ∀ h : b = 1#1, _} {e3 : ∀ h : b = 1#1, _}
    {J : Prog (TpuEff nD τ sig (Elt F) Λ₀ .tc) α}
    (rest : iprop(sndSt X K c (n + 1) ∗ R) ⊢ wp frame (wpE (defs₀ (F := F)) 𝒱₀ c none) Set.univ J Q) :
    iprop(sndSt X K c n ∗ R)
      ⊢ wp frame (wpE (defs₀ (F := F)) 𝒱₀ c none) Set.univ (@dite _ (b = 1#1) db (fun h =>
          (Prog.lift (.enqueueDma ((Memref.whole cc0_scratch0).slice (Rect.unit (s := S4096x128) os S128x128.size (is h)) (us h))
            (.remote (Dev.tc (dv h)) ((Memref.whole cc0_scratch1).slice (Rect.unit (s := S128x4096) od S128x128.size (id h)) (ud h))
              (.dma ((cc0_scratch2.slice (Rect.unit (s := S32) o9 S1.size (i9 h))).squeeze S_ sq9).sem) (hsc h))
            (.dma ((cc0_scratch3.slice (Rect.unit (s := S32) o10 S1.size (i10 h))).squeeze S_ sq10).sem) (e1 h) (e2 h) (e3 h))
            : Prog (TpuEff nD τ sig (Elt F) Λ₀ .tc) PUnit) >>= fun _ => J) (fun _ => J)) Q := by
  have hq : slot c (dst c n) = n := slot_dst c hn
  by_cases h : b = 1#1
  · have hne := hb.mp h
    rw [dif_pos h]
    obtain rfl : dv = fun _ => dst c n := funext fun h => Fin.ext (hdv h)
    subst h9 h10 hod hos
    exact snd_core X K c R (dst c n) hne n hq (sem9 c _ n hn rfl _ _) (sem10 _ c rfl _ _) rest
  · have he : dst c n = c := not_not.mp fun h' => h (hb.mpr h')
    rw [dif_neg h]
    rw [he] at hq
    refine .trans (sep_mono_left ?_) rest
    unfold sndSt
    rw [oSnd_skip c n hq, show snd X c (n + 1) = snd X c n from funext fun p => ?_]
    unfold snd
    split
    · rename_i hp
      have : slot c p ≠ n := fun e => hp (slot_inj c (e.trans hq.symm))
      exact if_congr (by omega) rfl rfl
    · rfl

/-- One landing awaited, its cell named. -/
theorem rcv_core (q : Dev nD) (hne : q ≠ c) (n : ℕ) (hn : rslot c q = n) {sD : DmaSem sig} (hS : SemLoc.dma sD = osem (recvIx q))
    {sr : Memref sig .tc .vmem S128x128 .fp8e4m3} {e1 e2} {J : Prog (TpuEff nD τ sig (Elt F) Λ₀ .tc) α}
    (rest : iprop(rcvSt X K c (n + 1) ∗ R) ⊢ wp frame (wpE (defs₀ (F := F)) 𝒱₀ c none) Set.univ J Q) :
    iprop(rcvSt X K c n ∗ R)
      ⊢ wp frame (wpE (defs₀ (F := F)) 𝒱₀ c none) Set.univ (.op (.waitDma2 sD sr (colM q) e1 e2) fun _ => J) Q := by
  obtain rfl : sD = _ := SemLoc.dma.inj hS
  unfold rcvSt own
  iintro ⟨⟨#He, ⟨%W, HO⟩, Hf⟩, HR⟩
  ihave Hf := (fam_step (rcv X c n) (rcv X c (n + 1)) q (fun p hp => by
    unfold rcv
    have : rslot c p ≠ n := fun e => hp (rslot_inj c (e.trans hn.symm))
    exact if_congr (and_congr_right fun _ => by omega) rfl rfl)) $$ Hf
  icases Hf with ⟨H1, Hf⟩
  ihave H1 := (Entails.of_eq (show rcv X c n q = _ from if_pos ⟨hne, hn.ge⟩)) $$ H1
  icases H1 with ⟨Hcr, Hat⟩
  ihave #HI := (env_recv X K c c q) $$ He
  iapply (Rounds.wp_wait_rest_token 𝒱₀ ER (Rd X) (c : Thread nD τ) none (κ := K (recvCell c q)) (k' := N)
    (fun Kt => (wpE_waitDma2_eq (src := sr) (dst := colM q) 𝒱₀ (c : Thread nD τ) none Set.univ Kt).trans (by rw [N_col q]; exact congrArg (fun sm => waitSpec (c : Thread nD τ) Set.univ sm N Kt) hS))
    (Set.mem_univ _) () (O := 0) (W := W) (R := 0) (m := 0) (T := ∅) ((Nat.zero_add _).trans (expect_recv X c q hne).symm)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hb := (Entails.of_eq (rest_recv X c q hne)) $$ Hpay
  ispecialize Hf $$ [Hat Hb]
  · iapply (Entails.of_eq (show rcv X c (n + 1) q = _ from if_neg (by omega)).symm)
    isplitl [Hat]; · iapply (don_intro X (recvCell c q)); iexact Hat
    iexact Hb
  iapply rest
  unfold rcvSt own
  isplitr [HR]
  · isplitr; · iexact He
    isplitl [HO]; · iexists _; iexact HO
    iexact Hf
  iexact HR

/-- Await the column block of step `n`'s device, if that is another one. -/
theorem rcv_step (n : ℕ) (hn : n < 32) {b : BitVec 1} {db : Decidable (b = 1#1)} (hb : b = 1#1 ↔ src c n ≠ c)
    {o10 : Fin 1 → ℕ} {od : Fin 2 → ℕ} (h10 : o10 = ![(src c n).val]) (hod : od = ![0, 128 * (src c n).val])
    {i10 : b = 1#1 → ∀ a, o10 a + S1.size a ≤ S32.size a} {sq10 : S1.Squeezes S_}
    {id : b = 1#1 → ∀ a, od a + S128x128.size a ≤ S128x4096.size a} {ud : ∀ h : b = 1#1, _}
    {sr : Memref sig .tc .vmem S128x128 .fp8e4m3} {e1 : ∀ h : b = 1#1, _} {e2 : ∀ h : b = 1#1, _}
    {J : Prog (TpuEff nD τ sig (Elt F) Λ₀ .tc) α}
    (rest : iprop(rcvSt X K c (n + 1) ∗ R) ⊢ wp frame (wpE (defs₀ (F := F)) 𝒱₀ c none) Set.univ J Q) :
    iprop(rcvSt X K c n ∗ R)
      ⊢ wp frame (wpE (defs₀ (F := F)) 𝒱₀ c none) Set.univ (@dite _ (b = 1#1) db (fun h =>
          (Prog.lift (.waitDma2 ((cc0_scratch3.slice (Rect.unit (s := S32) o10 S1.size (i10 h))).squeeze S_ sq10).sem sr
            ((Memref.whole cc0_scratch1).slice (Rect.unit (s := S128x4096) od S128x128.size (id h)) (ud h)) (e1 h) (e2 h))
            : Prog (TpuEff nD τ sig (Elt F) Λ₀ .tc) PUnit) >>= fun _ => J) (fun _ => J)) Q := by
  have hq : rslot c (src c n) = n := rslot_src c hn
  by_cases h : b = 1#1
  · have hne := hb.mp h
    rw [dif_pos h]
    subst h10 hod
    exact rcv_core X K c R (src c n) hne n hq (sem10 _ (src c n) rfl _ _) rest
  · have he : src c n = c := not_not.mp fun h' => h (hb.mpr h')
    rw [dif_neg h]
    rw [he] at hq
    refine .trans (sep_mono_left ?_) rest
    unfold rcvSt
    rw [show rcv X c (n + 1) = rcv X c n from funext fun p => ?_]
    unfold rcv
    refine if_congr (and_congr_right fun hp => ?_) rfl rfl
    have : rslot c p ≠ n := fun e => hp (rslot_inj c (e.trans hq.symm))
    omega

/-- The source of one copy recovered, its cell named. -/
theorem drn_core (q : Dev nD) (hne : q ≠ c) (n : ℕ) (hn : slot c q = n) {sD : DmaSem sig} (hS : SemLoc.dma sD = osem (sendIx c q))
    {sr : Memref sig .tc .vmem S128x128 .fp8e4m3} {e1 e2} {J : Prog (TpuEff nD τ sig (Elt F) Λ₀ .tc) α}
    (rest : iprop(drnSt X K c (n + 1) ∗ R) ⊢ wp frame (wpE (defs₀ (F := F)) 𝒱₀ c none) Set.univ J Q) :
    iprop(drnSt X K c n ∗ R)
      ⊢ wp frame (wpE (defs₀ (F := F)) 𝒱₀ c none) Set.univ (.op (.waitDma2 sD sr (rowM q) e1 e2) fun _ => J) Q := by
  obtain rfl : sD = _ := SemLoc.dma.inj hS
  unfold drnSt own
  iintro ⟨⟨#He, ⟨%W, HO⟩, Hf⟩, HR⟩
  ihave Hf := (fam_step (drn X c n) (drn X c (n + 1)) q (fun p hp => by
    unfold drn
    have : slot c p ≠ n := fun e => hp (slot_inj c (e.trans hn.symm))
    exact if_congr (and_congr_right fun _ => by omega) rfl rfl)) $$ Hf
  icases Hf with ⟨H1, Hf⟩
  ihave H1 := (Entails.of_eq (show drn X c n q = _ from if_pos ⟨hne, hn.ge⟩)) $$ H1
  icases H1 with ⟨Hcr, Hat⟩
  ihave #HI := (env_send X K c c q) $$ He
  iapply (Rounds.wp_wait_rest_token 𝒱₀ ER (Rd X) (c : Thread nD τ) none (κ := K (sendCell c q)) (k' := N)
    (fun Kt => (wpE_waitDma2_eq (src := sr) (dst := rowM q) 𝒱₀ (c : Thread nD τ) none Set.univ Kt).trans (by rw [N_row q]; exact congrArg (fun sm => waitSpec (c : Thread nD τ) Set.univ sm N Kt) hS))
    (Set.mem_univ _) () (O := 0) (W := W) (R := 0) (m := 0) (T := ∅) ((Nat.zero_add _).trans (expect_send X c q hne).symm)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hb := (Entails.of_eq (rest_send X c q hne)) $$ Hpay
  ispecialize Hf $$ [Hat Hb]
  · iapply (Entails.of_eq (show drn X c (n + 1) q = _ from if_neg (by omega)).symm)
    isplitl [Hat]; · iapply (don_intro X (sendCell c q)); iexact Hat
    iexact Hb
  iapply rest
  unfold drnSt own
  isplitr [HR]
  · isplitr; · iexact He
    isplitl [HO]; · iexists _; iexact HO
    iexact Hf
  iexact HR

/-- Recover the row block sent at step `n`, if it was sent. -/
theorem drn_step (n : ℕ) (hn : n < 32) {b : BitVec 1} {db : Decidable (b = 1#1)} (hb : b = 1#1 ↔ dst c n ≠ c)
    {o9 : Fin 1 → ℕ} {os : Fin 2 → ℕ} (h9 : o9 = ![n]) (hos : os = ![128 * (dst c n).val, 0])
    {i9 : b = 1#1 → ∀ a, o9 a + S1.size a ≤ S32.size a} {sq9 : S1.Squeezes S_}
    {is : b = 1#1 → ∀ a, os a + S128x128.size a ≤ S4096x128.size a} {us : ∀ h : b = 1#1, _}
    {sr : b = 1#1 → Memref sig .tc .vmem S128x128 .fp8e4m3} {e1 : ∀ h : b = 1#1, _} {e2 : ∀ h : b = 1#1, _}
    {J : Prog (TpuEff nD τ sig (Elt F) Λ₀ .tc) α}
    (rest : iprop(drnSt X K c (n + 1) ∗ R) ⊢ wp frame (wpE (defs₀ (F := F)) 𝒱₀ c none) Set.univ J Q) :
    iprop(drnSt X K c n ∗ R)
      ⊢ wp frame (wpE (defs₀ (F := F)) 𝒱₀ c none) Set.univ (@dite _ (b = 1#1) db (fun h =>
          (Prog.lift (.waitDma2 ((cc0_scratch2.slice (Rect.unit (s := S32) o9 S1.size (i9 h))).squeeze S_ sq9).sem (sr h)
            ((Memref.whole cc0_scratch0).slice (Rect.unit (s := S4096x128) os S128x128.size (is h)) (us h)) (e1 h) (e2 h))
            : Prog (TpuEff nD τ sig (Elt F) Λ₀ .tc) PUnit) >>= fun _ => J) (fun _ => J)) Q := by
  have hq : slot c (dst c n) = n := slot_dst c hn
  by_cases h : b = 1#1
  · have hne := hb.mp h
    rw [dif_pos h]
    subst h9 hos
    exact drn_core X K c R (dst c n) hne n hq (sem9 c _ n hn rfl _ _) rest
  · have he : dst c n = c := not_not.mp fun h' => h (hb.mpr h')
    rw [dif_neg h]
    rw [he] at hq
    refine .trans (sep_mono_left ?_) rest
    unfold drnSt
    rw [show drn X c (n + 1) = drn X c n from funext fun p => ?_]
    unfold drn
    by_cases hp : p = c
    · subst hp; rw [if_neg fun h => h.1 rfl, if_neg fun h => h.1 rfl]
    · have : slot c p ≠ n := fun e => hp (slot_inj c (e.trans hq.symm))
      exact if_congr (and_congr_right fun _ => by omega) rfl rfl

end Cert.KernelIdeal.Exchange
-- ==== Proof.KI.Closed.lean ====
/-
  What the kernel computes from its device's number at each step — whom it sends to, which semaphores and blocks it
  names — is the schedule's order.
-/
module

public import proofs.«01_k».proof.Proof.KI.Proto

@[expose] public section

namespace Cert.KernelIdeal.Exchange

open Idealize.ShloMosaic
open Cert.KernelIdeal Cert.KernelIdeal.Gen

theorem snd_at0 : ∀ c : Dev nD, (k0_cond2 c = 1#1 ↔ dst c 0 ≠ c) ∧ k0_off5 c = ![c.val] ∧ k0_off6 c = ![0, 128 * c.val]
    ∧ k0_off7 c = ![128 * (dst c 0).val, 0] ∧ k0_dev32 c = (dst c 0).val := by decide +kernel
theorem snd_at1 : ∀ c : Dev nD, (k0_cond3 c = 1#1 ↔ dst c 1 ≠ c) ∧ k0_off8 c = ![c.val] ∧ k0_off9 c = ![0, 128 * c.val]
    ∧ k0_off10 c = ![128 * (dst c 1).val, 0] ∧ k0_dev33 c = (dst c 1).val := by decide +kernel
theorem snd_at2 : ∀ c : Dev nD, (k0_cond4 c = 1#1 ↔ dst c 2 ≠ c) ∧ k0_off11 c = ![c.val] ∧ k0_off12 c = ![0, 128 * c.val]
    ∧ k0_off13 c = ![128 * (dst c 2).val, 0] ∧ k0_dev34 c = (dst c 2).val := by decide +kernel
theorem snd_at3 : ∀ c : Dev nD, (k0_cond5 c = 1#1 ↔ dst c 3 ≠ c) ∧ k0_off14 c = ![c.val] ∧ k0_off15 c = ![0, 128 * c.val]
    ∧ k0_off16 c = ![128 * (dst c 3).val, 0] ∧ k0_dev35 c = (dst c 3).val := by decide +kernel
theorem snd_at4 : ∀ c : Dev nD, (k0_cond6 c = 1#1 ↔ dst c 4 ≠ c) ∧ k0_off17 c = ![c.val] ∧ k0_off18 c = ![0, 128 * c.val]
    ∧ k0_off19 c = ![128 * (dst c 4).val, 0] ∧ k0_dev36 c = (dst c 4).val := by decide +kernel
theorem snd_at5 : ∀ c : Dev nD, (k0_cond7 c = 1#1 ↔ dst c 5 ≠ c) ∧ k0_off20 c = ![c.val] ∧ k0_off21 c = ![0, 128 * c.val]
    ∧ k0_off22 c = ![128 * (dst c 5).val, 0] ∧ k0_dev37 c = (dst c 5).val := by decide +kernel
theorem snd_at6 : ∀ c : Dev nD, (k0_cond8 c = 1#1 ↔ dst c 6 ≠ c) ∧ k0_off23 c = ![c.val] ∧ k0_off24 c = ![0, 128 * c.val]
    ∧ k0_off25 c = ![128 * (dst c 6).val, 0] ∧ k0_dev38 c = (dst c 6).val := by decide +kernel
theorem snd_at7 : ∀ c : Dev nD, (k0_cond9 c = 1#1 ↔ dst c 7 ≠ c) ∧ k0_off26 c = ![c.val] ∧ k0_off27 c = ![0, 128 * c.val]
    ∧ k0_off28 c = ![128 * (dst c 7).val, 0] ∧ k0_dev39 c = (dst c 7).val := by decide +kernel
theorem snd_at8 : ∀ c : Dev nD, (k0_cond10 c = 1#1 ↔ dst c 8 ≠ c) ∧ k0_off29 c = ![c.val] ∧ k0_off30 c = ![0, 128 * c.val]
    ∧ k0_off31 c = ![128 * (dst c 8).val, 0] ∧ k0_dev40 c = (dst c 8).val := by decide +kernel
theorem snd_at9 : ∀ c : Dev nD, (k0_cond11 c = 1#1 ↔ dst c 9 ≠ c) ∧ k0_off32 c = ![c.val] ∧ k0_off33 c = ![0, 128 * c.val]
    ∧ k0_off34 c = ![128 * (dst c 9).val, 0] ∧ k0_dev41 c = (dst c 9).val := by decide +kernel
theorem snd_at10 : ∀ c : Dev nD, (k0_cond12 c = 1#1 ↔ dst c 10 ≠ c) ∧ k0_off35 c = ![c.val] ∧ k0_off36 c = ![0, 128 * c.val]
    ∧ k0_off37 c = ![128 * (dst c 10).val, 0] ∧ k0_dev42 c = (dst c 10).val := by decide +kernel
theorem snd_at11 : ∀ c : Dev nD, (k0_cond13 c = 1#1 ↔ dst c 11 ≠ c) ∧ k0_off38 c = ![c.val] ∧ k0_off39 c = ![0, 128 * c.val]
    ∧ k0_off40 c = ![128 * (dst c 11).val, 0] ∧ k0_dev43 c = (dst c 11).val := by decide +kernel
theorem snd_at12 : ∀ c : Dev nD, (k0_cond14 c = 1#1 ↔ dst c 12 ≠ c) ∧ k0_off41 c = ![c.val] ∧ k0_off42 c = ![0, 128 * c.val]
    ∧ k0_off43 c = ![128 * (dst c 12).val, 0] ∧ k0_dev44 c = (dst c 12).val := by decide +kernel
theorem snd_at13 : ∀ c : Dev nD, (k0_cond15 c = 1#1 ↔ dst c 13 ≠ c) ∧ k0_off44 c = ![c.val] ∧ k0_off45 c = ![0, 128 * c.val]
    ∧ k0_off46 c = ![128 * (dst c 13).val, 0] ∧ k0_dev45 c = (dst c 13).val := by decide +kernel
theorem snd_at14 : ∀ c : Dev nD, (k0_cond16 c = 1#1 ↔ dst c 14 ≠ c) ∧ k0_off47 c = ![c.val] ∧ k0_off48 c = ![0, 128 * c.val]
    ∧ k0_off49 c = ![128 * (dst c 14).val, 0] ∧ k0_dev46 c = (dst c 14).val := by decide +kernel
theorem snd_at15 : ∀ c : Dev nD, (k0_cond17 c = 1#1 ↔ dst c 15 ≠ c) ∧ k0_off50 c = ![c.val] ∧ k0_off51 c = ![0, 128 * c.val]
    ∧ k0_off52 c = ![128 * (dst c 15).val, 0] ∧ k0_dev47 c = (dst c 15).val := by decide +kernel
theorem snd_at16 : ∀ c : Dev nD, (k0_cond18 c = 1#1 ↔ dst c 16 ≠ c) ∧ k0_off53 c = ![c.val] ∧ k0_off54 c = ![0, 128 * c.val]
    ∧ k0_off55 c = ![128 * (dst c 16).val, 0] ∧ k0_dev48 c = (dst c 16).val := by decide +kernel
theorem snd_at17 : ∀ c : Dev nD, (k0_cond19 c = 1#1 ↔ dst c 17 ≠ c) ∧ k0_off56 c = ![c.val] ∧ k0_off57 c = ![0, 128 * c.val]
    ∧ k0_off58 c = ![128 * (dst c 17).val, 0] ∧ k0_dev49 c = (dst c 17).val := by decide +kernel
theorem snd_at18 : ∀ c : Dev nD, (k0_cond20 c = 1#1 ↔ dst c 18 ≠ c) ∧ k0_off59 c = ![c.val] ∧ k0_off60 c = ![0, 128 * c.val]
    ∧ k0_off61 c = ![128 * (dst c 18).val, 0] ∧ k0_dev50 c = (dst c 18).val := by decide +kernel
theorem snd_at19 : ∀ c : Dev nD, (k0_cond21 c = 1#1 ↔ dst c 19 ≠ c) ∧ k0_off62 c = ![c.val] ∧ k0_off63 c = ![0, 128 * c.val]
    ∧ k0_off64 c = ![128 * (dst c 19).val, 0] ∧ k0_dev51 c = (dst c 19).val := by decide +kernel
theorem snd_at20 : ∀ c : Dev nD, (k0_cond22 c = 1#1 ↔ dst c 20 ≠ c) ∧ k0_off65 c = ![c.val] ∧ k0_off66 c = ![0, 128 * c.val]
    ∧ k0_off67 c = ![128 * (dst c 20).val, 0] ∧ k0_dev52 c = (dst c 20).val := by decide +kernel
theorem snd_at21 : ∀ c : Dev nD, (k0_cond23 c = 1#1 ↔ dst c 21 ≠ c) ∧ k0_off68 c = ![c.val] ∧ k0_off69 c = ![0, 128 * c.val]
    ∧ k0_off70 c = ![128 * (dst c 21).val, 0] ∧ k0_dev53 c = (dst c 21).val := by decide +kernel
theorem snd_at22 : ∀ c : Dev nD, (k0_cond24 c = 1#1 ↔ dst c 22 ≠ c) ∧ k0_off71 c = ![c.val] ∧ k0_off72 c = ![0, 128 * c.val]
    ∧ k0_off73 c = ![128 * (dst c 22).val, 0] ∧ k0_dev54 c = (dst c 22).val := by decide +kernel
theorem snd_at23 : ∀ c : Dev nD, (k0_cond25 c = 1#1 ↔ dst c 23 ≠ c) ∧ k0_off74 c = ![c.val] ∧ k0_off75 c = ![0, 128 * c.val]
    ∧ k0_off76 c = ![128 * (dst c 23).val, 0] ∧ k0_dev55 c = (dst c 23).val := by decide +kernel
theorem snd_at24 : ∀ c : Dev nD, (k0_cond26 c = 1#1 ↔ dst c 24 ≠ c) ∧ k0_off77 c = ![c.val] ∧ k0_off78 c = ![0, 128 * c.val]
    ∧ k0_off79 c = ![128 * (dst c 24).val, 0] ∧ k0_dev56 c = (dst c 24).val := by decide +kernel
theorem snd_at25 : ∀ c : Dev nD, (k0_cond27 c = 1#1 ↔ dst c 25 ≠ c) ∧ k0_off80 c = ![c.val] ∧ k0_off81 c = ![0, 128 * c.val]
    ∧ k0_off82 c = ![128 * (dst c 25).val, 0] ∧ k0_dev57 c = (dst c 25).val := by decide +kernel
theorem snd_at26 : ∀ c : Dev nD, (k0_cond28 c = 1#1 ↔ dst c 26 ≠ c) ∧ k0_off83 c = ![c.val] ∧ k0_off84 c = ![0, 128 * c.val]
    ∧ k0_off85 c = ![128 * (dst c 26).val, 0] ∧ k0_dev58 c = (dst c 26).val := by decide +kernel
theorem snd_at27 : ∀ c : Dev nD, (k0_cond29 c = 1#1 ↔ dst c 27 ≠ c) ∧ k0_off86 c = ![c.val] ∧ k0_off87 c = ![0, 128 * c.val]
    ∧ k0_off88 c = ![128 * (dst c 27).val, 0] ∧ k0_dev59 c = (dst c 27).val := by decide +kernel
theorem snd_at28 : ∀ c : Dev nD, (k0_cond30 c = 1#1 ↔ dst c 28 ≠ c) ∧ k0_off89 c = ![c.val] ∧ k0_off90 c = ![0, 128 * c.val]
    ∧ k0_off91 c = ![128 * (dst c 28).val, 0] ∧ k0_dev60 c = (dst c 28).val := by decide +kernel
theorem snd_at29 : ∀ c : Dev nD, (k0_cond31 c = 1#1 ↔ dst c 29 ≠ c) ∧ k0_off92 c = ![c.val] ∧ k0_off93 c = ![0, 128 * c.val]
    ∧ k0_off94 c = ![128 * (dst c 29).val, 0] ∧ k0_dev61 c = (dst c 29).val := by decide +kernel
theorem snd_at30 : ∀ c : Dev nD, (k0_cond32 c = 1#1 ↔ dst c 30 ≠ c) ∧ k0_off95 c = ![c.val] ∧ k0_off96 c = ![0, 128 * c.val]
    ∧ k0_off97 c = ![128 * (dst c 30).val, 0] ∧ k0_dev62 c = (dst c 30).val := by decide +kernel
theorem snd_at31 : ∀ c : Dev nD, (k0_cond33 c = 1#1 ↔ dst c 31 ≠ c) ∧ k0_off98 c = ![c.val] ∧ k0_off99 c = ![0, 128 * c.val]
    ∧ k0_off100 c = ![128 * (dst c 31).val, 0] ∧ k0_dev63 c = (dst c 31).val := by decide +kernel
theorem drn_at0 : ∀ c : Dev nD, (k0_cond41 c = 1#1 ↔ dst c 0 ≠ c) ∧ k0_off110 c = ![128 * (dst c 0).val, 0] := by decide +kernel
theorem drn_at1 : ∀ c : Dev nD, (k0_cond42 c = 1#1 ↔ dst c 1 ≠ c) ∧ k0_off112 c = ![128 * (dst c 1).val, 0] := by decide +kernel
theorem drn_at2 : ∀ c : Dev nD, (k0_cond43 c = 1#1 ↔ dst c 2 ≠ c) ∧ k0_off114 c = ![128 * (dst c 2).val, 0] := by decide +kernel
theorem drn_at3 : ∀ c : Dev nD, (k0_cond44 c = 1#1 ↔ dst c 3 ≠ c) ∧ k0_off116 c = ![128 * (dst c 3).val, 0] := by decide +kernel
theorem drn_at4 : ∀ c : Dev nD, (k0_cond45 c = 1#1 ↔ dst c 4 ≠ c) ∧ k0_off118 c = ![128 * (dst c 4).val, 0] := by decide +kernel
theorem drn_at5 : ∀ c : Dev nD, (k0_cond46 c = 1#1 ↔ dst c 5 ≠ c) ∧ k0_off120 c = ![128 * (dst c 5).val, 0] := by decide +kernel
theorem drn_at6 : ∀ c : Dev nD, (k0_cond47 c = 1#1 ↔ dst c 6 ≠ c) ∧ k0_off122 c = ![128 * (dst c 6).val, 0] := by decide +kernel
theorem drn_at7 : ∀ c : Dev nD, (k0_cond48 c = 1#1 ↔ dst c 7 ≠ c) ∧ k0_off124 c = ![128 * (dst c 7).val, 0] := by decide +kernel
theorem drn_at8 : ∀ c : Dev nD, (k0_cond49 c = 1#1 ↔ dst c 8 ≠ c) ∧ k0_off126 c = ![128 * (dst c 8).val, 0] := by decide +kernel
theorem drn_at9 : ∀ c : Dev nD, (k0_cond50 c = 1#1 ↔ dst c 9 ≠ c) ∧ k0_off128 c = ![128 * (dst c 9).val, 0] := by decide +kernel
theorem drn_at10 : ∀ c : Dev nD, (k0_cond51 c = 1#1 ↔ dst c 10 ≠ c) ∧ k0_off130 c = ![128 * (dst c 10).val, 0] := by decide +kernel
theorem drn_at11 : ∀ c : Dev nD, (k0_cond52 c = 1#1 ↔ dst c 11 ≠ c) ∧ k0_off132 c = ![128 * (dst c 11).val, 0] := by decide +kernel
theorem drn_at12 : ∀ c : Dev nD, (k0_cond53 c = 1#1 ↔ dst c 12 ≠ c) ∧ k0_off134 c = ![128 * (dst c 12).val, 0] := by decide +kernel
theorem drn_at13 : ∀ c : Dev nD, (k0_cond54 c = 1#1 ↔ dst c 13 ≠ c) ∧ k0_off136 c = ![128 * (dst c 13).val, 0] := by decide +kernel
theorem drn_at14 : ∀ c : Dev nD, (k0_cond55 c = 1#1 ↔ dst c 14 ≠ c) ∧ k0_off138 c = ![128 * (dst c 14).val, 0] := by decide +kernel
theorem drn_at15 : ∀ c : Dev nD, (k0_cond56 c = 1#1 ↔ dst c 15 ≠ c) ∧ k0_off140 c = ![128 * (dst c 15).val, 0] := by decide +kernel
theorem drn_at16 : ∀ c : Dev nD, (k0_cond57 c = 1#1 ↔ dst c 16 ≠ c) ∧ k0_off142 c = ![128 * (dst c 16).val, 0] := by decide +kernel
theorem drn_at17 : ∀ c : Dev nD, (k0_cond58 c = 1#1 ↔ dst c 17 ≠ c) ∧ k0_off144 c = ![128 * (dst c 17).val, 0] := by decide +kernel
theorem drn_at18 : ∀ c : Dev nD, (k0_cond59 c = 1#1 ↔ dst c 18 ≠ c) ∧ k0_off146 c = ![128 * (dst c 18).val, 0] := by decide +kernel
theorem drn_at19 : ∀ c : Dev nD, (k0_cond60 c = 1#1 ↔ dst c 19 ≠ c) ∧ k0_off148 c = ![128 * (dst c 19).val, 0] := by decide +kernel
theorem drn_at20 : ∀ c : Dev nD, (k0_cond61 c = 1#1 ↔ dst c 20 ≠ c) ∧ k0_off150 c = ![128 * (dst c 20).val, 0] := by decide +kernel
theorem drn_at21 : ∀ c : Dev nD, (k0_cond62 c = 1#1 ↔ dst c 21 ≠ c) ∧ k0_off152 c = ![128 * (dst c 21).val, 0] := by decide +kernel
theorem drn_at22 : ∀ c : Dev nD, (k0_cond63 c = 1#1 ↔ dst c 22 ≠ c) ∧ k0_off154 c = ![128 * (dst c 22).val, 0] := by decide +kernel
theorem drn_at23 : ∀ c : Dev nD, (k0_cond64 c = 1#1 ↔ dst c 23 ≠ c) ∧ k0_off156 c = ![128 * (dst c 23).val, 0] := by decide +kernel
theorem drn_at24 : ∀ c : Dev nD, (k0_cond65 c = 1#1 ↔ dst c 24 ≠ c) ∧ k0_off158 c = ![128 * (dst c 24).val, 0] := by decide +kernel
theorem drn_at25 : ∀ c : Dev nD, (k0_cond66 c = 1#1 ↔ dst c 25 ≠ c) ∧ k0_off160 c = ![128 * (dst c 25).val, 0] := by decide +kernel
theorem drn_at26 : ∀ c : Dev nD, (k0_cond67 c = 1#1 ↔ dst c 26 ≠ c) ∧ k0_off162 c = ![128 * (dst c 26).val, 0] := by decide +kernel
theorem drn_at27 : ∀ c : Dev nD, (k0_cond68 c = 1#1 ↔ dst c 27 ≠ c) ∧ k0_off164 c = ![128 * (dst c 27).val, 0] := by decide +kernel
theorem drn_at28 : ∀ c : Dev nD, (k0_cond69 c = 1#1 ↔ dst c 28 ≠ c) ∧ k0_off166 c = ![128 * (dst c 28).val, 0] := by decide +kernel
theorem drn_at29 : ∀ c : Dev nD, (k0_cond70 c = 1#1 ↔ dst c 29 ≠ c) ∧ k0_off168 c = ![128 * (dst c 29).val, 0] := by decide +kernel
theorem drn_at30 : ∀ c : Dev nD, (k0_cond71 c = 1#1 ↔ dst c 30 ≠ c) ∧ k0_off170 c = ![128 * (dst c 30).val, 0] := by decide +kernel
theorem drn_at31 : ∀ c : Dev nD, (k0_cond72 c = 1#1 ↔ dst c 31 ≠ c) ∧ k0_off172 c = ![128 * (dst c 31).val, 0] := by decide +kernel

end Cert.KernelIdeal.Exchange
-- ==== Proof.KI.Parts.lean ====
/-
  The kernel's stretches of signals, sends and recoveries, each as the program prints it: from the exchange's state at the
  stretch's first step to its state after the last.
-/
module

public import proofs.«01_k».proof.Proof.KI.Steps
public import proofs.«01_k».proof.Proof.KI.Closed
public import proofs.«01_k».proof.Proof.Gen.KernelIdeal.Skeleton

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

variable (X : Cols (F := F)) (K : GSem nD τ sig → ℕ) (c : Dev nD) (R : sProp (MT nD τ sig Unit (Elt F) ℕ UU ℕ))
variable (i : grid0.Coords) (arg1 : Memref sig .tc .smem S8 .i32) (harg1 : arg1.IsWhole)
  (arg2 : Memref sig .tc .vmem S4096x128 .fp8e4m3) (harg2 : arg2.IsWhole) (arg3 : Memref sig .tc .vmem S512x8192 .fp8e4m3) (harg3 : arg3.IsWhole)
  (arg4 : Memref sig .tc .smem S1 .f32) (harg4 : arg4.IsWhole) (arg5 : Memref sig .tc .smem S1 .f32) (harg5 : arg5.IsWhole)
  (arg6 : Memref sig .tc .vmem S128x8192 .f32) (harg6 : arg6.IsWhole)
  (h7 : (Memref.whole cc0_scratch0 : Memref sig .tc .vmem S4096x128 .fp8e4m3).IsWhole) (h8 : (Memref.whole cc0_scratch1 : Memref sig .tc .vmem S128x4096 .fp8e4m3).IsWhole)

set_option allowUnsafeReducibility true in
attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24 k0_cond25 k0_cond26 k0_cond27 k0_cond28 k0_cond29 k0_cond30 k0_cond31 k0_cond32 k0_cond33 k0_cond41 k0_cond42 k0_cond43 k0_cond44 k0_cond45 k0_cond46 k0_cond47 k0_cond48 k0_cond49 k0_cond50 k0_cond51 k0_cond52 k0_cond53 k0_cond54 k0_cond55 k0_cond56 k0_cond57 k0_cond58 k0_cond59 k0_cond60 k0_cond61 k0_cond62 k0_cond63 k0_cond64 k0_cond65 k0_cond66 k0_cond67 k0_cond68 k0_cond69 k0_cond70 k0_cond71 k0_cond72 k0_dev1 k0_dev2 k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27 k0_dev28 k0_dev29 k0_dev30 k0_dev31 k0_dev32 k0_dev33 k0_dev34 k0_dev35 k0_dev36 k0_dev37 k0_dev38 k0_dev39 k0_dev40 k0_dev41 k0_dev42 k0_dev43 k0_dev44 k0_dev45 k0_dev46 k0_dev47 k0_dev48 k0_dev49 k0_dev50 k0_dev51 k0_dev52 k0_dev53 k0_dev54 k0_dev55 k0_dev56 k0_dev57 k0_dev58 k0_dev59 k0_dev60 k0_dev61 k0_dev62 k0_dev63 k0_off3 k0_off4 k0_off5 k0_off6 k0_off7 k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37 k0_off38 k0_off39 k0_off40 k0_off41 k0_off42 k0_off43 k0_off44 k0_off45 k0_off46 k0_off47 k0_off48 k0_off49 k0_off50 k0_off51 k0_off52 k0_off53 k0_off54 k0_off55 k0_off56 k0_off57 k0_off58 k0_off59 k0_off60 k0_off61 k0_off62 k0_off63 k0_off64 k0_off65 k0_off66 k0_off67 k0_off68 k0_off69 k0_off70 k0_off71 k0_off72 k0_off73 k0_off74 k0_off75 k0_off76 k0_off77 k0_off78 k0_off79 k0_off80 k0_off81 k0_off82 k0_off83 k0_off84 k0_off85 k0_off86 k0_off87 k0_off88 k0_off89 k0_off90 k0_off91 k0_off92 k0_off93 k0_off94 k0_off95 k0_off96 k0_off97 k0_off98 k0_off99 k0_off100 k0_off110 k0_off111 k0_off112 k0_off113 k0_off114 k0_off115 k0_off116 k0_off117 k0_off118 k0_off119 k0_off120 k0_off121 k0_off122 k0_off123 k0_off124 k0_off125 k0_off126 k0_off127 k0_off128 k0_off129 k0_off130 k0_off131 k0_off132 k0_off133 k0_off134 k0_off135 k0_off136 k0_off137 k0_off138 k0_off139 k0_off140 k0_off141 k0_off142 k0_off143 k0_off144 k0_off145 k0_off146 k0_off147 k0_off148 k0_off149 k0_off150 k0_off151 k0_off152 k0_off153 k0_off154 k0_off155 k0_off156 k0_off157 k0_off158 k0_off159 k0_off160 k0_off161 k0_off162 k0_off163 k0_off164 k0_off165 k0_off166 k0_off167 k0_off168 k0_off169 k0_off170 k0_off171 k0_off172 k0_off173

/-- A stretch has returned. -/
theorem wp_done {α : Type} {P : sProp (MT nD τ sig Unit (Elt F) ℕ UU ℕ)} {Q : α → sProp (MT nD τ sig Unit (Elt F) ℕ UU ℕ)} (a : α) (h : P ⊢ Q a) :
    P ⊢ wp frame (wpE (defs₀ (F := F)) 𝒱₀ c none) Set.univ (pure a : Prog (TpuEff nD τ sig (Elt F) Λ₀ .tc) α) Q := by
  rw [wp_pure]; exact h.trans fupd_intro

/-- Signals 4 to 9. -/
theorem part2 (v2 : BitVec 32) (k0_h1 : k0_cond1 i = 1#1) (w1 : BitVec 32) (w2 : BitVec 32) {Q} (rest : ∀ v, iprop(sgnSt X K c 10 ∗ R) ⊢ Q v) :
    iprop(sgnSt X K c 4 ∗ R) ⊢ wp frame (wpE (defs₀ (F := F)) 𝒱₀ c none) Set.univ
      (k0_part2 i arg1 harg1 arg2 harg2 arg3 harg3 arg4 harg4 arg5 harg5 arg6 harg6 (Memref.whole cc0_scratch0) h7 (Memref.whole cc0_scratch1) h8 cc0_scratch2 cc0_scratch3 c v2 k0_h1 (SemArray.scalar (sig.barrier 0 rfl)) w1 w2) Q := by
  rw [k0_part2_eq_skeleton]; unfold k0_part2_skel
  refine sgn_step X K c R 4 (by decide) ((by decide +kernel : ∀ c : Dev nD, k0_dev4 c = (nxt c 4).val) c) rfl ?_
  refine sgn_step X K c R 5 (by decide) ((by decide +kernel : ∀ c : Dev nD, k0_dev5 c = (nxt c 5).val) c) rfl ?_
  refine sgn_step X K c R 6 (by decide) ((by decide +kernel : ∀ c : Dev nD, k0_dev6 c = (nxt c 6).val) c) rfl ?_
  refine sgn_step X K c R 7 (by decide) ((by decide +kernel : ∀ c : Dev nD, k0_dev7 c = (nxt c 7).val) c) rfl ?_
  refine sgn_step X K c R 8 (by decide) ((by decide +kernel : ∀ c : Dev nD, k0_dev8 c = (nxt c 8).val) c) rfl ?_
  refine sgn_step X K c R 9 (by decide) ((by decide +kernel : ∀ c : Dev nD, k0_dev9 c = (nxt c 9).val) c) rfl ?_
  exact wp_done c _ (rest _)

/-- Signals 10 to 15. -/
theorem part3 (v2 : BitVec 32) (k0_h1 : k0_cond1 i = 1#1) (w1 : BitVec 32) (w2 : BitVec 32) {Q} (rest : ∀ v, iprop(sgnSt X K c 16 ∗ R) ⊢ Q v) :
    iprop(sgnSt X K c 10 ∗ R) ⊢ wp frame (wpE (defs₀ (F := F)) 𝒱₀ c none) Set.univ
      (k0_part3 i arg1 harg1 arg2 harg2 arg3 harg3 arg4 harg4 arg5 harg5 arg6 harg6 (Memref.whole cc0_scratch0) h7 (Memref.whole cc0_scratch1) h8 cc0_scratch2 cc0_scratch3 c v2 k0_h1 (SemArray.scalar (sig.barrier 0 rfl)) w1 w2) Q := by
  rw [k0_part3_eq_skeleton]; unfold k0_part3_skel
  refine sgn_step X K c R 10 (by decide) ((by decide +kernel : ∀ c : Dev nD, k0_dev10 c = (nxt c 10).val) c) rfl ?_
  refine sgn_step X K c R 11 (by decide) ((by decide +kernel : ∀ c : Dev nD, k0_dev11 c = (nxt c 11).val) c) rfl ?_
  refine sgn_step X K c R 12 (by decide) ((by decide +kernel : ∀ c : Dev nD, k0_dev12 c = (nxt c 12).val) c) rfl ?_
  refine sgn_step X K c R 13 (by decide) ((by decide +kernel : ∀ c : Dev nD, k0_dev13 c = (nxt c 13).val) c) rfl ?_
  refine sgn_step X K c R 14 (by decide) ((by decide +kernel : ∀ c : Dev nD, k0_dev14 c = (nxt c 14).val) c) rfl ?_
  refine sgn_step X K c R 15 (by decide) ((by decide +kernel : ∀ c : Dev nD, k0_dev15 c = (nxt c 15).val) c) rfl ?_
  exact wp_done c _ (rest _)

/-- Signals 16 to 21. -/
theorem part4 (v2 : BitVec 32) (k0_h1 : k0_cond1 i = 1#1) (w1 : BitVec 32) (w2 : BitVec 32) {Q} (rest : ∀ v, iprop(sgnSt X K c 22 ∗ R) ⊢ Q v) :
    iprop(sgnSt X K c 16 ∗ R) ⊢ wp frame (wpE (defs₀ (F := F)) 𝒱₀ c none) Set.univ
      (k0_part4 i arg1 harg1 arg2 harg2 arg3 harg3 arg4 harg4 arg5 harg5 arg6 harg6 (Memref.whole cc0_scratch0) h7 (Memref.whole cc0_scratch1) h8 cc0_scratch2 cc0_scratch3 c v2 k0_h1 (SemArray.scalar (sig.barrier 0 rfl)) w1 w2) Q := by
  rw [k0_part4_eq_skeleton]; unfold k0_part4_skel
  refine sgn_step X K c R 16 (by decide) ((by decide +kernel : ∀ c : Dev nD, k0_dev16 c = (nxt c 16).val) c) rfl ?_
  refine sgn_step X K c R 17 (by decide) ((by decide +kernel : ∀ c : Dev nD, k0_dev17 c = (nxt c 17).val) c) rfl ?_
  refine sgn_step X K c R 18 (by decide) ((by decide +kernel : ∀ c : Dev nD, k0_dev18 c = (nxt c 18).val) c) rfl ?_
  refine sgn_step X K c R 19 (by decide) ((by decide +kernel : ∀ c : Dev nD, k0_dev19 c = (nxt c 19).val) c) rfl ?_
  refine sgn_step X K c R 20 (by decide) ((by decide +kernel : ∀ c : Dev nD, k0_dev20 c = (nxt c 20).val) c) rfl ?_
  refine sgn_step X K c R 21 (by decide) ((by decide +kernel : ∀ c : Dev nD, k0_dev21 c = (nxt c 21).val) c) rfl ?_
  exact wp_done c _ (rest _)

/-- Signals 22 to 27. -/
theorem part5 (v2 : BitVec 32) (k0_h1 : k0_cond1 i = 1#1) (w1 : BitVec 32) (w2 : BitVec 32) {Q} (rest : ∀ v, iprop(sgnSt X K c 28 ∗ R) ⊢ Q v) :
    iprop(sgnSt X K c 22 ∗ R) ⊢ wp frame (wpE (defs₀ (F := F)) 𝒱₀ c none) Set.univ
      (k0_part5 i arg1 harg1 arg2 harg2 arg3 harg3 arg4 harg4 arg5 harg5 arg6 harg6 (Memref.whole cc0_scratch0) h7 (Memref.whole cc0_scratch1) h8 cc0_scratch2 cc0_scratch3 c v2 k0_h1 (SemArray.scalar (sig.barrier 0 rfl)) w1 w2) Q := by
  rw [k0_part5_eq_skeleton]; unfold k0_part5_skel
  refine sgn_step X K c R 22 (by decide) ((by decide +kernel : ∀ c : Dev nD, k0_dev22 c = (nxt c 22).val) c) rfl ?_
  refine sgn_step X K c R 23 (by decide) ((by decide +kernel : ∀ c : Dev nD, k0_dev23 c = (nxt c 23).val) c) rfl ?_
  refine sgn_step X K c R 24 (by decide) ((by decide +kernel : ∀ c : Dev nD, k0_dev24 c = (nxt c 24).val) c) rfl ?_
  refine sgn_step X K c R 25 (by decide) ((by decide +kernel : ∀ c : Dev nD, k0_dev25 c = (nxt c 25).val) c) rfl ?_
  refine sgn_step X K c R 26 (by decide) ((by decide +kernel : ∀ c : Dev nD, k0_dev26 c = (nxt c 26).val) c) rfl ?_
  refine sgn_step X K c R 27 (by decide) ((by decide +kernel : ∀ c : Dev nD, k0_dev27 c = (nxt c 27).val) c) rfl ?_
  exact wp_done c _ (rest _)

/-- The last signals, the wait for the peers', and the first send. -/
theorem part6 (v2 v3 : BitVec 32) (k0_h1 : k0_cond1 i = 1#1) (w1 w2 : BitVec 32) {Q} (rest : ∀ v, iprop(sndSt X K c 1 ∗ don X (barCell c) ∗ R) ⊢ Q v) :
    iprop(sgnSt X K c 28 ∗ (cred (tallyAt (barCell c) () 31) ∗ atPos ER (barCell c) 0 ∅ 0 ∗ bigSep Finset.univ (pre X c)) ∗ R)
      ⊢ wp frame (wpE (defs₀ (F := F)) 𝒱₀ c none) Set.univ
      (k0_part6 i arg1 harg1 arg2 harg2 arg3 harg3 arg4 harg4 arg5 harg5 arg6 harg6 (Memref.whole cc0_scratch0) h7 (Memref.whole cc0_scratch1) h8 cc0_scratch2 cc0_scratch3 c v2 v3 k0_h1 (SemArray.scalar (sig.barrier 0 rfl)) w1 w2) Q := by
  rw [k0_part6_eq_skeleton]; unfold k0_part6_skel
  refine sgn_step X K c (iprop((cred (tallyAt (barCell c) () 31) ∗ atPos ER (barCell c) 0 ∅ 0 ∗ bigSep Finset.univ (pre X c)) ∗ R)) 28 (by decide) ((by decide +kernel : ∀ c : Dev nD, k0_dev28 c = (nxt c 28).val) c) rfl ?_
  refine sgn_step X K c (iprop((cred (tallyAt (barCell c) () 31) ∗ atPos ER (barCell c) 0 ∅ 0 ∗ bigSep Finset.univ (pre X c)) ∗ R)) 29 (by decide) ((by decide +kernel : ∀ c : Dev nD, k0_dev29 c = (nxt c 29).val) c) rfl ?_
  refine sgn_step X K c (iprop((cred (tallyAt (barCell c) () 31) ∗ atPos ER (barCell c) 0 ∅ 0 ∗ bigSep Finset.univ (pre X c)) ∗ R)) 30 (by decide) ((by decide +kernel : ∀ c : Dev nD, k0_dev30 c = (nxt c 30).val) c) rfl ?_
  refine sgn_step X K c (iprop((cred (tallyAt (barCell c) () 31) ∗ atPos ER (barCell c) 0 ∅ 0 ∗ bigSep Finset.univ (pre X c)) ∗ R)) 31 (by decide) ((by decide +kernel : ∀ c : Dev nD, k0_dev31 c = (nxt c 31).val) c) rfl ?_
  refine bar_step X K c R rfl ?_
  refine snd_step X K c (iprop(don X (barCell c) ∗ R)) 0 (by decide) (snd_at0 c).1 rfl (snd_at0 c).2.1 (snd_at0 c).2.2.1 (snd_at0 c).2.2.2.1 (fun _ => (snd_at0 c).2.2.2.2) ?_
  exact wp_done c _ (rest _)

/-- Sends 1 to 6. -/
theorem part7 (v2 v3 : BitVec 32) (k0_h1 : k0_cond1 i = 1#1) (w1 : BitVec 32) (w2 : BitVec 32) {Q} (rest : ∀ v, iprop(sndSt X K c 7 ∗ R) ⊢ Q v) :
    iprop(sndSt X K c 1 ∗ R) ⊢ wp frame (wpE (defs₀ (F := F)) 𝒱₀ c none) Set.univ
      (k0_part7 i arg1 harg1 arg2 harg2 arg3 harg3 arg4 harg4 arg5 harg5 arg6 harg6 (Memref.whole cc0_scratch0) h7 (Memref.whole cc0_scratch1) h8 cc0_scratch2 cc0_scratch3 c v2 v3 k0_h1 w1 w2) Q := by
  rw [k0_part7_eq_skeleton]; unfold k0_part7_skel
  refine snd_step X K c R 1 (by decide) (snd_at1 c).1 rfl (snd_at1 c).2.1 (snd_at1 c).2.2.1 (snd_at1 c).2.2.2.1 (fun _ => (snd_at1 c).2.2.2.2) ?_
  refine snd_step X K c R 2 (by decide) (snd_at2 c).1 rfl (snd_at2 c).2.1 (snd_at2 c).2.2.1 (snd_at2 c).2.2.2.1 (fun _ => (snd_at2 c).2.2.2.2) ?_
  refine snd_step X K c R 3 (by decide) (snd_at3 c).1 rfl (snd_at3 c).2.1 (snd_at3 c).2.2.1 (snd_at3 c).2.2.2.1 (fun _ => (snd_at3 c).2.2.2.2) ?_
  refine snd_step X K c R 4 (by decide) (snd_at4 c).1 rfl (snd_at4 c).2.1 (snd_at4 c).2.2.1 (snd_at4 c).2.2.2.1 (fun _ => (snd_at4 c).2.2.2.2) ?_
  refine snd_step X K c R 5 (by decide) (snd_at5 c).1 rfl (snd_at5 c).2.1 (snd_at5 c).2.2.1 (snd_at5 c).2.2.2.1 (fun _ => (snd_at5 c).2.2.2.2) ?_
  refine snd_step X K c R 6 (by decide) (snd_at6 c).1 rfl (snd_at6 c).2.1 (snd_at6 c).2.2.1 (snd_at6 c).2.2.2.1 (fun _ => (snd_at6 c).2.2.2.2) ?_
  exact wp_done c _ (rest _)

/-- Sends 7 to 12. -/
theorem part8 (v2 v3 : BitVec 32) (k0_h1 : k0_cond1 i = 1#1) (w1 : BitVec 32) {Q} (rest : ∀ v, iprop(sndSt X K c 13 ∗ R) ⊢ Q v) :
    iprop(sndSt X K c 7 ∗ R) ⊢ wp frame (wpE (defs₀ (F := F)) 𝒱₀ c none) Set.univ
      (k0_part8 i arg1 harg1 arg2 harg2 arg3 harg3 arg4 harg4 arg5 harg5 arg6 harg6 (Memref.whole cc0_scratch0) h7 (Memref.whole cc0_scratch1) h8 cc0_scratch2 cc0_scratch3 c v2 v3 k0_h1 w1) Q := by
  rw [k0_part8_eq_skeleton]; unfold k0_part8_skel
  refine snd_step X K c R 7 (by decide) (snd_at7 c).1 rfl (snd_at7 c).2.1 (snd_at7 c).2.2.1 (snd_at7 c).2.2.2.1 (fun _ => (snd_at7 c).2.2.2.2) ?_
  refine snd_step X K c R 8 (by decide) (snd_at8 c).1 rfl (snd_at8 c).2.1 (snd_at8 c).2.2.1 (snd_at8 c).2.2.2.1 (fun _ => (snd_at8 c).2.2.2.2) ?_
  refine snd_step X K c R 9 (by decide) (snd_at9 c).1 rfl (snd_at9 c).2.1 (snd_at9 c).2.2.1 (snd_at9 c).2.2.2.1 (fun _ => (snd_at9 c).2.2.2.2) ?_
  refine snd_step X K c R 10 (by decide) (snd_at10 c).1 rfl (snd_at10 c).2.1 (snd_at10 c).2.2.1 (snd_at10 c).2.2.2.1 (fun _ => (snd_at10 c).2.2.2.2) ?_
  refine snd_step X K c R 11 (by decide) (snd_at11 c).1 rfl (snd_at11 c).2.1 (snd_at11 c).2.2.1 (snd_at11 c).2.2.2.1 (fun _ => (snd_at11 c).2.2.2.2) ?_
  refine snd_step X K c R 12 (by decide) (snd_at12 c).1 rfl (snd_at12 c).2.1 (snd_at12 c).2.2.1 (snd_at12 c).2.2.2.1 (fun _ => (snd_at12 c).2.2.2.2) ?_
  exact wp_done c _ (rest _)

/-- Sends 13 to 18. -/
theorem part9 (v2 v3 : BitVec 32) (k0_h1 : k0_cond1 i = 1#1) (w1 : BitVec 32) (w2 : BitVec 32) {Q} (rest : ∀ v, iprop(sndSt X K c 19 ∗ R) ⊢ Q v) :
    iprop(sndSt X K c 13 ∗ R) ⊢ wp frame (wpE (defs₀ (F := F)) 𝒱₀ c none) Set.univ
      (k0_part9 i arg1 harg1 arg2 harg2 arg3 harg3 arg4 harg4 arg5 harg5 arg6 harg6 (Memref.whole cc0_scratch0) h7 (Memref.whole cc0_scratch1) h8 cc0_scratch2 cc0_scratch3 c v2 v3 k0_h1 w1 w2) Q := by
  rw [k0_part9_eq_skeleton]; unfold k0_part9_skel
  refine snd_step X K c R 13 (by decide) (snd_at13 c).1 rfl (snd_at13 c).2.1 (snd_at13 c).2.2.1 (snd_at13 c).2.2.2.1 (fun _ => (snd_at13 c).2.2.2.2) ?_
  refine snd_step X K c R 14 (by decide) (snd_at14 c).1 rfl (snd_at14 c).2.1 (snd_at14 c).2.2.1 (snd_at14 c).2.2.2.1 (fun _ => (snd_at14 c).2.2.2.2) ?_
  refine snd_step X K c R 15 (by decide) (snd_at15 c).1 rfl (snd_at15 c).2.1 (snd_at15 c).2.2.1 (snd_at15 c).2.2.2.1 (fun _ => (snd_at15 c).2.2.2.2) ?_
  refine snd_step X K c R 16 (by decide) (snd_at16 c).1 rfl (snd_at16 c).2.1 (snd_at16 c).2.2.1 (snd_at16 c).2.2.2.1 (fun _ => (snd_at16 c).2.2.2.2) ?_
  refine snd_step X K c R 17 (by decide) (snd_at17 c).1 rfl (snd_at17 c).2.1 (snd_at17 c).2.2.1 (snd_at17 c).2.2.2.1 (fun _ => (snd_at17 c).2.2.2.2) ?_
  refine snd_step X K c R 18 (by decide) (snd_at18 c).1 rfl (snd_at18 c).2.1 (snd_at18 c).2.2.1 (snd_at18 c).2.2.2.1 (fun _ => (snd_at18 c).2.2.2.2) ?_
  exact wp_done c _ (rest _)

/-- Sends 19 to 23. -/
theorem part10 (v2 v3 : BitVec 32) (k0_h1 : k0_cond1 i = 1#1) (w1 : BitVec 32) {Q} (rest : ∀ v, iprop(sndSt X K c 24 ∗ R) ⊢ Q v) :
    iprop(sndSt X K c 19 ∗ R) ⊢ wp frame (wpE (defs₀ (F := F)) 𝒱₀ c none) Set.univ
      (k0_part10 i arg1 harg1 arg2 harg2 arg3 harg3 arg4 harg4 arg5 harg5 arg6 harg6 (Memref.whole cc0_scratch0) h7 (Memref.whole cc0_scratch1) h8 cc0_scratch2 cc0_scratch3 c v2 v3 k0_h1 w1) Q := by
  rw [k0_part10_eq_skeleton]; unfold k0_part10_skel
  refine snd_step X K c R 19 (by decide) (snd_at19 c).1 rfl (snd_at19 c).2.1 (snd_at19 c).2.2.1 (snd_at19 c).2.2.2.1 (fun _ => (snd_at19 c).2.2.2.2) ?_
  refine snd_step X K c R 20 (by decide) (snd_at20 c).1 rfl (snd_at20 c).2.1 (snd_at20 c).2.2.1 (snd_at20 c).2.2.2.1 (fun _ => (snd_at20 c).2.2.2.2) ?_
  refine snd_step X K c R 21 (by decide) (snd_at21 c).1 rfl (snd_at21 c).2.1 (snd_at21 c).2.2.1 (snd_at21 c).2.2.2.1 (fun _ => (snd_at21 c).2.2.2.2) ?_
  refine snd_step X K c R 22 (by decide) (snd_at22 c).1 rfl (snd_at22 c).2.1 (snd_at22 c).2.2.1 (snd_at22 c).2.2.2.1 (fun _ => (snd_at22 c).2.2.2.2) ?_
  refine snd_step X K c R 23 (by decide) (snd_at23 c).1 rfl (snd_at23 c).2.1 (snd_at23 c).2.2.1 (snd_at23 c).2.2.2.1 (fun _ => (snd_at23 c).2.2.2.2) ?_
  exact wp_done c _ (rest _)

/-- Sends 24 to 29. -/
theorem part11 (v2 v3 : BitVec 32) (k0_h1 : k0_cond1 i = 1#1) (w1 : BitVec 32) (w2 : BitVec 32) (w3 : BitVec 1) {Q} (rest : ∀ v, iprop(sndSt X K c 30 ∗ R) ⊢ Q v) :
    iprop(sndSt X K c 24 ∗ R) ⊢ wp frame (wpE (defs₀ (F := F)) 𝒱₀ c none) Set.univ
      (k0_part11 i arg1 harg1 arg2 harg2 arg3 harg3 arg4 harg4 arg5 harg5 arg6 harg6 (Memref.whole cc0_scratch0) h7 (Memref.whole cc0_scratch1) h8 cc0_scratch2 cc0_scratch3 c v2 v3 k0_h1 w1 w2 w3) Q := by
  rw [k0_part11_eq_skeleton]; unfold k0_part11_skel
  refine snd_step X K c R 24 (by decide) (snd_at24 c).1 rfl (snd_at24 c).2.1 (snd_at24 c).2.2.1 (snd_at24 c).2.2.2.1 (fun _ => (snd_at24 c).2.2.2.2) ?_
  refine snd_step X K c R 25 (by decide) (snd_at25 c).1 rfl (snd_at25 c).2.1 (snd_at25 c).2.2.1 (snd_at25 c).2.2.2.1 (fun _ => (snd_at25 c).2.2.2.2) ?_
  refine snd_step X K c R 26 (by decide) (snd_at26 c).1 rfl (snd_at26 c).2.1 (snd_at26 c).2.2.1 (snd_at26 c).2.2.2.1 (fun _ => (snd_at26 c).2.2.2.2) ?_
  refine snd_step X K c R 27 (by decide) (snd_at27 c).1 rfl (snd_at27 c).2.1 (snd_at27 c).2.2.1 (snd_at27 c).2.2.2.1 (fun _ => (snd_at27 c).2.2.2.2) ?_
  refine snd_step X K c R 28 (by decide) (snd_at28 c).1 rfl (snd_at28 c).2.1 (snd_at28 c).2.2.1 (snd_at28 c).2.2.2.1 (fun _ => (snd_at28 c).2.2.2.2) ?_
  refine snd_step X K c R 29 (by decide) (snd_at29 c).1 rfl (snd_at29 c).2.1 (snd_at29 c).2.2.1 (snd_at29 c).2.2.2.1 (fun _ => (snd_at29 c).2.2.2.2) ?_
  exact wp_done c _ (rest _)

/-- Recoveries 4 to 8. -/
theorem part13 (v2 v3 : BitVec 32) (k0_h40 : k0_cond40 i = 1#1) (w1 : BitVec 32) {Q} (rest : ∀ v, iprop(drnSt X K c 9 ∗ R) ⊢ Q v) :
    iprop(drnSt X K c 4 ∗ R) ⊢ wp frame (wpE (defs₀ (F := F)) 𝒱₀ c none) Set.univ
      (k0_part13 i arg1 harg1 arg2 harg2 arg3 harg3 arg4 harg4 arg5 harg5 arg6 harg6 (Memref.whole cc0_scratch0) h7 (Memref.whole cc0_scratch1) h8 cc0_scratch2 cc0_scratch3 c v2 v3 k0_h40 w1) Q := by
  rw [k0_part13_eq_skeleton]; unfold k0_part13_skel
  refine drn_step X K c R 4 (by decide) (drn_at4 c).1 rfl (drn_at4 c).2 ?_
  refine drn_step X K c R 5 (by decide) (drn_at5 c).1 rfl (drn_at5 c).2 ?_
  refine drn_step X K c R 6 (by decide) (drn_at6 c).1 rfl (drn_at6 c).2 ?_
  refine drn_step X K c R 7 (by decide) (drn_at7 c).1 rfl (drn_at7 c).2 ?_
  refine drn_step X K c R 8 (by decide) (drn_at8 c).1 rfl (drn_at8 c).2 ?_
  exact wp_done c _ (rest _)

/-- Recoveries 9 to 14. -/
theorem part14 (v2 v3 : BitVec 32) (k0_h40 : k0_cond40 i = 1#1) (w1 : BitVec 32) (w2 : BitVec 32) {Q} (rest : ∀ v, iprop(drnSt X K c 15 ∗ R) ⊢ Q v) :
    iprop(drnSt X K c 9 ∗ R) ⊢ wp frame (wpE (defs₀ (F := F)) 𝒱₀ c none) Set.univ
      (k0_part14 i arg1 harg1 arg2 harg2 arg3 harg3 arg4 harg4 arg5 harg5 arg6 harg6 (Memref.whole cc0_scratch0) h7 (Memref.whole cc0_scratch1) h8 cc0_scratch2 cc0_scratch3 c v2 v3 k0_h40 w1 w2) Q := by
  rw [k0_part14_eq_skeleton]; unfold k0_part14_skel
  refine drn_step X K c R 9 (by decide) (drn_at9 c).1 rfl (drn_at9 c).2 ?_
  refine drn_step X K c R 10 (by decide) (drn_at10 c).1 rfl (drn_at10 c).2 ?_
  refine drn_step X K c R 11 (by decide) (drn_at11 c).1 rfl (drn_at11 c).2 ?_
  refine drn_step X K c R 12 (by decide) (drn_at12 c).1 rfl (drn_at12 c).2 ?_
  refine drn_step X K c R 13 (by decide) (drn_at13 c).1 rfl (drn_at13 c).2 ?_
  refine drn_step X K c R 14 (by decide) (drn_at14 c).1 rfl (drn_at14 c).2 ?_
  exact wp_done c _ (rest _)

/-- Recoveries 15 to 19. -/
theorem part15 (v2 v3 : BitVec 32) (k0_h40 : k0_cond40 i = 1#1) (w1 : BitVec 32) {Q} (rest : ∀ v, iprop(drnSt X K c 20 ∗ R) ⊢ Q v) :
    iprop(drnSt X K c 15 ∗ R) ⊢ wp frame (wpE (defs₀ (F := F)) 𝒱₀ c none) Set.univ
      (k0_part15 i arg1 harg1 arg2 harg2 arg3 harg3 arg4 harg4 arg5 harg5 arg6 harg6 (Memref.whole cc0_scratch0) h7 (Memref.whole cc0_scratch1) h8 cc0_scratch2 cc0_scratch3 c v2 v3 k0_h40 w1) Q := by
  rw [k0_part15_eq_skeleton]; unfold k0_part15_skel
  refine drn_step X K c R 15 (by decide) (drn_at15 c).1 rfl (drn_at15 c).2 ?_
  refine drn_step X K c R 16 (by decide) (drn_at16 c).1 rfl (drn_at16 c).2 ?_
  refine drn_step X K c R 17 (by decide) (drn_at17 c).1 rfl (drn_at17 c).2 ?_
  refine drn_step X K c R 18 (by decide) (drn_at18 c).1 rfl (drn_at18 c).2 ?_
  refine drn_step X K c R 19 (by decide) (drn_at19 c).1 rfl (drn_at19 c).2 ?_
  exact wp_done c _ (rest _)

/-- Recoveries 20 to 25. -/
theorem part16 (v2 v3 : BitVec 32) (k0_h40 : k0_cond40 i = 1#1) (w1 : BitVec 32) (w2 : BitVec 32) (w3 : BitVec 32) (w4 : BitVec 32) {Q} (rest : ∀ v, iprop(drnSt X K c 26 ∗ R) ⊢ Q v) :
    iprop(drnSt X K c 20 ∗ R) ⊢ wp frame (wpE (defs₀ (F := F)) 𝒱₀ c none) Set.univ
      (k0_part16 i arg1 harg1 arg2 harg2 arg3 harg3 arg4 harg4 arg5 harg5 arg6 harg6 (Memref.whole cc0_scratch0) h7 (Memref.whole cc0_scratch1) h8 cc0_scratch2 cc0_scratch3 c v2 v3 k0_h40 w1 w2 w3 w4) Q := by
  rw [k0_part16_eq_skeleton]; unfold k0_part16_skel
  refine drn_step X K c R 20 (by decide) (drn_at20 c).1 rfl (drn_at20 c).2 ?_
  refine drn_step X K c R 21 (by decide) (drn_at21 c).1 rfl (drn_at21 c).2 ?_
  refine drn_step X K c R 22 (by decide) (drn_at22 c).1 rfl (drn_at22 c).2 ?_
  refine drn_step X K c R 23 (by decide) (drn_at23 c).1 rfl (drn_at23 c).2 ?_
  refine drn_step X K c R 24 (by decide) (drn_at24 c).1 rfl (drn_at24 c).2 ?_
  refine drn_step X K c R 25 (by decide) (drn_at25 c).1 rfl (drn_at25 c).2 ?_
  exact wp_done c _ (rest _)

end Cert.KernelIdeal.Exchange
-- ==== Proof.KI.Mem.lean ====
/-
  Loads and stores of whole memrefs, one at a time, in the form the steps of the exchange have: what the access does to
  the memref it reads or writes, with everything else riding along in `R`.
-/
module

public import proofs.«01_k».proof.Proof.KI.Steps

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (c : Dev nD) {α : Type} {Q : α → sProp (MT nD τ sig Unit (Elt F) ℕ UU ℕ)} (R : sProp (MT nD τ sig Unit (Elt F) ℕ UU ℕ))

/-- The memref's elements, read as `X`. -/
abbrev has {sp : Space} {s : Shape} {e : EltTy} (m : Memref sig .tc sp s e) (X : s.Idx → Elt F e) : sProp (MT nD τ sig Unit (Elt F) ℕ UU ℕ) :=
  owns (c : Thread nD τ) m fullShare X

/-- A load of everything through the memref reads what it holds. -/
theorem ld_step {s : Shape} {e : EltTy} (m : Memref sig .tc .vmem s e) {off : Fin s.rank → ℕ} (hz : off = fun _ => 0)
    {inb : ∀ a, off a + s.size a ≤ s.size a} {hl : m.view.LoadsAt (Rect.unit off s.size inb).toLoadRect} (X : s.Idx → Elt F e)
    {k : (s.Idx → Elt F e) → Prog (TpuEff nD τ sig (Elt F) Λ₀ .tc) α}
    (rest : iprop(has c m X ∗ R) ⊢ wp frame (wpE (defs₀ (F := F)) 𝒱₀ c none) Set.univ (k X) Q) :
    iprop(has c m X ∗ R) ⊢ wp frame (wpE (defs₀ (F := F)) 𝒱₀ c none) Set.univ
      ((Prog.lift (.load m (Rect.unit off s.size inb).toLoadRect hl) : Prog (TpuEff nD τ sig (Elt F) Λ₀ .tc) (s.Idx → Elt F e)) >>= k) Q := by
  subst hz
  show _ ⊢ wp frame (wpE (defs₀ (F := F)) 𝒱₀ c none) Set.univ
    (.op (.load m (Rect.whole s).toLoadRect hl) (fun v => .ret v >>= k)) Q
  unfold has owns
  iintro ⟨⟨%f, %hf, H⟩, HR⟩
  iapply (wp_load 𝒱₀ c none Set.univ (S := m.view.set) (View.setOn_subset_set _ _)) $$ H
  iintro H
  have e : m.view.readAt (Elt F) (Rect.whole s).toLoadRect f = X := by
    rw [← hf]; funext x; rw [View.readAt_apply]; exact congrArg _ (Rect.emb_whole_apply s x)
  rw [e]
  iapply rest
  isplitl [H]
  · unfold has owns; iexists f; isplitr; · ipureintro; exact hf
    iexact H
  · iexact HR

/-- A load of a part reads that part. -/
theorem ldp_step {s : Shape} {e : EltTy} (m : Memref sig .tc .vmem s e) (r : LoadRect s) {hl : m.view.LoadsAt r} (X : s.Idx → Elt F e)
    {k : (r.shape.Idx → Elt F e) → Prog (TpuEff nD τ sig (Elt F) Λ₀ .tc) α}
    (rest : iprop(has c m X ∗ R) ⊢ wp frame (wpE (defs₀ (F := F)) 𝒱₀ c none) Set.univ (k fun x => X (r.idx x)) Q) :
    iprop(has c m X ∗ R) ⊢ wp frame (wpE (defs₀ (F := F)) 𝒱₀ c none) Set.univ
      ((Prog.lift (.load m r hl) : Prog (TpuEff nD τ sig (Elt F) Λ₀ .tc) (r.shape.Idx → Elt F e)) >>= k) Q := by
  show _ ⊢ wp frame (wpE (defs₀ (F := F)) 𝒱₀ c none) Set.univ (.op (.load m r hl) (fun v => .ret v >>= k)) Q
  unfold has owns
  iintro ⟨⟨%f, %hf, H⟩, HR⟩
  iapply (wp_load 𝒱₀ c none Set.univ (S := m.view.set) (View.setOn_subset_set _ _)) $$ H
  iintro H
  rw [show m.view.readAt (Elt F) r f = fun x => X (r.idx x) by rw [← hf]; rfl]
  iapply rest
  isplitl [H]
  · unfold has owns; iexists f; isplitr; · ipureintro; exact hf
    iexact H
  · iexact HR

/-- A store of a part leaves the stored value there. -/
theorem stp_step {s : Shape} {e : EltTy} (m : Memref sig .tc .vmem s e) (r : Rect s) (X : s.Idx → Elt F e) (w : r.shape.Idx → Elt F e) {hx hm}
    {k : PUnit → Prog (TpuEff nD τ sig (Elt F) Λ₀ .tc) α}
    (rest : ∀ Y : s.Idx → Elt F e, (∀ x, Y (r.emb x) = w x) →
      iprop(has c m Y ∗ R) ⊢ wp frame (wpE (defs₀ (F := F)) 𝒱₀ c none) Set.univ (k ⟨⟩) Q) :
    iprop(has c m X ∗ R) ⊢ wp frame (wpE (defs₀ (F := F)) 𝒱₀ c none) Set.univ
      ((Prog.lift (.store m r w Finset.univ hx hm) : Prog (TpuEff nD τ sig (Elt F) Λ₀ .tc) PUnit) >>= k) Q := by
  show _ ⊢ wp frame (wpE (defs₀ (F := F)) 𝒱₀ c none) Set.univ (.op (.store m r w Finset.univ hx hm) (fun v => .ret v >>= k)) Q
  unfold has owns
  iintro ⟨⟨%f, %hf, H⟩, HR⟩
  ihave H := (show ((m.view.loc (c : Thread nD τ) ↦[m.view.set]{fullShare} f) : sProp (MT nD τ sig Unit (Elt F) ℕ UU ℕ))
    ⊢ ((m.access r).loc (c : Thread nD τ) ↦[m.view.set]{fullShare} f) from BI.Entails.refl _) $$ H
  iapply (wp_store 𝒱₀ (c : Thread nD τ) none Set.univ (m := m) (r := r) (S := m.view.set) (Memref.setOn_access_subset _ _ _)) $$ H
  iintro H
  iapply (rest (m.view.read (Elt F) ((m.access r).write (Elt F) f w Finset.univ))
    fun x => View.read_slice_write_emb (v := m.view) (Val := Elt F) r f w (Finset.mem_univ _))
  isplitl [H]
  · unfold has owns; iexists _
    isplitr [H]
    rotate_left
    · iexact H
    · ipureintro; rfl
  · iexact HR

/-- A store of everything through the memref leaves the stored value. -/
theorem st_step {s : Shape} {e : EltTy} (m : Memref sig .tc .vmem s e) {off : Fin s.rank → ℕ} (hz : off = fun _ => 0)
    {inb : ∀ a, off a + s.size a ≤ s.size a} (X Y : s.Idx → Elt F e) {hx hm}
    {k : PUnit → Prog (TpuEff nD τ sig (Elt F) Λ₀ .tc) α}
    (rest : iprop(has c m Y ∗ R) ⊢ wp frame (wpE (defs₀ (F := F)) 𝒱₀ c none) Set.univ (k ⟨⟩) Q) :
    iprop(has c m X ∗ R) ⊢ wp frame (wpE (defs₀ (F := F)) 𝒱₀ c none) Set.univ
      ((Prog.lift (.store m (Rect.unit off s.size inb) Y Finset.univ hx hm) : Prog (TpuEff nD τ sig (Elt F) Λ₀ .tc) PUnit) >>= k) Q := by
  subst hz
  show _ ⊢ wp frame (wpE (defs₀ (F := F)) 𝒱₀ c none) Set.univ
    (.op (.store m (Rect.whole s) Y Finset.univ hx hm) (fun v => .ret v >>= k)) Q
  unfold has owns
  iintro ⟨⟨%f, %hf, H⟩, HR⟩
  ihave H := (show ((m.view.loc (c : Thread nD τ) ↦[m.view.set]{fullShare} f) : sProp (MT nD τ sig Unit (Elt F) ℕ UU ℕ))
    ⊢ ((m.access (Rect.whole s)).loc (c : Thread nD τ) ↦[m.view.set]{fullShare} f) from BI.Entails.refl _) $$ H
  iapply (wp_store 𝒱₀ (c : Thread nD τ) none Set.univ (m := m) (r := Rect.whole s) (S := m.view.set) (Memref.setOn_access_subset _ _ _)) $$ H
  iintro H
  iapply rest
  isplitl [H]
  · unfold has owns; iexists _
    isplitr [H]
    rotate_left
    · iexact H
    · ipureintro
      funext x
      have h := View.read_slice_write_emb (v := m.view) (Val := Elt F) (Rect.whole s) f Y (M := Finset.univ) (x := x) (Finset.mem_univ _)
      rw [Rect.emb_whole_apply] at h
      exact h
  · iexact HR

/-- A load of one word of scalar memory reads that word. -/
theorem sm_step {s : Shape} {e : EltTy} (m : Memref sig .tc .smem s e) (r : Rect s) {h1 : r.shape.numel = 1} {hp : e.packing = 1}
    (X : s.Idx → Elt F e) {k : Elt F e → Prog (TpuEff nD τ sig (Elt F) Λ₀ .tc) α}
    (rest : iprop(has c m X ∗ R) ⊢ wp frame (wpE (defs₀ (F := F)) 𝒱₀ c none) Set.univ
      (k (X (r.emb (Shape.Idx.first (h1.symm ▸ Nat.one_pos))))) Q) :
    iprop(has c m X ∗ R) ⊢ wp frame (wpE (defs₀ (F := F)) 𝒱₀ c none) Set.univ
      ((smemLoad m r h1 hp : Prog (TpuEff nD τ sig (Elt F) Λ₀ .tc) (Elt F e)) >>= k) Q := by
  rw [wp_bind]
  unfold smemLoad has owns
  iintro ⟨⟨%f, %hf, H⟩, HR⟩
  ihave H := (show ((m.view.loc (c : Thread nD τ) ↦[m.view.set]{fullShare} f) : sProp (MT nD τ sig Unit (Elt F) ℕ UU ℕ))
    ⊢ ((m.access r).loc (c : Thread nD τ) ↦[m.view.set]{fullShare} f) from BI.Entails.refl _) $$ H
  iapply (wp_smemLoadElt 𝒱₀ (c : Thread nD τ) none Set.univ (m := m) (r := r) (S := m.view.set) (m.view.set_slice_subset r)) $$ H
  iintro H
  rw [wp_ret]
  iapply fupd_intro
  rw [show (m.access r).read (Elt F) f (Shape.Idx.first (h1.symm ▸ Nat.one_pos)) = X (r.emb (Shape.Idx.first (h1.symm ▸ Nat.one_pos))) by
    rw [← hf]; rfl]
  iapply rest
  isplitl [H]
  · unfold has owns; iexists f; isplitr; · ipureintro; exact hf
    iexact H
  · iexact HR

end Cert.KernelIdeal.Exchange
-- ==== Proof.KI.Start.lean ====
/-
  The first stretch of the kernel: a device copies its own columns of x beside, places its own block among its gathered
  rows, and signals the first three of its peers.
-/
module

public import proofs.«01_k».proof.Proof.KI.Parts
public import proofs.«01_k».proof.Proof.KI.Mem
public import Idealize.ShloMosaic.Lib.Pipeline.Value

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Cols (F := F)) (K : GSem nD τ sig → ℕ) (c : Dev nD) (R : sProp (MT nD τ sig Unit (Elt F) ℕ UU ℕ))

/-- What device `c` holds for its exchange with device `p` when the kernel starts. -/
def ini (p : Dev nD) : sProp 𝕄 :=
  if p ≠ c then iprop((dutyTok ER (barCell p) 0 c ∗ dutyTok ER (recvCell p c) 0 c ∗ dutyTok ER (sendCell c p) 0 c ∗ atPos ER (sendCell c p) 0 ∅ 0)
    ∗ cred (tallyAt (recvCell c p) () N) ∗ atPos ER (recvCell c p) 0 ∅ 0)
  else iprop(don X (sendCell c c) ∗ don X (recvCell c c))

/-- A column block before the exchange: one's own is in place, the others hold anything. -/
def colIni (p : Dev nD) : sProp 𝕄 := if p ≠ c then colAny c p else colPts c c (xtAll X c)

theorem ini_one (p : Dev nD) : iprop(ini X c p ∗ rowPts X c p ∗ colIni X c p) ⊢ iprop(sgn (F := F) c 1 p ∗ pre X c p ∗ rcv X c 0 p) := by
  unfold ini colIni sgn pre rcv
  by_cases h : p ≠ c
  · rw [if_pos h, if_pos h, if_pos ⟨h, off_pos c p h⟩, if_pos h, if_pos ⟨h, Nat.zero_le _⟩]
    iintro ⟨⟨⟨H1, H2, H3, H4⟩, H5, H6⟩, H7, H8⟩
    isplitl [H1 H8]
    · isplitl [H1] <;> iassumption
    isplitr [H5 H6]
    · isplitl [H2]; · iexact H2
      isplitl [H3]; · iexact H3
      isplitl [H7] <;> iassumption
    · isplitl [H5] <;> iassumption
  · rw [if_neg h, if_neg h, if_neg (fun h' => h h'.1), if_neg h, if_neg (fun h' => h h'.1)]
    obtain rfl : p = c := not_not.mp h
    iintro ⟨⟨H1, H2⟩, H7, H8⟩
    isplitr; · iempintro
    isplitl [H1 H7]
    · isplitl [H1] <;> iassumption
    · isplitl [H2] <;> iassumption

theorem ini_split : iprop(bigSep Finset.univ (ini X c) ∗ bigSep Finset.univ (rowPts X c) ∗ bigSep Finset.univ (colIni X c))
    ⊢ iprop(bigSep Finset.univ (sgn (F := F) c 1) ∗ bigSep Finset.univ (pre X c) ∗ bigSep Finset.univ (rcv X c 0)) := by
  rw [← bigSep_sep', ← bigSep_sep', ← bigSep_sep', ← bigSep_sep']
  exact bigSep_mono fun p _ => ini_one X c p

theorem rows_split : has c (Memref.whole cc0_scratch0) (X c) ⊢ bigSep Finset.univ (rowPts X c) := by
  refine (Entails.of_eq (owns_whole (c : Thread nD τ) cc0_scratch0 fullShare (X c))).trans ?_
  refine (Entails.of_eq (Ring.pointsTo_blocks (ℓ := (c : Thread nD τ).loc cc0_scratch0) rowSet (fun p q h => rowSet_disjoint p q h) rowSet_cover (X c))).trans ?_
  exact BI.Entails.refl _

theorem col_one (Y : (⟨S128x4096, .fp8e4m3⟩ : BufTy).Contents (Elt F)) (h : ∀ i ∈ colSet c, Y i = xtAll X c i) (p : Dev nD) :
    colPts c p Y ⊢ colIni X c p := by
  unfold colIni
  by_cases hp : p ≠ c
  · rw [if_pos hp]
    unfold colAny
    iintro H; iexists Y; iexact H
  · rw [if_neg hp]
    obtain rfl : p = c := not_not.mp hp
    exact Entails.of_eq (pointsTo_congr h)

theorem cols_split (Y : (⟨S128x4096, .fp8e4m3⟩ : BufTy).Contents (Elt F)) (h : ∀ i ∈ colSet c, Y i = xtAll X c i) :
    has c (Memref.whole cc0_scratch1) Y ⊢ bigSep Finset.univ (colIni X c) := by
  refine (Entails.of_eq (owns_whole (c : Thread nD τ) cc0_scratch1 fullShare Y)).trans ?_
  refine (Entails.of_eq (Ring.pointsTo_blocks (ℓ := (c : Thread nD τ).loc cc0_scratch1) colSet (fun p q h => colSet_disjoint p q h) colSet_cover Y)).trans ?_
  exact bigSep_mono fun p _ => col_one X c Y h p

variable (i : grid0.Coords) (arg1 : Memref sig .tc .smem S8 .i32) (harg1 : arg1.IsWhole)
  (arg2 : Memref sig .tc .vmem S4096x128 .fp8e4m3) (harg2 : arg2.IsWhole) (arg3 : Memref sig .tc .vmem S512x8192 .fp8e4m3) (harg3 : arg3.IsWhole)
  (arg4 : Memref sig .tc .smem S1 .f32) (harg4 : arg4.IsWhole) (arg5 : Memref sig .tc .smem S1 .f32) (harg5 : arg5.IsWhole)
  (arg6 : Memref sig .tc .vmem S128x8192 .f32) (harg6 : arg6.IsWhole)
  (h7 : (Memref.whole cc0_scratch0 : Memref sig .tc .vmem S4096x128 .fp8e4m3).IsWhole) (h8 : (Memref.whole cc0_scratch1 : Memref sig .tc .vmem S128x4096 .fp8e4m3).IsWhole)

theorem zz : (![0, 0] : Fin 2 → ℕ) = fun _ => 0 := funext fun a => by fin_cases a <;> rfl

/-- The value placed is the device's own block. -/
theorem own_block {o3 o4 : Fin 2 → ℕ} (h3 : o3 = ![128 * c.val, 0]) (h4 : o4 = ![0, 128 * c.val])
    {b3 : ∀ a, o3 a + S128x128.size a ≤ S4096x128.size a} {b4 : ∀ a, o4 a + S128x128.size a ≤ S128x4096.size a}
    (Y : (⟨S128x4096, .fp8e4m3⟩ : BufTy).Contents (Elt F))
    (h : ∀ x : S128x128.Idx, Y ((Rect.unit (s := S128x4096) o4 S128x128.size b4).emb x)
      = X c ((Rect.unit (s := S4096x128) o3 S128x128.size b3).toLoadRect.idx x)) :
    ∀ i ∈ colSet c, Y i = xtAll X c i := by
  subst h3 h4
  intro i hi
  obtain ⟨j, -, rfl⟩ := Finset.mem_map.mp hi
  refine (h j).trans ?_
  have h0 : (j 0).val < 128 := (j 0).isLt
  have h1 : (j 1).val < 128 := (j 1).isLt
  have e0 : ((colM c).view.emb j 0).val = 0 + 1 * (j 0).val := rfl
  have e1 : ((colM c).view.emb j 1).val = 128 * c.val + 1 * (j 1).val := rfl
  have hp : ∀ h, (⟨((colM c).view.emb j 1).val / 128, h⟩ : Dev nD) = c := fun h => Fin.ext (by
    show ((colM c).view.emb j 1).val / 128 = c.val
    rw [e1]; omega)
  unfold xtAll
  rw [hp]
  congr 1
  funext a
  apply Fin.ext
  fin_cases a
  · show 128 * c.val + 1 * (j 0).val = 128 * c.val + ((colM c).view.emb j 0).val
    rw [e0]; omega
  · show 0 + 1 * (j 1).val = ((colM c).view.emb j 1).val % 128
    rw [e1]; omega

theorem pay3_eq (v : Vec F S4096x128 .fp8e4m3) : k0_pay3 v = v := by
  unfold k0_pay3
  simp only [shapeCast_self]
theorem pay4_eq (v : Vec F S128x128 .fp8e4m3) : k0_pay4 v = v := by
  unfold k0_pay4
  simp only [shapeCast_self]

set_option allowUnsafeReducibility true in
attribute [local irreducible] k0_cond1 k0_dev1 k0_dev2 k0_dev3 k0_off3 k0_off4 in
/-- The copies and signals 1 to 3. -/
theorem part1 (v2 : BitVec 32) (k0_h1 : k0_cond1 i = 1#1) {Q}
    (rest : ∀ v : Σ' (v59 : Sems sig S_) (v73 : BitVec 32), BitVec 32, v.1 = SemArray.scalar (sig.barrier 0 rfl) →
      iprop(sgnSt X K c 4 ∗ bigSep Finset.univ (pre X c) ∗ bigSep Finset.univ (rcv X c 0) ∗ has c arg2 (X c) ∗ R) ⊢ Q v) :
    iprop(env X K c ∗ own c (oSig c 1 + oSnd c 0) ∗ bigSep Finset.univ (ini X c)
        ∗ (∃ f, has c (Memref.whole cc0_scratch0) f) ∗ (∃ f, has c (Memref.whole cc0_scratch1) f) ∗ has c arg2 (X c) ∗ R)
      ⊢ wp frame (wpE (defs₀ (F := F)) 𝒱₀ c none) Set.univ
        (k0_part1 i arg1 harg1 arg2 harg2 arg3 harg3 arg4 harg4 arg5 harg5 arg6 harg6 (Memref.whole cc0_scratch0) h7 (Memref.whole cc0_scratch1) h8 cc0_scratch2 cc0_scratch3 c v2 k0_h1) Q := by
  rw [k0_part1_eq_skeleton]; unfold k0_part1_skel
  suffices key : ∀ f0 f1, iprop(has c arg2 (X c) ∗ has c (Memref.whole cc0_scratch0) f0 ∗ has c (Memref.whole cc0_scratch1) f1
      ∗ env X K c ∗ own c (oSig c 1 + oSnd c 0) ∗ bigSep Finset.univ (ini X c) ∗ R) ⊢ _ by
    iintro ⟨HE, HO, HI, ⟨%f0, H0⟩, ⟨%f1, H1⟩, H2, HR⟩
    iapply (key f0 f1)
    isplitl [H2]; · iexact H2
    isplitl [H0]; · iexact H0
    isplitl [H1]; · iexact H1
    isplitl [HE]; · iexact HE
    isplitl [HO]; · iexact HO
    isplitl [HI] <;> iassumption
  intro f0 f1
  refine ld_step c _ arg2 zz (X c) ?_
  have e1 : iprop(has c arg2 (X c) ∗ has c (Memref.whole cc0_scratch0) f0 ∗ has c (Memref.whole cc0_scratch1) f1
      ∗ env X K c ∗ own c (oSig c 1 + oSnd c 0) ∗ bigSep Finset.univ (ini X c) ∗ R)
      ⊢ iprop(has c (Memref.whole cc0_scratch0) f0 ∗ has c arg2 (X c) ∗ has c (Memref.whole cc0_scratch1) f1
      ∗ env X K c ∗ own c (oSig c 1 + oSnd c 0) ∗ bigSep Finset.univ (ini X c) ∗ R) := by
    iintro ⟨H2, H0, HR⟩
    isplitl [H0]; · iexact H0
    isplitl [H2] <;> iassumption
  refine e1.trans ?_
  refine ld_step c _ (Memref.whole cc0_scratch0) zz f0 ?_
  refine st_step c _ (Memref.whole cc0_scratch0) zz f0 _ ?_
  rw [pay3_eq]
  refine ldp_step c _ (Memref.whole cc0_scratch0) _ (X c) ?_
  have e2 : iprop(has c (Memref.whole cc0_scratch0) (X c) ∗ has c arg2 (X c) ∗ has c (Memref.whole cc0_scratch1) f1
      ∗ env X K c ∗ own c (oSig c 1 + oSnd c 0) ∗ bigSep Finset.univ (ini X c) ∗ R)
      ⊢ iprop(has c (Memref.whole cc0_scratch1) f1 ∗ has c (Memref.whole cc0_scratch0) (X c) ∗ has c arg2 (X c)
      ∗ env X K c ∗ own c (oSig c 1 + oSnd c 0) ∗ bigSep Finset.univ (ini X c) ∗ R) := by
    iintro ⟨H0, H2, H1, HR⟩
    isplitl [H1]; · iexact H1
    isplitl [H0]; · iexact H0
    isplitl [H2] <;> iassumption
  refine e2.trans ?_
  refine ldp_step c _ (Memref.whole cc0_scratch1) _ f1 ?_
  refine stp_step c _ (Memref.whole cc0_scratch1) _ f1 _ fun Y hY => ?_
  rw [pay4_eq] at hY
  have hY' := own_block X c (k0_off3_eq c) (k0_off4_eq c) Y hY
  have e3 : iprop(has c (Memref.whole cc0_scratch1) Y ∗ has c (Memref.whole cc0_scratch0) (X c) ∗ has c arg2 (X c)
      ∗ env X K c ∗ own c (oSig c 1 + oSnd c 0) ∗ bigSep Finset.univ (ini X c) ∗ R)
      ⊢ iprop(sgnSt X K c 1 ∗ bigSep Finset.univ (pre X c) ∗ bigSep Finset.univ (rcv X c 0) ∗ has c arg2 (X c) ∗ R) := by
    iintro ⟨H1, H0, H2, HE, HO, HI, HR⟩
    ihave H1 := (cols_split X c Y hY') $$ H1
    ihave H0 := (rows_split X c) $$ H0
    ihave H := (ini_split X c) $$ [HI H0 H1]
    · isplitl [HI]; · iexact HI
      isplitl [H0] <;> iassumption
    icases H with ⟨Ha, Hb, Hc⟩
    unfold sgnSt
    isplitl [HE HO Ha]
    · isplitl [HE]; · iexact HE
      isplitl [HO] <;> iassumption
    isplitl [Hb]; · iexact Hb
    isplitl [Hc]; · iexact Hc
    isplitl [H2] <;> iassumption
  refine e3.trans ?_
  refine sgn_step X K c _ 1 (by decide) ((by decide +kernel : ∀ c : Dev nD, k0_dev1 c = (nxt c 1).val) c) rfl ?_
  refine sgn_step X K c _ 2 (by decide) ((by decide +kernel : ∀ c : Dev nD, k0_dev2 c = (nxt c 2).val) c) rfl ?_
  refine sgn_step X K c _ 3 (by decide) ((by decide +kernel : ∀ c : Dev nD, k0_dev3 c = (nxt c 3).val) c) rfl ?_
  exact wp_done c _ (rest _ rfl)

end Cert.KernelIdeal.Exchange
-- ==== Proof.KI.Table.lean ====
/-
  What the kernel computes from the word it reads off its table at each grid point — the four devices whose blocks it
  awaits there, and the columns it multiplies — and from the grid point alone.
-/
module

public import proofs.«01_k».proof.Proof.KI.Proto

@[expose] public section

namespace Cert.KernelIdeal.Exchange

open Idealize.ShloMosaic
open Cert.KernelIdeal Cert.KernelIdeal.Gen

/-- The block of columns device `c` multiplies at grid point `j`: its own first, then the others in turn. -/
def bk (c : Dev nD) (j : Fin 8) : ℕ := (c.val / 4 + j.val) % 8
theorem bk_lt (c : Dev nD) (j : Fin 8) : bk c j < 8 := Nat.mod_lt _ (by decide)
/-- as a word of the table. -/
def wd (c : Dev nD) (j : Fin 8) : BitVec 32 := BitVec.ofNat 32 (bk c j)

/-- The grid point. -/
def pt (i : grid0.Coords) : Fin 8 := ⟨(i 0).val, (i 0).isLt⟩

theorem at34 : ∀ (c : Dev nD) (j : Fin 8), (k0_cond34 c (wd c j) = 1#1 ↔ src c (4 * j.val) ≠ c)
    ∧ k0_off101 (wd c j) = ![(src c (4 * j.val)).val] ∧ k0_off102 (wd c j) = ![0, 128 * (src c (4 * j.val)).val] := by decide +kernel
theorem at35 : ∀ (c : Dev nD) (j : Fin 8), (k0_cond35 c (wd c j) = 1#1 ↔ src c (4 * j.val + 1) ≠ c)
    ∧ k0_off103 (wd c j) = ![(src c (4 * j.val + 1)).val] ∧ k0_off104 (wd c j) = ![0, 128 * (src c (4 * j.val + 1)).val] := by decide +kernel
theorem at36 : ∀ (c : Dev nD) (j : Fin 8), (k0_cond36 c (wd c j) = 1#1 ↔ src c (4 * j.val + 2) ≠ c)
    ∧ k0_off105 (wd c j) = ![(src c (4 * j.val + 2)).val] ∧ k0_off106 (wd c j) = ![0, 128 * (src c (4 * j.val + 2)).val] := by decide +kernel
theorem at37 : ∀ (c : Dev nD) (j : Fin 8), (k0_cond37 c (wd c j) = 1#1 ↔ src c (4 * j.val + 3) ≠ c)
    ∧ k0_off107 (wd c j) = ![(src c (4 * j.val + 3)).val] ∧ k0_off108 (wd c j) = ![0, 128 * (src c (4 * j.val + 3)).val] := by decide +kernel
theorem at109 : ∀ (c : Dev nD) (j : Fin 8), k0_off109 (wd c j) = ![0, 512 * bk c j] := by decide +kernel
theorem chk : ∀ (c : Dev nD) (j : Fin 8), k0_chk1 c (wd c j) := by decide +kernel

theorem cond1_pt : ∀ i : grid0.Coords, k0_cond1 i = 1#1 ↔ pt i = 0 := by decide +kernel
theorem cond38_pt : ∀ i : grid0.Coords, k0_cond38 i = 1#1 ↔ pt i = 0 := by decide +kernel
theorem cond39_pt : ∀ i : grid0.Coords, k0_cond39 i = 1#1 ↔ pt i ≠ 0 := by decide +kernel
theorem cond40_pt : ∀ i : grid0.Coords, k0_cond40 i = 1#1 ↔ pt i = 7 := by decide +kernel

end Cert.KernelIdeal.Exchange
-- ==== Proof.KI.Mid.lean ====
/-
  The part of a grid point that brings the rows it multiplies: at the first point the whole exchange is started; at each,
  the four blocks named by the table's word are awaited and read.
-/
module

public import proofs.«01_k».proof.Proof.KI.Start
public import proofs.«01_k».proof.Proof.KI.Table

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]

variable (X : Cols (F := F)) (K : GSem nD τ sig → ℕ) (c : Dev nD) (R : sProp (MT nD τ sig Unit (Elt F) ℕ UU ℕ))

/-! ## Reading four blocks at once -/

/-- The rows a grid point multiplies. -/
def blk (j : Fin 8) : Vec F S128x512 .fp8e4m3 := fun x =>
  xtAll X c (ix2 ⟨(x 0).val, (x 0).isLt⟩ ⟨512 * bk c j + (x 1).val, by
    have h : (x 1).val < 512 := (x 1).isLt; have := bk_lt c j; omega⟩)

/-- The devices whose blocks a grid point reads. -/
def four (j : Fin 8) : Finset (Dev nD) := Finset.univ.filter fun p => p.val / 4 = bk c j

theorem rslot_four {j : Fin 8} {p : Dev nD} (h : p ∈ four c j) {n : ℕ} (hn : 4 * (j.val + 1) ≤ n) : rslot c p < n := by
  have hp : p.val / 4 = bk c j := (Finset.mem_filter.mp h).2
  unfold bk at hp
  unfold rslot
  have := lt32 c; have := lt32 p; have := j.isLt
  omega

/-- The four blocks, as one part of the gathered rows. -/
def fourPts (j : Fin 8) : sProp (MT nD τ sig Unit (Elt F) ℕ UU ℕ) :=
  (Memref.whole cc0_scratch1 : Memref sig .tc .vmem S128x4096 .fp8e4m3).view.loc (c : Thread nD τ) ↦[(four c j).biUnion colSet]{fullShare} xtAll X c
/-- What is held beside the four blocks. -/
def fourRest (n : ℕ) (j : Fin 8) : sProp (MT nD τ sig Unit (Elt F) ℕ UU ℕ) :=
  iprop(bigSep (four c j) (fun p => don X (recvCell c p)) ∗ bigSep (Finset.univ.filter fun p : Dev nD => ¬ p.val / 4 = bk c j) (rcv X c n))

theorem four_swap (A B C : sProp (MT nD τ sig Unit (Elt F) ℕ UU ℕ)) : iprop((A ∗ B) ∗ C) = iprop(B ∗ A ∗ C) := by
  have h1 : iprop((A ∗ B) ∗ C) ⊢ iprop(B ∗ A ∗ C) := by
    iintro ⟨⟨H1, H2⟩, H3⟩
    isplitl [H2]; · iexact H2
    isplitl [H1] <;> iassumption
  have h2 : iprop(B ∗ A ∗ C) ⊢ iprop((A ∗ B) ∗ C) := by
    iintro ⟨H2, H1, H3⟩
    isplitl [H1 H2]
    · isplitl [H1] <;> iassumption
    · iexact H3
  exact BI.Entails.antisymm h1 h2

theorem rcv_four {n : ℕ} {j : Fin 8} (hn : 4 * (j.val + 1) ≤ n) :
    bigSep Finset.univ (rcv X c n) = iprop(fourPts X c j ∗ fourRest X c n j) := by
  have e1 : bigSep Finset.univ (rcv X c n) = iprop(bigSep (four c j) (rcv X c n)
      ∗ bigSep (Finset.univ.filter fun p : Dev nD => ¬ p.val / 4 = bk c j) (rcv X c n)) := bigSep_filter_split _ _
  have e2 : bigSep (four c j) (rcv X c n) = bigSep (four c j) (fun p => iprop(don X (recvCell c p) ∗ colPts c p (xtAll X c))) :=
    bigSep_congr fun p hp => by
      have := rslot_four c hp hn
      unfold rcv
      rw [if_neg (by omega)]
  have e3 : bigSep (four c j) (fun p => colPts c p (xtAll X c)) = fourPts X c j :=
    (pointsTo_biUnion (ℓ := (Memref.whole cc0_scratch1 : Memref sig .tc .vmem S128x4096 .fp8e4m3).view.loc (c : Thread nD τ)) (q := fullShare) (f := xtAll X c)
      (four c j) colSet fun p _ q _ h => colSet_disjoint p q h).symm
  have e4 : bigSep (four c j) (fun p => iprop(don X (recvCell c p) ∗ colPts c p (xtAll X c)))
      = iprop(bigSep (four c j) (fun p => don X (recvCell c p)) ∗ fourPts X c j) := by rw [bigSep_sep', e3]
  rw [e1, e2, e4]
  unfold fourRest
  exact four_swap _ _ _

variable {α : Type} {Q : α → sProp (MT nD τ sig Unit (Elt F) ℕ UU ℕ)}

/-- The rows of a grid point read, once its blocks have come. -/
theorem blk_step {n : ℕ} {j : Fin 8} (hn : 4 * (j.val + 1) ≤ n) {o : Fin 2 → ℕ} (ho : o = ![0, 512 * bk c j])
    {inb : ∀ a, o a + S128x512.size a ≤ S128x4096.size a}
    {hl : (Memref.whole cc0_scratch1 : Memref sig .tc .vmem S128x4096 .fp8e4m3).view.LoadsAt (Rect.unit (s := S128x4096) o S128x512.size inb).toLoadRect}
    {k : Vec F S128x512 .fp8e4m3 → Prog (TpuEff nD τ sig (Elt F) Λ₀ .tc) α}
    (rest : iprop(rcvSt X K c n ∗ R) ⊢ wp frame (wpE (defs₀ (F := F)) 𝒱₀ c none) Set.univ (k (blk X c j)) Q) :
    iprop(rcvSt X K c n ∗ R) ⊢ wp frame (wpE (defs₀ (F := F)) 𝒱₀ c none) Set.univ
      ((Prog.lift (.load (Memref.whole cc0_scratch1 : Memref sig .tc .vmem S128x4096 .fp8e4m3) (Rect.unit (s := S128x4096) o S128x512.size inb).toLoadRect hl)
        : Prog (TpuEff nD τ sig (Elt F) Λ₀ .tc) (Vec F S128x512 .fp8e4m3)) >>= k) Q := by
  subst ho
  show _ ⊢ wp frame (wpE (defs₀ (F := F)) 𝒱₀ c none) Set.univ
    (.op (.load (Memref.whole cc0_scratch1 : Memref sig .tc .vmem S128x4096 .fp8e4m3) (Rect.unit (s := S128x4096) _ S128x512.size inb).toLoadRect hl) (fun v => .ret v >>= k)) Q
  have hS : (Memref.whole cc0_scratch1 : Memref sig .tc .vmem S128x4096 .fp8e4m3).view.setOn
      (Rect.unit (s := S128x4096) ![0, 512 * bk c j] S128x512.size inb).toLoadRect.set ⊆ (four c j).biUnion colSet := by
    intro i hi
    have hi' : i ∈ (Rect.unit (s := S128x4096) ![0, 512 * bk c j] S128x512.size inb).set := by
      obtain ⟨y, hy, rfl⟩ := Finset.mem_map.mp hi
      exact hy
    rw [Rect.mem_set_unit] at hi'
    have h1 : 512 * bk c j ≤ (i 1).val ∧ (i 1).val < 512 * bk c j + 512 := hi' 1
    have hb := bk_lt c j
    refine Finset.mem_biUnion.mpr ⟨⟨(i 1).val / 128, by show _ < 32; omega⟩, Finset.mem_filter.mpr ⟨Finset.mem_univ _, ?_⟩, (mem_colSet _ i).mpr rfl⟩
    show (i 1).val / 128 / 4 = bk c j
    omega
  have ev : (Memref.whole cc0_scratch1 : Memref sig .tc .vmem S128x4096 .fp8e4m3).view.readAt (Elt F)
      (Rect.unit (s := S128x4096) ![0, 512 * bk c j] S128x512.size inb).toLoadRect (xtAll X c) = blk X c j := by
    funext x
    refine congrArg (xtAll X c) (funext fun a => Fin.ext ?_)
    fin_cases a
    · show 0 + 1 * (x 0).val = (x 0).val
      omega
    · show 512 * bk c j + 1 * (x 1).val = 512 * bk c j + (x 1).val
      omega
  unfold rcvSt
  rw [rcv_four X c hn]
  iintro ⟨⟨HE, HO, H, H'⟩, HR⟩
  unfold fourPts
  iapply (wp_load 𝒱₀ c none Set.univ hS) $$ H
  iintro H
  rw [ev]
  iapply rest
  unfold rcvSt
  rw [rcv_four X c hn]
  isplitr [HR]
  · isplitl [HE]; · iexact HE
    isplitl [HO]; · iexact HO
    isplitl [H]; · unfold fourPts; iexact H
    iexact H'
  · iexact HR

/-- The device's own number. -/
theorem dev_step {P : sProp (MT nD τ sig Unit (Elt F) ℕ UU ℕ)} {k : Dev nD → Prog (TpuEff nD τ sig (Elt F) Λ₀ .tc) α}
    (rest : P ⊢ wp frame (wpE (defs₀ (F := F)) 𝒱₀ c none) Set.univ (k c) Q) :
    P ⊢ wp frame (wpE (defs₀ (F := F)) 𝒱₀ c none) Set.univ ((Prog.lift .deviceId : Prog (TpuEff nD τ sig (Elt F) Λ₀ .tc) (Dev nD)) >>= k) Q := by
  show P ⊢ wp frame (wpE (defs₀ (F := F)) 𝒱₀ c none) Set.univ (.op .deviceId (fun v => .ret v >>= k)) Q
  rw [wp_deviceId]
  exact rest

/-- A condition the program takes to hold, which does. -/
theorem asm_step {P : sProp (MT nD τ sig Unit (Elt F) ℕ UU ℕ)} {p : Prop} {d : Decidable p} (h : p) {k : PLift p → Prog (TpuEff nD τ sig (Elt F) Λ₀ .tc) α}
    (rest : P ⊢ wp frame (wpE (defs₀ (F := F)) 𝒱₀ c none) Set.univ (k ⟨h⟩) Q) :
    P ⊢ wp frame (wpE (defs₀ (F := F)) 𝒱₀ c none) Set.univ ((Prog.lift (.assume p d) : Prog (TpuEff nD τ sig (Elt F) Λ₀ .tc) (PLift p)) >>= k) Q := by
  show P ⊢ wp frame (wpE (defs₀ (F := F)) 𝒱₀ c none) Set.univ (.op (.assume p d) (fun v => .ret v >>= k)) Q
  rw [wp_assume_of (d := d) (k := fun v => .ret v >>= k) 𝒱₀ (c : Thread nD τ) none Set.univ h]
  exact rest

/-- A guard that holds; -/
theorem yes_step {P : sProp (MT nD τ sig Unit (Elt F) ℕ UU ℕ)} {b : Prop} {db : Decidable b} (h : b)
    {t : b → Prog (TpuEff nD τ sig (Elt F) Λ₀ .tc) α} {e : ¬ b → Prog (TpuEff nD τ sig (Elt F) Λ₀ .tc) α}
    (rest : P ⊢ wp frame (wpE (defs₀ (F := F)) 𝒱₀ c none) Set.univ (t h) Q) :
    P ⊢ wp frame (wpE (defs₀ (F := F)) 𝒱₀ c none) Set.univ (@dite _ b db t e) Q := by
  rw [dif_pos h]; exact rest
/-- one that does not. -/
theorem no_step {P : sProp (MT nD τ sig Unit (Elt F) ℕ UU ℕ)} {b : Prop} {db : Decidable b} (h : ¬ b)
    {t : b → Prog (TpuEff nD τ sig (Elt F) Λ₀ .tc) α} {e : ¬ b → Prog (TpuEff nD τ sig (Elt F) Λ₀ .tc) α}
    (rest : P ⊢ wp frame (wpE (defs₀ (F := F)) 𝒱₀ c none) Set.univ (e h) Q) :
    P ⊢ wp frame (wpE (defs₀ (F := F)) 𝒱₀ c none) Set.univ (@dite _ b db t e) Q := by
  rw [dif_neg h]; exact rest
/-! ## The part -/

/-- Before the exchange. -/
def begSt : sProp (MT nD τ sig Unit (Elt F) ℕ UU ℕ) :=
  iprop((env X K c ∗ own c (oSig c 1 + oSnd c 0) ∗ bigSep Finset.univ (ini X c)
    ∗ (∃ f, has c (Memref.whole cc0_scratch0) f) ∗ (∃ f, has c (Memref.whole cc0_scratch1) f))
    ∗ cred (tallyAt (barCell c) () 31) ∗ atPos ER (barCell c) 0 ∅ 0)
/-- What waits for the last grid point. -/
def outSt : sProp (MT nD τ sig Unit (Elt F) ℕ UU ℕ) := iprop(bigSep Finset.univ (drn X c 0) ∗ don X (barCell c))
/-- Before a grid point. -/
def entSt (j : Fin 8) : sProp (MT nD τ sig Unit (Elt F) ℕ UU ℕ) :=
  if j = 0 then begSt X K c else iprop(rcvSt X K c (4 * j.val) ∗ outSt X c)

variable (i : grid0.Coords) (arg1 : Memref sig .tc .smem S8 .i32) (harg1 : arg1.IsWhole)
  (arg2 : Memref sig .tc .vmem S4096x128 .fp8e4m3) (harg2 : arg2.IsWhole) (arg3 : Memref sig .tc .vmem S512x8192 .fp8e4m3) (harg3 : arg3.IsWhole)
  (arg4 : Memref sig .tc .smem S1 .f32) (harg4 : arg4.IsWhole) (arg5 : Memref sig .tc .smem S1 .f32) (harg5 : arg5.IsWhole)
  (arg6 : Memref sig .tc .vmem S128x8192 .f32) (harg6 : arg6.IsWhole)
  (h7 : (Memref.whole cc0_scratch0 : Memref sig .tc .vmem S4096x128 .fp8e4m3).IsWhole) (h8 : (Memref.whole cc0_scratch1 : Memref sig .tc .vmem S128x4096 .fp8e4m3).IsWhole)

/-- The table: the block of columns of each grid point. -/
def tab : S8.Idx → Elt F .i32 := fun x => wd c ⟨(x 0).val, (x 0).isLt⟩

theorem tab_at (hn : (Rect.unit (s := S8) (k0_off2 i) S1.size (k0_off2_inb i)).shape.numel = 1) :
    tab (F := F) c ((Rect.unit (s := S8) (k0_off2 i) S1.size (k0_off2_inb i)).emb (Shape.Idx.first (hn.symm ▸ Nat.one_pos))) = wd c (pt i) := by
  unfold tab
  refine congrArg (wd c) (Fin.ext ?_)
  have hx : ((Shape.Idx.first (hn.symm ▸ Nat.one_pos) : (Rect.unit (s := S8) (k0_off2 i) S1.size (k0_off2_inb i)).shape.Idx) 0).val < 1 :=
    ((Shape.Idx.first (hn.symm ▸ Nat.one_pos) : (Rect.unit (s := S8) (k0_off2 i) S1.size (k0_off2_inb i)).shape.Idx) 0).isLt
  have ho : (k0_off2 i) 0 = (i 0).val := by rw [k0_off2_eq]; rfl
  show (k0_off2 i) 0 + 1 * _ = (i 0).val
  omega

/-- What rides along while the exchange is started. -/
def rideSt : sProp (MT nD τ sig Unit (Elt F) ℕ UU ℕ) := iprop(bigSep Finset.univ (rcv X c 0) ∗ has c arg2 (X c) ∗ has c arg1 (tab c) ∗ R)

theorem start_in (h : pt i = 0) : iprop(has c arg1 (tab c) ∗ entSt X K c (pt i) ∗ has c arg2 (X c) ∗ R)
    ⊢ iprop(env X K c ∗ own c (oSig c 1 + oSnd c 0) ∗ bigSep Finset.univ (ini X c)
        ∗ (∃ f, has c (Memref.whole cc0_scratch0) f) ∗ (∃ f, has c (Memref.whole cc0_scratch1) f) ∗ has c arg2 (X c)
        ∗ (cred (tallyAt (barCell c) () 31) ∗ atPos ER (barCell c) 0 ∅ 0) ∗ has c arg1 (tab c) ∗ R) := by
  unfold entSt begSt
  rw [if_pos h]
  iintro ⟨H1, ⟨⟨HE, HO, HI, Ha, Hb⟩, HB⟩, H2, HR⟩
  isplitl [HE]; · iexact HE
  isplitl [HO]; · iexact HO
  isplitl [HI]; · iexact HI
  isplitl [Ha]; · iexact Ha
  isplitl [Hb]; · iexact Hb
  isplitl [H2]; · iexact H2
  isplitl [HB]; · iexact HB
  isplitl [H1] <;> iassumption

theorem start_mid : iprop(sgnSt X K c 4 ∗ bigSep Finset.univ (pre X c) ∗ bigSep Finset.univ (rcv X c 0) ∗ has c arg2 (X c)
      ∗ (cred (tallyAt (barCell c) () 31) ∗ atPos ER (barCell c) 0 ∅ 0) ∗ has c arg1 (tab c) ∗ R)
    ⊢ iprop(sgnSt X K c 4 ∗ (cred (tallyAt (barCell c) () 31) ∗ atPos ER (barCell c) 0 ∅ 0 ∗ bigSep Finset.univ (pre X c)) ∗ rideSt X c R arg1 arg2) := by
  unfold rideSt
  iintro ⟨HS, HP, HV, H2, ⟨HC, HA⟩, H1, HR⟩
  isplitl [HS]; · iexact HS
  isplitl [HC HA HP]
  · isplitl [HC]; · iexact HC
    isplitl [HA] <;> iassumption
  isplitl [HV]; · iexact HV
  isplitl [H2]; · iexact H2
  isplitl [H1] <;> iassumption

theorem start_out (h : pt i = 0) : iprop(sndSt X K c 32 ∗ don X (barCell c) ∗ rideSt X c R arg1 arg2)
    ⊢ iprop(rcvSt X K c (4 * (pt i).val) ∗ outSt X c ∗ has c arg1 (tab c) ∗ has c arg2 (X c) ∗ R) := by
  rw [sndSt_drnSt, h]
  unfold rideSt drnSt rcvSt outSt
  iintro ⟨⟨HE, HO, HD⟩, HB, HV, H2, H1, HR⟩
  isplitl [HE HO HV]
  · isplitl [HE]; · iexact HE
    isplitl [HO] <;> iassumption
  isplitl [HD HB]
  · isplitl [HD] <;> iassumption
  isplitl [H1]; · iexact H1
  isplitl [H2] <;> iassumption

theorem mid_in : iprop(has c arg1 (tab c) ∗ (rcvSt X K c (4 * (pt i).val) ∗ outSt X c) ∗ has c arg2 (X c) ∗ R)
    ⊢ iprop(rcvSt X K c (4 * (pt i).val) ∗ outSt X c ∗ has c arg1 (tab c) ∗ has c arg2 (X c) ∗ R) := by
  iintro ⟨H1, ⟨HV, HO⟩, H2, HR⟩
  isplitl [HV]; · iexact HV
  isplitl [HO]; · iexact HO
  isplitl [H1]; · iexact H1
  isplitl [H2] <;> iassumption

set_option allowUnsafeReducibility true in
attribute [local irreducible] k0_cond1 k0_cond32 k0_cond33 k0_cond34 k0_cond35 k0_cond36 k0_cond37 k0_dev62 k0_dev63 k0_off95 k0_off96 k0_off97 k0_off98
  k0_part1 k0_part2 k0_part3 k0_part4 k0_part5 k0_part6 k0_part7 k0_part8 k0_part9 k0_part10 k0_part11 k0_off99 k0_off100 k0_off101 k0_off102 k0_off103 k0_off104 k0_off105 k0_off106 k0_off107 k0_off108 k0_off109 k0_off2 k0_chk1 wd

set_option maxHeartbeats 1000000 in
/-- The blocks of a grid point awaited and read. -/
theorem part17 {Q : _ → sProp (MT nD τ sig Unit (Elt F) ℕ UU ℕ)}
    (rest : ∀ v2 v3 w0, iprop(rcvSt X K c (4 * ((pt i).val + 1)) ∗ outSt X c ∗ has c arg1 (tab c) ∗ has c arg2 (X c) ∗ R)
      ⊢ Q ⟨w0, c, v2, v3, k0_pay6 (blk X c (pt i))⟩) :
    iprop(has c arg1 (tab c) ∗ entSt X K c (pt i) ∗ has c arg2 (X c) ∗ R)
      ⊢ wp frame (wpE (defs₀ (F := F)) 𝒱₀ c none) Set.univ
        (k0_part17 i arg1 harg1 arg2 harg2 arg3 harg3 arg4 harg4 arg5 harg5 arg6 harg6 (Memref.whole cc0_scratch0) h7 (Memref.whole cc0_scratch1) h8 cc0_scratch2 cc0_scratch3) Q := by
  rw [k0_part17_eq_skeleton]; unfold k0_part17_skel
  refine dev_step c ?_
  refine sm_step c _ arg1 _ (tab c) ?_
  rw [tab_at _ _ numel1_S1]
  refine asm_step c (chk c (pt i)) ?_
  suffices key : iprop(rcvSt X K c (4 * (pt i).val) ∗ outSt X c ∗ has c arg1 (tab c) ∗ has c arg2 (X c) ∗ R) ⊢ _ by
    by_cases h : k0_cond1 i = 1#1
    · refine yes_step c h ?_
      have h0 : pt i = 0 := (cond1_pt i).mp h
      refine (start_in X K c R i arg1 arg2 h0).trans ?_
      rw [wp_bind]
      refine part1 X K c _ i arg1 harg1 arg2 harg2 arg3 harg3 arg4 harg4 arg5 harg5 arg6 harg6 h7 h8 _ h ?_
      rintro ⟨v59, v73, w1⟩ rfl
      refine (start_mid X K c R arg1 arg2).trans ?_
      rw [wp_bind]
      refine part2 X K c _ i arg1 harg1 arg2 harg2 arg3 harg3 arg4 harg4 arg5 harg5 arg6 harg6 h7 h8 _ h _ _ ?_
      rintro ⟨v97, w2⟩
      rw [wp_bind]
      refine part3 X K c _ i arg1 harg1 arg2 harg2 arg3 harg3 arg4 harg4 arg5 harg5 arg6 harg6 h7 h8 _ h _ _ ?_
      rintro ⟨v121, w3⟩
      rw [wp_bind]
      refine part4 X K c _ i arg1 harg1 arg2 harg2 arg3 harg3 arg4 harg4 arg5 harg5 arg6 harg6 h7 h8 _ h _ _ ?_
      rintro ⟨v145, w4⟩
      rw [wp_bind]
      refine part5 X K c _ i arg1 harg1 arg2 harg2 arg3 harg3 arg4 harg4 arg5 harg5 arg6 harg6 h7 h8 _ h _ _ ?_
      rintro ⟨v169, w5⟩
      rw [wp_bind]
      refine part6 X K c _ i arg1 harg1 arg2 harg2 arg3 harg3 arg4 harg4 arg5 harg5 arg6 harg6 h7 h8 _ _ h _ _ ?_
      rintro ⟨v186, v193⟩
      rw [wp_bind]
      refine part7 X K c _ i arg1 harg1 arg2 harg2 arg3 harg3 arg4 harg4 arg5 harg5 arg6 harg6 h7 h8 _ _ h _ _ ?_
      intro v226
      rw [wp_bind]
      refine part8 X K c _ i arg1 harg1 arg2 harg2 arg3 harg3 arg4 harg4 arg5 harg5 arg6 harg6 h7 h8 _ _ h _ ?_
      rintro ⟨v255, v261⟩
      rw [wp_bind]
      refine part9 X K c _ i arg1 harg1 arg2 harg2 arg3 harg3 arg4 harg4 arg5 harg5 arg6 harg6 h7 h8 _ _ h _ _ ?_
      intro v294
      rw [wp_bind]
      refine part10 X K c _ i arg1 harg1 arg2 harg2 arg3 harg3 arg4 harg4 arg5 harg5 arg6 harg6 h7 h8 _ _ h _ ?_
      rintro ⟨v324, v326, v327⟩
      rw [wp_bind]
      refine part11 X K c _ i arg1 harg1 arg2 harg2 arg3 harg3 arg4 harg4 arg5 harg5 arg6 harg6 h7 h8 _ _ h _ _ _ ?_
      rintro ⟨v347, v359, v360⟩
      refine snd_step X K c _ 30 (by decide) (snd_at30 c).1 rfl (snd_at30 c).2.1 (snd_at30 c).2.2.1 (snd_at30 c).2.2.2.1 (fun _ => (snd_at30 c).2.2.2.2) ?_
      refine snd_step X K c _ 31 (by decide) (snd_at31 c).1 rfl (snd_at31 c).2.1 (snd_at31 c).2.2.1 (snd_at31 c).2.2.2.1 (fun _ => (snd_at31 c).2.2.2.2) ?_
      exact (start_out X K c R i arg1 arg2 h0).trans key
    · refine no_step c h ?_
      have h0 : pt i ≠ 0 := fun e => h ((cond1_pt i).mpr e)
      refine BI.Entails.trans ?_ key
      unfold entSt
      rw [if_neg h0]
      exact mid_in X K c R i arg1 arg2
  refine rcv_step X K c _ (4 * (pt i).val) (by have := (pt i).isLt; omega) (at34 c (pt i)).1 (at34 c (pt i)).2.1 (at34 c (pt i)).2.2 ?_
  refine rcv_step X K c _ (4 * (pt i).val + 1) (by have := (pt i).isLt; omega) (at35 c (pt i)).1 (at35 c (pt i)).2.1 (at35 c (pt i)).2.2 ?_
  refine rcv_step X K c _ (4 * (pt i).val + 2) (by have := (pt i).isLt; omega) (at36 c (pt i)).1 (at36 c (pt i)).2.1 (at36 c (pt i)).2.2 ?_
  refine rcv_step X K c _ (4 * (pt i).val + 3) (by have := (pt i).isLt; omega) (at37 c (pt i)).1 (at37 c (pt i)).2.1 (at37 c (pt i)).2.2 ?_
  refine blk_step X K c _ (j := pt i) (n := 4 * (pt i).val + 3 + 1) (by omega) (at109 c (pt i)) ?_
  exact wp_done c _ (rest _ _ _)

end Cert.KernelIdeal.Exchange
-- ==== Proof.KI.Body.lean ====
/-
  The kernel at one grid point: the rows it multiplies brought, the product added to the output block, and at the last
  point the activation applied and every sent block's source recovered.
-/
module

public import proofs.«01_k».proof.Proof.KI.Mid

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]

variable (X : Cols (F := F)) (K : GSem nD τ sig → ℕ) (c : Dev nD) (R : sProp (MT nD τ sig Unit (Elt F) ℕ UU ℕ))
variable (i : grid0.Coords) (arg1 : Memref sig .tc .smem S8 .i32) (harg1 : arg1.IsWhole)
  (arg2 : Memref sig .tc .vmem S4096x128 .fp8e4m3) (harg2 : arg2.IsWhole) (arg3 : Memref sig .tc .vmem S512x8192 .fp8e4m3) (harg3 : arg3.IsWhole)
  (arg4 : Memref sig .tc .smem S1 .f32) (harg4 : arg4.IsWhole) (arg5 : Memref sig .tc .smem S1 .f32) (harg5 : arg5.IsWhole)
  (arg6 : Memref sig .tc .vmem S128x8192 .f32) (harg6 : arg6.IsWhole)
  (h7 : (Memref.whole cc0_scratch0 : Memref sig .tc .vmem S4096x128 .fp8e4m3).IsWhole) (h8 : (Memref.whole cc0_scratch1 : Memref sig .tc .vmem S128x4096 .fp8e4m3).IsWhole)

/-- The word of a one-word buffer. -/
def sw (s : S1.Idx → Elt F .f32) : Elt F .f32 := s fun a => ⟨0, by fin_cases a; decide⟩

theorem sw_at (s : S1.Idx → Elt F .f32) (x : S1.Idx) : s x = sw s := by
  refine congrArg s (funext fun a => Fin.ext ?_)
  have h : (x a).val < S1.size a := (x a).isLt
  fin_cases a
  exact Nat.lt_one_iff.mp h

section
set_option allowUnsafeReducibility true
attribute [local irreducible] k0_cond40 k0_cond41 k0_cond42 k0_cond43 k0_cond44 k0_off110 k0_off111 k0_off112 k0_off113 k0_off114 k0_off115 k0_off116 k0_off117

/-- The activation, and recoveries 0 to 3. -/
theorem part12 (v2 v3 : BitVec 32) (k0_h40 : k0_cond40 i = 1#1) (y : Vec F S128x8192 .f32) (s4 s5 : S1.Idx → Elt F .f32) {Q}
    (rest : ∀ v, iprop(drnSt X K c 4 ∗ has c arg6 (k0_pay5 y (sw s4) (sw s5)) ∗ has c arg4 s4 ∗ has c arg5 s5 ∗ R) ⊢ Q v) :
    iprop(drnSt X K c 0 ∗ has c arg6 y ∗ has c arg4 s4 ∗ has c arg5 s5 ∗ R) ⊢ wp frame (wpE (defs₀ (F := F)) 𝒱₀ c none) Set.univ
      (k0_part12 i arg1 harg1 arg2 harg2 arg3 harg3 arg4 harg4 arg5 harg5 arg6 harg6 (Memref.whole cc0_scratch0) h7 (Memref.whole cc0_scratch1) h8 cc0_scratch2 cc0_scratch3 c v2 v3 k0_h40) Q := by
  rw [k0_part12_eq_skeleton]; unfold k0_part12_skel
  have e1 : iprop(drnSt X K c 0 ∗ has c arg6 y ∗ has c arg4 s4 ∗ has c arg5 s5 ∗ R) ⊢ iprop(has c arg6 y ∗ drnSt X K c 0 ∗ has c arg4 s4 ∗ has c arg5 s5 ∗ R) := by
    iintro ⟨HD, H6, HR⟩
    isplitl [H6]; · iexact H6
    isplitl [HD] <;> iassumption
  refine e1.trans ?_
  refine ld_step c _ arg6 zz y ?_
  have e2 : iprop(has c arg6 y ∗ drnSt X K c 0 ∗ has c arg4 s4 ∗ has c arg5 s5 ∗ R) ⊢ iprop(has c arg4 s4 ∗ has c arg6 y ∗ drnSt X K c 0 ∗ has c arg5 s5 ∗ R) := by
    iintro ⟨H6, HD, H4, HR⟩
    isplitl [H4]; · iexact H4
    isplitl [H6]; · iexact H6
    isplitl [HD] <;> iassumption
  refine e2.trans ?_
  refine sm_step c _ arg4 _ s4 ?_
  rw [sw_at s4]
  have e3 : iprop(has c arg4 s4 ∗ has c arg6 y ∗ drnSt X K c 0 ∗ has c arg5 s5 ∗ R) ⊢ iprop(has c arg5 s5 ∗ has c arg6 y ∗ drnSt X K c 0 ∗ has c arg4 s4 ∗ R) := by
    iintro ⟨H4, H6, HD, H5, HR⟩
    isplitl [H5]; · iexact H5
    isplitl [H6]; · iexact H6
    isplitl [HD]; · iexact HD
    isplitl [H4] <;> iassumption
  refine e3.trans ?_
  refine sm_step c _ arg5 _ s5 ?_
  rw [sw_at s5]
  have e4 : iprop(has c arg5 s5 ∗ has c arg6 y ∗ drnSt X K c 0 ∗ has c arg4 s4 ∗ R) ⊢ iprop(has c arg6 y ∗ drnSt X K c 0 ∗ has c arg4 s4 ∗ has c arg5 s5 ∗ R) := by
    iintro ⟨H5, H6, HD, H4, HR⟩
    isplitl [H6]; · iexact H6
    isplitl [HD]; · iexact HD
    isplitl [H4]; · iexact H4
    isplitl [H5] <;> iassumption
  refine e4.trans ?_
  refine ld_step c _ arg6 zz y ?_
  refine st_step c _ arg6 zz y _ ?_
  have e5 : iprop(has c arg6 (k0_pay5 y (sw s4) (sw s5)) ∗ drnSt X K c 0 ∗ has c arg4 s4 ∗ has c arg5 s5 ∗ R)
      ⊢ iprop(drnSt X K c 0 ∗ has c arg6 (k0_pay5 y (sw s4) (sw s5)) ∗ has c arg4 s4 ∗ has c arg5 s5 ∗ R) := by
    iintro ⟨H6, HD, HR⟩
    isplitl [HD]; · iexact HD
    isplitl [H6] <;> iassumption
  refine e5.trans ?_
  refine drn_step X K c _ 0 (by decide) (drn_at0 c).1 rfl (drn_at0 c).2 ?_
  refine drn_step X K c _ 1 (by decide) (drn_at1 c).1 rfl (drn_at1 c).2 ?_
  refine drn_step X K c _ 2 (by decide) (drn_at2 c).1 rfl (drn_at2 c).2 ?_
  refine drn_step X K c _ 3 (by decide) (drn_at3 c).1 rfl (drn_at3 c).2 ?_
  exact wp_done c _ (rest _)
end

/-! ## The body -/

/-- The output block after one more product. -/
def acc1 (W : Vec F S512x8192 .fp8e4m3) (Y : Vec F S128x8192 .f32) : Vec F S128x8192 .f32 :=
  if pt i = 0 then k0_pay1 (k0_pay6 (blk X c (pt i))) W else k0_pay2 (k0_pay6 (blk X c (pt i))) W Y
/-- and after the activation, at the last grid point. -/
def out1 (W : Vec F S512x8192 .fp8e4m3) (s4 s5 : S1.Idx → Elt F .f32) (Y : Vec F S128x8192 .f32) : Vec F S128x8192 .f32 :=
  if pt i = 7 then k0_pay5 (acc1 X c i W Y) (sw s4) (sw s5) else acc1 X c i W Y

/-- When everything is over. -/
def endSt : sProp (MT nD τ sig Unit (Elt F) ℕ UU ℕ) :=
  iprop(env X K c ∗ own c 0 ∗ bigSep Finset.univ (rcv X c 32) ∗ bigSep Finset.univ (drn X c 32) ∗ don X (barCell c))
/-- After a grid point. -/
def extSt (j : Fin 8) : sProp (MT nD τ sig Unit (Elt F) ℕ UU ℕ) :=
  if j = 7 then endSt X K c else iprop(rcvSt X K c (4 * (j.val + 1)) ∗ outSt X c)

/-- The memrefs a grid point leaves as they are, the output block, and the rest. -/
def rideB (W : Vec F S512x8192 .fp8e4m3) (s4 s5 : S1.Idx → Elt F .f32) : sProp (MT nD τ sig Unit (Elt F) ℕ UU ℕ) :=
  iprop(has c arg1 (tab c) ∗ has c arg2 (X c) ∗ has c arg3 W ∗ has c arg4 s4 ∗ has c arg5 s5 ∗ R)

section
variable (W : Vec F S512x8192 .fp8e4m3) (s4 s5 : S1.Idx → Elt F .f32) (Y : Vec F S128x8192 .f32)

theorem body_in : iprop(rcvSt X K c (4 * ((pt i).val + 1)) ∗ outSt X c ∗ has c arg1 (tab c) ∗ has c arg2 (X c)
      ∗ has c arg3 W ∗ has c arg4 s4 ∗ has c arg5 s5 ∗ has c arg6 Y ∗ R)
    ⊢ iprop(has c arg3 W ∗ rcvSt X K c (4 * ((pt i).val + 1)) ∗ outSt X c ∗ has c arg1 (tab c) ∗ has c arg2 (X c)
      ∗ has c arg4 s4 ∗ has c arg5 s5 ∗ has c arg6 Y ∗ R) := by
  iintro ⟨HV, HO, H1, H2, H3, HR⟩
  isplitl [H3]; · iexact H3
  isplitl [HV]; · iexact HV
  isplitl [HO]; · iexact HO
  isplitl [H1]; · iexact H1
  isplitl [H2] <;> iassumption

theorem body_mid : iprop(has c arg3 W ∗ rcvSt X K c (4 * ((pt i).val + 1)) ∗ outSt X c ∗ has c arg1 (tab c) ∗ has c arg2 (X c)
      ∗ has c arg4 s4 ∗ has c arg5 s5 ∗ has c arg6 Y ∗ R)
    ⊢ iprop(has c arg6 Y ∗ (rcvSt X K c (4 * ((pt i).val + 1)) ∗ outSt X c) ∗ rideB X c R arg1 arg2 arg3 arg4 arg5 W s4 s5) := by
  unfold rideB
  iintro ⟨H3, HV, HO, H1, H2, H4, H5, H6, HR⟩
  isplitl [H6]; · iexact H6
  isplitl [HV HO]
  · isplitl [HV] <;> iassumption
  isplitl [H1]; · iexact H1
  isplitl [H2]; · iexact H2
  isplitl [H3]; · iexact H3
  isplitl [H4]; · iexact H4
  isplitl [H5] <;> iassumption

theorem body_last (h : pt i = 7) : iprop(has c arg6 Y ∗ (rcvSt X K c (4 * ((pt i).val + 1)) ∗ outSt X c) ∗ rideB X c R arg1 arg2 arg3 arg4 arg5 W s4 s5)
    ⊢ iprop(drnSt X K c 0 ∗ has c arg6 Y ∗ has c arg4 s4 ∗ has c arg5 s5
      ∗ bigSep Finset.univ (rcv X c 32) ∗ don X (barCell c) ∗ has c arg1 (tab c) ∗ has c arg2 (X c) ∗ has c arg3 W ∗ R) := by
  rw [h]
  unfold rideB drnSt rcvSt outSt
  iintro ⟨H6, ⟨⟨HE, HO, HV⟩, HD, HB⟩, H1, H2, H3, H4, H5, HR⟩
  isplitl [HE HO HD]
  · isplitl [HE]; · iexact HE
    isplitl [HO] <;> iassumption
  isplitl [H6]; · iexact H6
  isplitl [H4]; · iexact H4
  isplitl [H5]; · iexact H5
  isplitl [HV]; · iexact HV
  isplitl [HB]; · iexact HB
  isplitl [H1]; · iexact H1
  isplitl [H2]; · iexact H2
  isplitl [H3] <;> iassumption

theorem body_out : iprop(drnSt X K c 32 ∗ has c arg6 Y ∗ has c arg4 s4 ∗ has c arg5 s5
      ∗ bigSep Finset.univ (rcv X c 32) ∗ don X (barCell c) ∗ has c arg1 (tab c) ∗ has c arg2 (X c) ∗ has c arg3 W ∗ R)
    ⊢ iprop(endSt X K c ∗ has c arg6 Y ∗ rideB X c R arg1 arg2 arg3 arg4 arg5 W s4 s5) := by
  unfold rideB drnSt endSt
  iintro ⟨⟨HE, HO, HD⟩, H6, H4, H5, HV, HB, H1, H2, H3, HR⟩
  isplitl [HE HO HD HV HB]
  · isplitl [HE]; · iexact HE
    isplitl [HO]; · iexact HO
    isplitl [HV]; · iexact HV
    isplitl [HD] <;> iassumption
  isplitl [H6]; · iexact H6
  isplitl [H1]; · iexact H1
  isplitl [H2]; · iexact H2
  isplitl [H3]; · iexact H3
  isplitl [H4]; · iexact H4
  isplitl [H5] <;> iassumption

theorem body_swap (A B C : sProp (MT nD τ sig Unit (Elt F) ℕ UU ℕ)) : iprop(A ∗ B ∗ C) ⊢ iprop(B ∗ A ∗ C) := by
  iintro ⟨H1, H2, H3⟩
  isplitl [H2]; · iexact H2
  isplitl [H1] <;> iassumption
end

set_option allowUnsafeReducibility true
attribute [local irreducible] k0_cond38 k0_cond39 k0_cond40 k0_cond67 k0_cond68 k0_cond69 k0_cond70 k0_cond71 k0_cond72
  k0_off162 k0_off163 k0_off164 k0_off165 k0_off166 k0_off167 k0_off168 k0_off169 k0_off170 k0_off171 k0_off172 k0_off173
  k0_part1 k0_part2 k0_part3 k0_part4 k0_part5 k0_part6 k0_part7 k0_part8 k0_part9 k0_part10 k0_part11 k0_part12 k0_part13 k0_part14 k0_part15 k0_part16 k0_part17
  blk xtAll k0_pay1 k0_pay2 k0_pay5 k0_pay6

/-- The body has returned, up to an update. -/
theorem wp_end {P : sProp (MT nD τ sig Unit (Elt F) ℕ UU ℕ)} {Q : PUnit → sProp (MT nD τ sig Unit (Elt F) ℕ UU ℕ)} (a : PUnit) (h : P ⊢ iprop(|={Set.univ}=> Q a)) :
    P ⊢ wp frame (wpE (defs₀ (F := F)) 𝒱₀ c none) Set.univ (pure a : Prog (TpuEff nD τ sig (Elt F) Λ₀ .tc) PUnit) Q := by
  rw [wp_pure]; exact h

set_option maxHeartbeats 1000000 in
/-- The kernel at a grid point. -/
theorem body (W : Vec F S512x8192 .fp8e4m3) (s4 s5 : S1.Idx → Elt F .f32) (Y : Vec F S128x8192 .f32) {Q : PUnit → sProp (MT nD τ sig Unit (Elt F) ℕ UU ℕ)}
    (rest : iprop(extSt X K c (pt i) ∗ has c arg6 (out1 X c i W s4 s5 Y) ∗ rideB X c R arg1 arg2 arg3 arg4 arg5 W s4 s5) ⊢ iprop(|={Set.univ}=> Q ⟨⟩)) :
    iprop(has c arg1 (tab c) ∗ entSt X K c (pt i) ∗ has c arg2 (X c) ∗ has c arg3 W ∗ has c arg4 s4 ∗ has c arg5 s5 ∗ has c arg6 Y ∗ R)
      ⊢ wp frame (wpE (defs₀ (F := F)) 𝒱₀ c none) Set.univ
        (cc0_body i arg1 harg1 arg2 harg2 arg3 harg3 arg4 harg4 arg5 harg5 arg6 harg6 (Memref.whole cc0_scratch0) h7 (Memref.whole cc0_scratch1) h8 cc0_scratch2 cc0_scratch3) Q := by
  rw [cc0_body_eq_skeleton]; unfold cc0_body_skel
  rw [wp_bind]
  refine part17 X K c _ i arg1 harg1 arg2 harg2 arg3 harg3 arg4 harg4 arg5 harg5 arg6 harg6 h7 h8 fun v2 v3 w0 => ?_
  refine (body_in X K c R i arg1 arg2 arg3 arg4 arg5 arg6 W s4 s5 Y).trans ?_
  refine ld_step c _ arg3 zz W ?_
  refine (body_mid X K c R i arg1 arg2 arg3 arg4 arg5 arg6 W s4 s5 Y).trans ?_
  by_cases h0 : pt i = 0
  · refine yes_step c ((cond38_pt i).mpr h0) ?_
    refine ld_step c _ arg6 zz Y ?_
    refine st_step c _ arg6 zz Y _ ?_
    refine no_step c (fun h => (cond39_pt i).mp h h0) ?_
    have h7' : pt i ≠ 7 := by rw [h0]; decide
    refine no_step c (fun h => h7' ((cond40_pt i).mp h)) ?_
    refine wp_end c _ (.trans ?_ rest)
    unfold extSt out1 acc1
    rw [if_neg h7', if_neg h7', if_pos h0]
    exact body_swap _ _ _
  · refine no_step c (fun h => h0 ((cond38_pt i).mp h)) ?_
    refine yes_step c ((cond39_pt i).mpr h0) ?_
    refine ld_step c _ arg6 zz Y ?_
    refine ld_step c _ arg6 zz Y ?_
    refine st_step c _ arg6 zz Y _ ?_
    by_cases h7' : pt i = 7
    · have h := (cond40_pt i).mpr h7'
      refine yes_step c h ?_
      refine (body_last X K c R i arg1 arg2 arg3 arg4 arg5 arg6 W s4 s5 _ h7').trans ?_
      rw [wp_bind]
      refine part12 X K c _ i arg1 harg1 arg2 harg2 arg3 harg3 arg4 harg4 arg5 harg5 arg6 harg6 h7 h8 _ _ h _ s4 s5 ?_
      intro w12
      rw [wp_bind]
      refine part13 X K c _ i arg1 harg1 arg2 harg2 arg3 harg3 arg4 harg4 arg5 harg5 arg6 harg6 h7 h8 _ _ h _ ?_
      rintro ⟨v104, v111⟩
      rw [wp_bind]
      refine part14 X K c _ i arg1 harg1 arg2 harg2 arg3 harg3 arg4 harg4 arg5 harg5 arg6 harg6 h7 h8 _ _ h _ _ ?_
      intro v144
      rw [wp_bind]
      refine part15 X K c _ i arg1 harg1 arg2 harg2 arg3 harg3 arg4 harg4 arg5 harg5 arg6 harg6 h7 h8 _ _ h _ ?_
      rintro ⟨v173, v175, v177, c102⟩
      rw [wp_bind]
      refine part16 X K c _ i arg1 harg1 arg2 harg2 arg3 harg3 arg4 harg4 arg5 harg5 arg6 harg6 h7 h8 _ _ h _ _ _ _ ?_
      rintro ⟨v196, v208, v210, c122⟩
      refine drn_step X K c _ 26 (by decide) (drn_at26 c).1 rfl (drn_at26 c).2 ?_
      refine drn_step X K c _ 27 (by decide) (drn_at27 c).1 rfl (drn_at27 c).2 ?_
      refine drn_step X K c _ 28 (by decide) (drn_at28 c).1 rfl (drn_at28 c).2 ?_
      refine drn_step X K c _ 29 (by decide) (drn_at29 c).1 rfl (drn_at29 c).2 ?_
      refine drn_step X K c _ 30 (by decide) (drn_at30 c).1 rfl (drn_at30 c).2 ?_
      refine drn_step X K c _ 31 (by decide) (drn_at31 c).1 rfl (drn_at31 c).2 ?_
      refine wp_end c _ (.trans ?_ rest)
      unfold extSt out1 acc1
      rw [if_pos h7', if_pos h7', if_neg h0]
      exact body_out X K c R arg1 arg2 arg3 arg4 arg5 arg6 W s4 s5 _
    · refine no_step c (fun h => h7' ((cond40_pt i).mp h)) ?_
      refine wp_end c _ (.trans ?_ rest)
      unfold extSt out1 acc1
      rw [if_neg h7', if_neg h7', if_neg h0]
      exact body_swap _ _ _

end Cert.KernelIdeal.Exchange
-- ==== Proof.KI.Fin.lean ====
/-
  The end of the exchange: at the last grid point every cell is closed, its counter at zero, and the blocks the copies
  went between are again the two buffers.
-/
module

public import proofs.«01_k».proof.Proof.KI.Body

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]

local notation "𝕄" => MT nD τ sig Unit (Elt F) ℕ UU ℕ

variable (X : Cols (F := F)) (K : GSem nD τ sig → ℕ) (c : Dev nD)

/-! ## The kernel's own semaphores by what they are for -/

def sendEmb : Dev nD ↪ Fin 64 := ⟨sendIx c, fun p q h => slot_inj c (congrArg Fin.val h)⟩
def recvEmb : Dev nD ↪ Fin 64 := ⟨recvIx, fun p q h => Fin.ext (by have : 32 + p.val = 32 + q.val := congrArg Fin.val h; omega)⟩

theorem ix_disjoint : Disjoint (Finset.univ.map (sendEmb c)) (Finset.univ.map recvEmb) := by
  rw [Finset.disjoint_left]
  rintro k h₁ h₂
  obtain ⟨p, -, rfl⟩ := Finset.mem_map.mp h₁
  obtain ⟨q, -, h⟩ := Finset.mem_map.mp h₂
  have : 32 + q.val = slot c p := congrArg Fin.val h
  have := slot_lt c p
  omega
theorem ix_cover : (Finset.univ : Finset (Fin 64)) = Finset.univ.map (sendEmb c) ∪ Finset.univ.map recvEmb := by
  ext k
  simp only [Finset.mem_univ, Finset.mem_union, Finset.mem_map, true_and, true_iff]
  by_cases h : k.val < 32
  · exact .inl ⟨dst c k.val, Fin.ext (slot_dst c h)⟩
  · exact .inr ⟨⟨k.val - 32, by have := k.isLt; show _ < 32; omega⟩, Fin.ext (by show 32 + (k.val - 32) = k.val; omega)⟩

theorem own_split (Φ : Fin 64 → sProp 𝕄) :
    bigSep Finset.univ Φ = iprop(bigSep Finset.univ (fun p : Dev nD => Φ (sendIx c p)) ∗ bigSep Finset.univ (fun p : Dev nD => Φ (recvIx p))) := by
  rw [ix_cover c, BI.bigSep_union (ix_disjoint c), BI.bigSep_map, BI.bigSep_map]
  rfl

/-! ## Closing -/

theorem close_one (g : GSem nD τ sig) : iprop(cellInv ER (Rd X) (K g) g ∗ don X g) ⊢ iprop(|={Set.univ}=> semVal g 0 : sProp 𝕄) := by
  unfold don
  iintro ⟨HI, ⟨%r, %h, HA⟩⟩
  iapply (Rounds.cell_close ER (Rd X) (g := g) (Set.mem_univ (K g)) (fun h => h) h)
  isplitl [HI] <;> iassumption

theorem close_fam (gs : Dev nD → GSem nD τ sig) (hI : ∀ p, env X K c ⊢ cellInv ER (Rd X) (K (gs p)) (gs p)) :
    iprop(env X K c ∗ bigSep Finset.univ (fun p => don X (gs p))) ⊢ iprop(|={Set.univ}=> bigSep Finset.univ (fun p => semVal (gs p) 0) : sProp 𝕄) := by
  refine BI.Entails.trans ?_ (bigSep_fupd _ _)
  refine bigSep_with_persistent (R := env X K c) fun p _ => ?_
  iintro ⟨#HE, HD⟩
  iapply (close_one X K (gs p))
  isplitr
  · iapply (hI p); iexact HE
  iexact HD

theorem rows_join : bigSep Finset.univ (rowPts X c) ⊢ iprop(∃ f, has c (Memref.whole cc0_scratch0) f : sProp 𝕄) := by
  have e : (has c (Memref.whole cc0_scratch0) (X c) : sProp 𝕄) = bigSep Finset.univ (rowPts X c) :=
    (owns_whole (c : Thread nD τ) cc0_scratch0 fullShare (X c)).trans
      (Ring.pointsTo_blocks (ℓ := (c : Thread nD τ).loc cc0_scratch0) rowSet (fun p q h => rowSet_disjoint p q h) rowSet_cover (X c))
  rw [← e]
  iintro H; iexists (X c); iexact H
theorem cols_join : bigSep Finset.univ (fun p => colPts c p (xtAll X c)) ⊢ iprop(∃ f, has c (Memref.whole cc0_scratch1) f : sProp 𝕄) := by
  have e : (has c (Memref.whole cc0_scratch1) (xtAll X c) : sProp 𝕄) = bigSep Finset.univ (fun p => colPts c p (xtAll X c)) :=
    (owns_whole (c : Thread nD τ) cc0_scratch1 fullShare (xtAll X c)).trans
      (Ring.pointsTo_blocks (ℓ := (c : Thread nD τ).loc cc0_scratch1) colSet (fun p q h => colSet_disjoint p q h) colSet_cover (xtAll X c))
  rw [← e]
  iintro H; iexists (xtAll X c); iexact H

theorem rcv_end : bigSep Finset.univ (rcv X c 32) = iprop(bigSep Finset.univ (fun p => don X (recvCell c p)) ∗ bigSep Finset.univ (fun p => colPts c p (xtAll X c))) := by
  rw [← bigSep_sep']
  refine bigSep_congr fun p _ => ?_
  unfold rcv
  rw [if_neg (fun h => by have := rslot_lt c p; have := h.2; omega)]
theorem drn_end : bigSep Finset.univ (drn X c 32) = iprop(bigSep Finset.univ (fun p => don X (sendCell c p)) ∗ bigSep Finset.univ (rowPts X c)) := by
  rw [← bigSep_sep']
  refine bigSep_congr fun p _ => ?_
  unfold drn
  rw [if_neg (fun h => by have := slot_lt c p; have := h.2; omega)]

/-! ## The states between the grid points -/

/-- Before the first point. -/
def st0 : sProp 𝕄 := iprop(∃ K, env X K c ∗ bigSep Finset.univ (ini X c)
  ∗ (∃ f, has c (Memref.whole cc0_scratch0) f) ∗ (∃ f, has c (Memref.whole cc0_scratch1) f)
  ∗ cred (tallyAt (barCell c) () 31) ∗ atPos ER (barCell c) 0 ∅ 0)
/-- Between points. -/
def stM (n : ℕ) : sProp 𝕄 := iprop(∃ K, env X K c ∗ bigSep Finset.univ (rcv X c (4 * n)) ∗ outSt X c)
/-- After the last. -/
def stE : sProp 𝕄 := iprop(semVal (barCell c) 0 ∗ Pipeline.ownSems0 osem c
  ∗ (∃ f, has c (Memref.whole cc0_scratch0) f) ∗ (∃ f, has c (Memref.whole cc0_scratch1) f))
def st (n : ℕ) : sProp 𝕄 := if n = 0 then st0 X c else if n < 8 then stM X c n else stE c
/-- What the device owes then. -/
def owd (n : ℕ) : CellTallies nD τ sig Unit := if n = 0 then oSig c 1 + oSnd c 0 else 0

theorem st_enter (j : Fin 8) : iprop(st X c j.val ∗ own c (owd c j.val)) ⊢ iprop(∃ K, entSt X K c j : sProp 𝕄) := by
  unfold st owd entSt
  by_cases h : j = 0
  · subst h
    rw [if_pos (show (0 : Fin 8).val = 0 from rfl), if_pos (show (0 : Fin 8).val = 0 from rfl)]
    unfold st0
    iintro ⟨⟨%K, HE, HI, Ha, Hb, HC, HA⟩, HO⟩
    iexists K
    rw [if_pos rfl]
    unfold begSt
    isplitr [HC HA]
    · isplitl [HE]; · iexact HE
      isplitl [HO]; · iexact HO
      isplitl [HI]; · iexact HI
      isplitl [Ha] <;> iassumption
    isplitl [HC] <;> iassumption
  · have h' : j.val ≠ 0 := fun e => h (Fin.ext e)
    rw [if_neg h', if_neg h', if_pos j.isLt]
    unfold stM
    iintro ⟨⟨%K, HE, HV, HD⟩, HO⟩
    iexists K
    rw [if_neg h]
    unfold rcvSt
    isplitr [HD]
    · isplitl [HE]; · iexact HE
      isplitl [HO] <;> iassumption
    iexact HD

theorem close_all : iprop(endSt X K c) ⊢ iprop(|={Set.univ}=> (stE c ∗ own c 0) : sProp 𝕄) := by
  unfold endSt stE Pipeline.ownSems0
  rw [rcv_end, drn_end, own_split c]
  iintro ⟨#HE, HO, ⟨HV, Hc⟩, ⟨HD, Hr⟩, HB⟩
  imod (close_one X K (barCell c)) $$ [HB] with Hb
  · isplitr
    · iapply (env_bar X K c c); iexact HE
    iexact HB
  imod (close_fam X K c (sendCell c) (env_send X K c c)) $$ [HD] with Hs
  · isplitr; · iexact HE
    iexact HD
  imod (close_fam X K c (recvCell c) (env_recv X K c c)) $$ [HV] with Hv
  · isplitr; · iexact HE
    iexact HV
  imodintro
  isplitr [HO]
  · isplitl [Hb]; · iexact Hb
    isplitl [Hs Hv]; · isplitl [Hs] <;> iassumption
    isplitl [Hr]; · iapply (rows_join X c); iexact Hr
    iapply (cols_join X c); iexact Hc
  iexact HO

theorem st_leave (j : Fin 8) : extSt X K c j ⊢ iprop(|={Set.univ}=> (st X c (j.val + 1) ∗ own c (owd c (j.val + 1))) : sProp 𝕄) := by
  unfold st owd extSt
  rw [if_neg (Nat.succ_ne_zero _), if_neg (Nat.succ_ne_zero _)]
  by_cases h : j = 7
  · subst h
    rw [if_pos rfl, if_neg (by decide)]
    exact close_all X K c
  · have h' : j.val ≠ 7 := fun e => h (Fin.ext e)
    rw [if_neg h, if_pos (by have := j.isLt; omega)]
    unfold stM rcvSt
    iintro ⟨⟨HE, HO, HV⟩, HD⟩
    imodintro
    isplitr [HO]
    · iexists K
      isplitl [HE]; · iexact HE
      isplitl [HV] <;> iassumption
    iexact HO

end Cert.KernelIdeal.Exchange
-- ==== Proof.KI.Fund.lean ====
/-
  What a launch hands out: every cell's invariant, each device's tokens, and the credit on its own cells.
-/
module

public import proofs.«01_k».proof.Proof.KI.Fin

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]

local notation "𝕄" => MT nD τ sig Unit (Elt F) ℕ UU ℕ

variable (X : Cols (F := F)) (c : Dev nD)

/-! ## Cells and tokens -/

theorem dev_of {c d : Dev nD} {s s' : SemLoc sig} (h : (((c : Thread nD τ), s) : GSem nD τ sig) = ((d : Thread nD τ), s')) : c = d :=
  congrArg (fun g : GSem nD τ sig => g.1.1) h
theorem bar_ne (p q : Dev nD) (k : Fin 64) : barCell p ≠ ((q : Thread nD τ), osem k) := fun e => by
  have := congrArg Prod.snd e; unfold barCell osem at this; exact nomatch this
def barEmb : Dev nD ↪ GSem nD τ sig := ⟨barCell, fun _ _ h => dev_of h⟩
def comEmb : Dev nD × Fin 64 ↪ GSem nD τ sig :=
  ⟨fun x => ((x.1 : Thread nD τ), osem x.2), fun _ _ h => Prod.ext (dev_of h) (osem_inj (congrArg Prod.snd h))⟩
abbrev barCells : Finset (GSem nD τ sig) := Finset.univ.map barEmb
abbrev comCells : Finset (GSem nD τ sig) := Finset.univ.map comEmb

theorem cells_disjoint : Disjoint (barCells : Finset (GSem nD τ sig)) comCells := by
  rw [Finset.disjoint_left]
  rintro g h₁ h₂
  obtain ⟨c, -, rfl⟩ := Finset.mem_map.mp h₁
  obtain ⟨x, -, h⟩ := Finset.mem_map.mp h₂
  exact bar_ne _ _ _ h.symm

theorem bar_in (p : Dev nD) : barCell p ∈ (barCells ∪ comCells : Finset (GSem nD τ sig)) :=
  Finset.mem_union_left _ (Finset.mem_map_of_mem barEmb (Finset.mem_univ p))
theorem com_in (p : Dev nD) (k : Fin 64) : ((p : Thread nD τ), osem k) ∈ (barCells ∪ comCells : Finset (GSem nD τ sig)) :=
  Finset.mem_union_right _ (Finset.mem_map_of_mem comEmb (Finset.mem_univ (p, k)))

/-- The cell of the duty of each kind that `c` has toward `p`. -/
def dutyOf (c p : Dev nD) : Fin 3 → GSem nD τ sig := fun k => if k = 0 then barCell p else if k = 1 then recvCell p c else sendCell c p
theorem dutyOf_inj {c p q : Dev nD} {k l : Fin 3} (h : dutyOf c p k = dutyOf c q l) : p = q ∧ k = l := by
  have hsr (p q : Dev nD) : sendIx c p ≠ recvIx q := fun e => by
    have := congrArg Fin.val e; have := slot_lt c p; unfold sendIx recvIx at *; simp only at *; omega
  fin_cases k <;> fin_cases l
  · exact ⟨dev_of h, rfl⟩
  · exact absurd h (bar_ne _ _ _)
  · exact absurd h (bar_ne _ _ _)
  · exact absurd h.symm (bar_ne _ _ _)
  · exact ⟨dev_of h, rfl⟩
  · exact absurd (osem_inj (congrArg Prod.snd h)).symm (hsr _ _)
  · exact absurd h.symm (bar_ne _ _ _)
  · exact absurd (osem_inj (congrArg Prod.snd h)) (hsr _ _)
  · exact ⟨slot_inj c (congrArg Fin.val (osem_inj (congrArg Prod.snd h))), rfl⟩

def tokEmb : Dev nD × (Dev nD × Fin 3) ↪ GSem nD τ sig × ℕ × Dev nD :=
  ⟨fun x => (dutyOf x.1 x.2.1 x.2.2, 0, x.1), fun x y h => by
    obtain ⟨c, p, k⟩ := x; obtain ⟨d, q, l⟩ := y
    obtain rfl : c = d := congrArg (fun t : GSem nD τ sig × ℕ × Dev nD => t.2.2) h
    obtain ⟨rfl, rfl⟩ := dutyOf_inj (congrArg Prod.fst h)
    rfl⟩
def duties : Finset (GSem nD τ sig × ℕ × Dev nD) := Finset.univ.map tokEmb

def tok (c p : Dev nD) : sProp 𝕄 := iprop(dutyTok ER (barCell p) 0 c ∗ dutyTok ER (recvCell p c) 0 c ∗ dutyTok ER (sendCell c p) 0 c)

theorem three (Φ : Fin 3 → sProp 𝕄) : bigSep Finset.univ Φ = iprop(Φ 0 ∗ Φ 1 ∗ Φ 2) :=
  bigSep_univ_eq_bigSepL [0, 1, 2] (by decide) (by decide) Φ

theorem toks_eq : bigSep duties (fun x => (dutyTok ER x.1 x.2.1 x.2.2 : sProp 𝕄)) = bigSep Finset.univ fun c : Dev nD => bigSep Finset.univ fun p : Dev nD => tok c p := by
  unfold duties; rw [BI.bigSep_map, BI.bigSep_univ_prod]
  refine bigSep_congr fun c _ => ?_
  rw [BI.bigSep_univ_prod]
  refine bigSep_congr fun p _ => ?_
  rw [three]; rfl

/-! ## Credit -/

theorem sig_bar (d : Dev nD) : owd d 0 (barCell c) () = if d = c then 0 else 1 := by
  unfold owd oSig oSnd
  rw [if_pos rfl, Pi.add_apply, Finsupp.add_apply, Finset.sum_apply, Finset.sum_apply, Finsupp.finset_sum_apply, Finsupp.finset_sum_apply,
    Finset.sum_eq_zero (f := fun p => (if p ≠ d ∧ 0 ≤ slot d p then tallyAt (recvCell p d) () N else 0 : CellTallies nD τ sig Unit) (barCell c) ()) (fun p _ => by
      split
      · rw [tallyAt_apply, if_neg fun e => bar_ne _ _ _ e.1]
      · rfl), Nat.add_zero, Finset.sum_eq_single c]
  · by_cases h : d = c
    · rw [if_neg fun e => e.1 h.symm, if_pos h]; rfl
    · rw [if_pos ⟨fun e => h e.symm, off_pos d c fun e => h e.symm⟩, if_neg h, tallyAt_apply, if_pos ⟨rfl, rfl⟩]
  · intro p _ hp
    split
    · rw [tallyAt_apply, if_neg fun e => hp (dev_of e.1).symm]
    · rfl
  · exact fun h => absurd (Finset.mem_univ _) h

theorem snd_recv (d p : Dev nD) (hp : p ≠ c) : owd d 0 (recvCell c p) () = if d = p then N else 0 := by
  unfold owd oSig oSnd
  rw [if_pos rfl, Pi.add_apply, Finsupp.add_apply, Finset.sum_apply, Finset.sum_apply, Finsupp.finset_sum_apply, Finsupp.finset_sum_apply,
    Finset.sum_eq_zero (f := fun q => (if q ≠ d ∧ 1 ≤ off d q then tallyAt (barCell q) () 1 else 0 : CellTallies nD τ sig Unit) (recvCell c p) ()) (fun q _ => by
      split
      · rw [tallyAt_apply, if_neg fun e => bar_ne _ _ _ e.1.symm]
      · rfl), Nat.zero_add, Finset.sum_eq_single c]
  · by_cases h : d = p
    · subst h
      rw [if_pos ⟨fun e => hp e.symm, Nat.zero_le _⟩, if_pos rfl, tallyAt_apply, if_pos ⟨rfl, rfl⟩]
    · rw [if_neg h]
      split
      · rw [tallyAt_apply, if_neg fun e => h (by
          have := congrArg Fin.val (osem_inj (congrArg Prod.snd e.1)); unfold recvIx at this; apply Fin.ext; simp only at this; omega)]
      · rfl
  · intro q _ hq
    split
    · rw [tallyAt_apply, if_neg fun e => hq (dev_of e.1).symm]
    · rfl
  · exact fun h => absurd (Finset.mem_univ _) h

theorem credit_bar : tallyOn (barCell c) (launchCredit (Pipeline.owing fun d => owd d 0) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => sig_bar c d]
  revert c; decide +kernel

theorem credit_recv (p : Dev nD) (hp : p ≠ c) :
    tallyOn (recvCell c p) (launchCredit (Pipeline.owing fun d => owd d 0) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => snd_recv c d p hp, Finset.sum_ite_eq' Finset.univ p fun _ => N,
    if_pos (Finset.mem_univ _)]

/-- The credit device `c` starts with for its copy from `p`. -/
def cre (c p : Dev nD) : sProp 𝕄 := if p ≠ c then cred (tallyAt (recvCell c p) () N) else iprop(emp)

def recvLoc : Dev nD ↪ SemLoc sig := ⟨fun p => osem (recvIx p), fun p q h => by
  have := congrArg Fin.val (osem_inj h); unfold recvIx at this; apply Fin.ext; simp only at this; omega⟩

theorem any_emp (P : sProp 𝕄) : P ⊢ iprop(emp) := by iintro -; iempintro

theorem creds : (Pipeline.launchCred (fun d => owd d 0) c : sProp 𝕄) ⊢ iprop(cred (tallyAt (barCell c) () 31) ∗ bigSep Finset.univ fun p => cre c p) := by
  unfold Pipeline.launchCred
  rw [bigSep_univ_at _ (SemLoc.reg barrier0), credit_bar]
  refine sep_mono_right ((BI.bigSep_subset (t := Finset.univ.map recvLoc) fun s hs => ?_).trans ?_)
  · obtain ⟨p, -, rfl⟩ := Finset.mem_map.mp hs
    exact Finset.mem_erase.mpr ⟨by show osem _ ≠ _; unfold osem; exact nofun, Finset.mem_univ _⟩
  · rw [BI.bigSep_map]
    refine bigSep_mono fun p _ => ?_
    unfold cre
    by_cases hp : p ≠ c
    · rw [if_pos hp, ← credit_recv c p hp]; exact BI.Entails.refl _
    · rw [if_neg hp]; exact any_emp _

end Cert.KernelIdeal.Exchange
-- ==== Proof.KI.Open.lean ====
/-
  From what a launch hands a device to the state the kernel starts in: the device's own copy semaphores join the
  schedule as the kernel is entered.
-/
module

public import proofs.«01_k».proof.Proof.KI.Fund

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]

local notation "𝕄" => MT nD τ sig Unit (Elt F) ℕ UU ℕ

variable (X : Cols (F := F)) (κ : GSem nD τ sig → ℕ) (c : Dev nD)

/-- Every cell's invariant, and that every barrier has opened. -/
def records : sProp 𝕄 :=
  iprop((bigSep (barCells ∪ comCells) fun g => cellInv ER (Rd X) (κ g) g) ∗ bigSep barCells fun g => reached ER g 0)

instance : BI.Persistent (records X κ) := by unfold records; infer_instance

theorem inv_at {g : GSem nD τ sig} (h : g ∈ (barCells ∪ comCells : Finset (GSem nD τ sig))) : records X κ ⊢ (cellInv ER (Rd X) (κ g) g : sProp 𝕄) := by
  have e : (bigSep (barCells ∪ comCells) fun g => (cellInv ER (Rd X) (κ g) g : sProp 𝕄)) ⊢ cellInv ER (Rd X) (κ g) g := bigSep_elim h
  unfold records
  iintro ⟨H, -⟩; iapply e $$ H
theorem bar_at (p : Dev nD) : records X κ ⊢ (reached ER (barCell p) 0 : sProp 𝕄) := by
  have e : (bigSep barCells fun g => (reached ER g 0 : sProp 𝕄)) ⊢ reached ER (barCell p) 0 :=
    bigSep_elim (Finset.mem_map_of_mem barEmb (Finset.mem_univ p))
  unfold records
  iintro ⟨-, H⟩; iapply e $$ H
theorem all_at {I : Type} [DecidableEq I] [Fintype I] {Φ : I → sProp 𝕄} (h : ∀ i, records X κ ⊢ Φ i) : records X κ ⊢ bigSep Finset.univ Φ :=
  (bigSep_of_persistent Finset.univ (records X κ)).trans (bigSep_mono fun i _ => h i)

/-- What stays with a device: its barrier's position, the rights to open its own cells, its tokens. -/
def linear : sProp 𝕄 := iprop(atPos ER (barCell c) 0 ∅ 0 ∗ bigSep Finset.univ (fun k : Fin 64 => openTok ER ((c : Thread nD τ), osem k))
  ∗ bigSep Finset.univ (fun p : Dev nD => tok c p))
/-- What a device has from the launch on until it enters the kernel. -/
def start : sProp 𝕄 := iprop((∃ κ, records X κ) ∗ linear c ∗ cred (tallyAt (barCell c) () 31) ∗ bigSep Finset.univ (fun p : Dev nD => cre c p))
/-- What it has once inside, its buffers apart. -/
def inside : sProp 𝕄 := iprop(∃ K, env X K c ∗ bigSep Finset.univ (ini X c) ∗ cred (tallyAt (barCell c) () 31) ∗ atPos ER (barCell c) 0 ∅ 0)

theorem open_one (k : Fin 64) : iprop(records X κ ∗ openTok ER ((c : Thread nD τ), osem k) ∗ semVal ((c : Thread nD τ), osem k) 0)
    ⊢ iprop(|={Set.univ}=> (atPos ER ((c : Thread nD τ), osem k) 0 ∅ 0 ∗ reached ER ((c : Thread nD τ), osem k) 0) : sProp 𝕄) := by
  iintro ⟨#HR, HO, HV⟩
  iapply (Rounds.cell_open ER (Rd X) (g := ((c : Thread nD τ), osem k)) (Set.mem_univ (κ ((c : Thread nD τ), osem k))))
  isplitr; · iapply (inv_at X κ (com_in c k)); iexact HR
  isplitl [HO] <;> iassumption
theorem open_all : iprop(records X κ ∗ bigSep Finset.univ (fun k : Fin 64 => openTok ER ((c : Thread nD τ), osem k)) ∗ Pipeline.ownSems0 osem c)
    ⊢ iprop(|={Set.univ}=> ((bigSep Finset.univ (fun p : Dev nD => atPos ER (sendCell c p) 0 ∅ 0) ∗ bigSep Finset.univ (fun p : Dev nD => reached ER (sendCell c p) 0))
      ∗ (bigSep Finset.univ (fun p : Dev nD => atPos ER (recvCell c p) 0 ∅ 0) ∗ bigSep Finset.univ (fun p : Dev nD => reached ER (recvCell c p) 0))) : sProp 𝕄) := by
  have e : iprop(|={Set.univ}=> bigSep Finset.univ (fun k : Fin 64 => iprop(atPos ER ((c : Thread nD τ), osem k) 0 ∅ 0 ∗ reached ER ((c : Thread nD τ), osem k) 0)) : sProp 𝕄)
      ⊢ iprop(|={Set.univ}=> ((bigSep Finset.univ (fun p : Dev nD => atPos ER (sendCell c p) 0 ∅ 0) ∗ bigSep Finset.univ (fun p : Dev nD => reached ER (sendCell c p) 0))
      ∗ (bigSep Finset.univ (fun p : Dev nD => atPos ER (recvCell c p) 0 ∅ 0) ∗ bigSep Finset.univ (fun p : Dev nD => reached ER (recvCell c p) 0))) : sProp 𝕄) := by
    rw [own_split c, bigSep_sep', bigSep_sep']
  refine BI.Entails.trans ?_ e
  refine BI.Entails.trans ?_ (bigSep_fupd _ _)
  refine BI.Entails.trans (sep_mono_right (Entails.of_eq (bigSep_sep' _ _ _).symm)) ?_
  exact bigSep_with_persistent (R := records X κ) fun k _ => open_one X κ c k

theorem ini_intro (p : Dev nD) : iprop((tok c p ∗ cre c p) ∗ atPos ER (sendCell c p) 0 ∅ 0 ∗ atPos ER (recvCell c p) 0 ∅ 0) ⊢ (ini X c p : sProp 𝕄) := by
  unfold tok cre ini
  by_cases h : p ≠ c
  · rw [if_pos h, if_pos h]
    iintro ⟨⟨⟨HB, HV, HS⟩, HC⟩, HaS, HaV⟩
    isplitl [HB HV HS HaS]
    · isplitl [HB]; · iexact HB
      isplitl [HV]; · iexact HV
      isplitl [HS] <;> iassumption
    isplitl [HC] <;> iassumption
  · rw [if_neg h, if_neg h]
    obtain rfl := not_not.mp h
    iintro ⟨-, HaS, HaV⟩
    isplitl [HaS]
    · iapply (don_self X (sendCell p p) (duties_send_self X p)) $$ HaS
    · iapply (don_self X (recvCell p p) (duties_recv_self X p)) $$ HaV

theorem ini_all : iprop(bigSep Finset.univ (fun p : Dev nD => tok c p) ∗ bigSep Finset.univ (fun p : Dev nD => cre c p)
      ∗ bigSep Finset.univ (fun p : Dev nD => atPos ER (sendCell c p) 0 ∅ 0) ∗ bigSep Finset.univ (fun p : Dev nD => atPos ER (recvCell c p) 0 ∅ 0))
    ⊢ (bigSep Finset.univ (ini X c) : sProp 𝕄) := by
  refine .trans ?_ (bigSep_mono fun p _ => ini_intro X c p)
  rw [bigSep_sep', bigSep_sep', bigSep_sep']
  iintro ⟨H1, H2, H3, H4⟩
  isplitl [H1 H2]
  · isplitl [H1] <;> iassumption
  isplitl [H3] <;> iassumption

theorem env_intro : iprop(records X κ ∗ bigSep Finset.univ (fun p : Dev nD => reached ER (sendCell c p) 0)
      ∗ bigSep Finset.univ (fun p : Dev nD => reached ER (recvCell c p) 0) ∗ levAts L lv) ⊢ (env X κ c : sProp 𝕄) := by
  have h1 : records X κ ⊢ (bigSep Finset.univ (fun p : Dev nD => cellInv ER (Rd X) (κ (barCell p)) (barCell p)) : sProp 𝕄) :=
    all_at X κ fun p => inv_at X κ (bar_in p)
  have h2 : records X κ ⊢ (bigSep Finset.univ (fun x : Dev nD × Dev nD => cellInv ER (Rd X) (κ (sendCell x.1 x.2)) (sendCell x.1 x.2)) : sProp 𝕄) :=
    all_at X κ fun x => inv_at X κ (com_in x.1 (sendIx x.1 x.2))
  have h3 : records X κ ⊢ (bigSep Finset.univ (fun x : Dev nD × Dev nD => cellInv ER (Rd X) (κ (recvCell x.1 x.2)) (recvCell x.1 x.2)) : sProp 𝕄) :=
    all_at X κ fun x => inv_at X κ (com_in x.1 (recvIx x.2))
  have h4 : records X κ ⊢ (bigSep Finset.univ (fun p : Dev nD => reached ER (barCell p) 0) : sProp 𝕄) := all_at X κ fun p => bar_at X κ p
  unfold env
  iintro ⟨#HR, HS, HV, HL⟩
  isplitr; · iapply h1; iexact HR
  isplitr; · iapply h2; iexact HR
  isplitr; · iapply h3; iexact HR
  isplitr; · iapply h4; iexact HR
  isplitl [HS]; · iexact HS
  isplitl [HV] <;> iassumption

theorem enter : iprop(start X c ∗ Pipeline.ownSems0 osem c ∗ levAts L lv) ⊢ iprop(|={Set.univ}=> inside X c : sProp 𝕄) := by
  unfold start linear inside
  iintro ⟨⟨⟨%κ, #HR⟩, ⟨HB, HO, HT⟩, HC, HR'⟩, HS, #HL⟩
  imod (open_all X κ c) $$ [HO HS] with ⟨⟨HaS, #HrS⟩, HaV, #HrV⟩
  · isplitr; · iexact HR
    isplitl [HO] <;> iassumption
  imodintro
  iexists κ
  isplitr
  · iapply (env_intro X κ c)
    isplitr; · iexact HR
    isplitr; · iexact HrS
    isplitr; · iexact HrV
    iexact HL
  isplitl [HT HR' HaS HaV]
  · iapply (ini_all X c)
    isplitl [HT]; · iexact HT
    isplitl [HR']; · iexact HR'
    isplitl [HaS] <;> iassumption
  isplitl [HC] <;> iassumption

end Cert.KernelIdeal.Exchange
-- ==== Proof.KI.Host.lean ====
/-
  The table each device computes on its host before the launch: the block of columns of each grid point.
-/
module

public import proofs.«01_k».proof.Proof.KI.Mid
public import proofs.«01_k».proof.Proof.Gen.KernelIdeal.Regions
public import Idealize.ShloMosaic.Lib.StableHlo.ReadAt

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]

variable (m : (ℓ : Loc nD τ sig) → Buf (Elt F) ℓ) (c : Dev nD)

/-- The quotient of the device's number by four, as the host computes it. -/
def quo (a b : BitVec 32) : BitVec 32 :=
  Scalar.select
      (IntOp.andi
        (IntOp.cmpi CmpIPredicate.ne (if a = 0 then (0 : BitVec 32) else if BitVec.msb a = true then -1 else 1) (if b = 0 then (0 : BitVec 32) else if BitVec.msb b = true then -1 else 1))
        (IntOp.cmpi CmpIPredicate.ne (IntOp.remsi ArithUnit.host a b) 0#32))
      (IntOp.subi (IntOp.divsi ArithUnit.host a b) 1#32) (IntOp.divsi ArithUnit.host a b)

theorem v4_at (j : S_.Idx) : V1 m c main_v4 j = IntOp.remui ArithUnit.host (IntOp.divui ArithUnit.host (Dev.word c) 1#32) 32#32 := by
  unfold V1
  after_reads_at
  rfl
theorem c1_at (j : S_.Idx) : V1 m c main_c_1 j = 4#32 := by
  unfold V1
  after_reads_at
theorem v5_at (V : Valuation τ sig (Elt F)) (j : S_.Idx) : StableHlo.after hostOps0_1 V main_v5 j = quo (V main_v4 j) (V main_c_1 j) := by
  after_reads_at
  rfl
theorem v8_at (V : Valuation τ sig (Elt F)) (j : S8.Idx) : StableHlo.after hostOps0_2 V main_v8 j = IntOp.addi (V main_v5 Idealize.ShloMosaic.ix0) (BitVec.ofNat 32 (j 0).val) := by
  after_reads_at
theorem c2_at (V : Valuation τ sig (Elt F)) (j : S_.Idx) : StableHlo.after hostOps0_2 V main_c_2 j = 8#32 := by
  after_reads_at

/-- What the host divides by: never zero. -/
def dvr (a : BitVec 32) : BitVec 32 := Scalar.select (IntOp.cmpi CmpIPredicate.eq a 0#32) (1#32) a

/-- The remainder, as the host computes it. -/
def rmd (a b : BitVec 32) : BitVec 32 :=
  Scalar.select
      (IntOp.andi
        (IntOp.cmpi CmpIPredicate.ne (IntOp.cmpi CmpIPredicate.slt (IntOp.remsi ArithUnit.host a (dvr b)) 0#32) (IntOp.cmpi CmpIPredicate.slt (dvr b) 0#32))
        (IntOp.cmpi CmpIPredicate.ne (IntOp.remsi ArithUnit.host a (dvr b)) 0#32))
      (IntOp.addi (IntOp.remsi ArithUnit.host a (dvr b)) (dvr b)) (IntOp.remsi ArithUnit.host a (dvr b))

theorem v9_at (V : Valuation τ sig (Elt F)) (j : S8.Idx) : StableHlo.after hostOps0_3 V main_v9 j = rmd (V main_v8 j) (V main_c_2 Idealize.ShloMosaic.ix0) := by
  after_reads_at
  rfl

theorem word_at : ∀ (c : Dev nD) (j : Fin 8), rmd (IntOp.addi (quo (IntOp.remui ArithUnit.host (IntOp.divui ArithUnit.host (Dev.word c) 1#32) 32#32) 4#32) (BitVec.ofNat 32 j.val)) 8#32
    = wd c j := by decide +kernel

/-- The table the launch finds. -/
theorem V4_tab : V4 m c main_v9 = tab c := by
  funext j
  refine (v9_at (V3 m c) j).trans ?_
  rw [show V3 m c main_v8 j = _ from v8_at (V2 m c) j, show V3 m c main_c_2 Idealize.ShloMosaic.ix0 = _ from c2_at (V2 m c) Idealize.ShloMosaic.ix0, show V2 m c main_v5 Idealize.ShloMosaic.ix0 = _ from v5_at (V1 m c) Idealize.ShloMosaic.ix0,
    v4_at, c1_at]
  exact word_at c ⟨(j 0).val, (j 0).isLt⟩

theorem V4_arg (r : Ref sig .tc) (h0 : r ∉ hostOps0_W) (h1 : r ∉ hostOps0_1_W) (h2 : r ∉ hostOps0_2_W) (h3 : r ∉ hostOps0_3_W) : V4 m c r = m ((c : Thread nD τ).loc r) := by
  rw [V4_of m c r h3, V3_of m c r h2, V2_of m c r h1, V1_of m c r h0]

/-- The table as the launch's prefetched contents. -/
def tabs : pre0.Contents (Elt F) := fun | 0 => tab c

/-- The block of the weights the table names at each grid point. -/
theorem tr1_at (i : grid0.Coords) : cc0_transform_1 k0_off1_inb numel1_S1 (tabs (F := F) c) i = ![bk c (pt i), 0] := by
  have h0 : (cc0_transform_1 k0_off1_inb numel1_S1 (tabs (F := F) c) i) 0 = bk c (pt i) := by
    have h1 : ∀ j : Fin 8, (wd c j).toNat = bk c j := fun j => by
      unfold wd; rw [BitVec.toNat_ofNat]; exact Nat.mod_eq_of_lt (Nat.lt_trans (bk_lt c j) (by decide))
    rw [← h1 (pt i), ← tab_at (F := F) c i numel1_S1]
    rfl
  funext a
  match a with
  | ⟨0, _⟩ => exact h0
  | ⟨1, _⟩ => rfl

theorem ok_tab : ok0 (F := F) (tabs c) := by
  intro i
  have h := tr1_at (F := F) c i
  have hb := bk_lt c (pt i)
  refine ⟨fun a => ?_, Or.inr (Affine.block_words_dvd (of_decide_eq_true rfl) (by decide))⟩
  rw [h]
  match a with
  | ⟨0, _⟩ => show (bk c (pt i) + 1) * 512 ≤ 4096; omega
  | ⟨1, _⟩ => show (0 + 1) * 8192 ≤ 8192; omega

end Cert.KernelIdeal.Exchange
-- ==== Proof.KI.Dat.lean ====
/-
  The kernel as the pipeline sees it: what each window's staging buffer holds after each grid point, what holds between
  the points, and that the kernel keeps to it.
-/
module

public import proofs.«01_k».proof.Proof.KI.Fin
public import proofs.«01_k».proof.Proof.KI.Host

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]
open Idealize.ShloMosaic.Pipeline (Dat Cfg Window)

local notation "𝕄" => MT nD τ sig Unit (Elt F) ℕ UU ℕ

variable (m : (ℓ : Loc nD τ sig) → Buf (Elt F) ℓ) (c : Dev nD)

/-- Every device's columns of x. -/
def cols : Cols (F := F) := fun d => m ((d : Thread nD τ).loc main_arg0)
/-- The table, with what the launch checks of it. -/
def adm : (pcfg0 (F := F)).Adm := ⟨tabs c, ok_tab c⟩
abbrev adms : Dev nD → (p : Fin 1) → (pcfgs (F := F) p).Adm := fun c _ => adm c
/-- Each window's array as the launch finds it. -/
def arr (w : Fin 5) : Buf (Elt F) (((cfg0 (F := F) (adm c)).win w).arr.view.loc (c : Thread nD τ)) := V4 m c (Proc.devRef .tc (Pipeline.arrRef spec0 w))
/-- Its block at a grid point. -/
def iblk (w : Fin 5) (t : Fin grid0.N) : (((cfg0 (F := F) (adm c)).win w).block.Idx → Elt F ((cfg0 (F := F) (adm c)).win w).elt) :=
  (((cfg0 (F := F) (adm c)).win w).blk t).view.read (Elt F) (arr m c w)

/-- The weights' block at grid point `t`. -/
def wblk (t : Fin grid0.N) : Vec F S512x8192 .fp8e4m3 := iblk m c 1 t
def sx : S1.Idx → Elt F .f32 := iblk m c 2 t0_0
def sw' : S1.Idx → Elt F .f32 := iblk m c 3 t0_0

def tt (n : ℕ) : Fin grid0.N := ⟨n % 8, by rw [N_0]; exact Nat.mod_lt _ (by decide)⟩
def jj (n : ℕ) : Fin 8 := ⟨n % 8, Nat.mod_lt _ (by decide)⟩

/-- The sum after grid point `n`. -/
def acc : ℕ → Vec F S128x8192 .f32
  | 0 => k0_pay1 (k0_pay6 (blk (cols m) c (jj 0))) (wblk m c (tt 0))
  | n + 1 => k0_pay2 (k0_pay6 (blk (cols m) c (jj (n + 1)))) (wblk m c (tt (n + 1))) (acc n)
/-- What the output's staging buffer holds after grid point `n`. -/
def outv (n : ℕ) : Vec F S128x8192 .f32 := if n = 7 then k0_pay5 (acc m c 7) (sw (sx m c)) (sw (sw' m c)) else acc m c n

def dat : Dat τ (Elt F) Unit ℕ UU ℕ (cfg0 (F := F) (adm c)) c where
  A := arr m c
  after
    | 0 => iblk m c 0
    | 1 => iblk m c 1
    | 2 => iblk m c 2
    | 3 => iblk m c 3
    | 4 => fun t => outv m c t.val
    | ⟨n + 5, h⟩ => absurd (show n + 5 < 5 from h) (by omega)
  Φ t := iprop(has c (Memref.whole main_v9) (tab c) ∗ st (cols m) c t.val)
  q _ := fullShare
  owed t := owd c t.val

abbrev dats : (p : Fin 1) → (c : Dev nD) → Dat τ (Elt F) Unit ℕ UU ℕ (Pipeline.pinD (pcfgs (F := F)) adms c p) c := fun _ c => dat m c

theorem pt_coords : ∀ t : Fin grid0.N, pt (grid0.coords t) = ⟨t.val, t.isLt.trans_eq N_0⟩ := by decide +kernel

theorem before0 (t : Fin grid0.N) (d) : (dat m c).before 0 t d = iblk m c 0 t :=
  ((dat m c).before_in_eq_fetched 0 rfl (fun _ => rfl) (fun _ _ _ => rfl) (fun _ => rfl) t d).trans rfl
theorem before1 (t : Fin grid0.N) (d) : (dat m c).before 1 t d = iblk m c 1 t :=
  ((dat m c).before_in_eq_fetched 1 rfl (fun _ => rfl) (fun _ _ _ => rfl) (fun _ => rfl) t d).trans rfl
theorem before2 (t : Fin grid0.N) (d) : (dat m c).before 2 t d = iblk m c 2 t :=
  ((dat m c).before_in_eq_fetched 2 rfl (fun _ => rfl) (fun _ _ _ => rfl) (fun _ => rfl) t d).trans rfl
theorem before3 (t : Fin grid0.N) (d) : (dat m c).before 3 t d = iblk m c 3 t :=
  ((dat m c).before_in_eq_fetched 3 rfl (fun _ => rfl) (fun _ _ _ => rfl) (fun _ => rfl) t d).trans rfl
theorem live4 (i : grid0.Coords) : idle0 4 i = false := by
  by_cases h : pt i = 0
  · have := (cond38_pt i).mpr h
    show (!(k0_cond38 i == 1#1) && _ && _) = false
    rw [this]; rfl
  · have := (cond39_pt i).mpr h
    show (!(k0_cond38 i == 1#1) && !(k0_cond39 i == 1#1) && _) = false
    rw [this]; simp
theorem flush4 (t : Fin grid0.N) (h : t.val ≠ 7) : ((cfg0 (F := F) (adm c)).win 4).flush t = false := by
  have h1 : ¬ t.val + 1 = grid0.N := fun e => h (by have := e.trans N_0; omega)
  show (true && (decide (t.val + 1 = grid0.N) || decide (∃ h : t.val + 1 < grid0.N, ((cfg0 (F := F) (adm c)).win 4).index ⟨t.val + 1, h⟩ ≠ ((cfg0 (F := F) (adm c)).win 4).index t))) = false
  rw [decide_eq_false h1, decide_eq_false fun ⟨_, h⟩ => h rfl]
  rfl
theorem before4 (t : Fin grid0.N) (h : t.val ≠ 0) (d) : (dat m c).before 4 t d = outv m c (t.val - 1) :=
  (dat m c).before_out_kept 4 rfl t h (flush4 c _ (by have := t.isLt.trans_eq N_0; show t.val - 1 ≠ 7; omega)) live4 (fun _ _ => rfl) d
theorem zero_off (t : Fin grid0.N) : ∀ a, ((cfg0 (F := F) (adm c)).win 0).index t a = 0 := fun a => by
  show cc0_transform_0 (grid0.coords t) a = 0
  fin_cases a <;> rfl
theorem blk0 (t : Fin grid0.N) : iblk m c 0 t = cols m c := by
  funext x
  have e : (((cfg0 (F := F) (adm c)).win 0).rect t).emb x = x := funext fun a => Fin.ext (Window.rect_emb_val_of_index_zero _ t a (zero_off c t a) x)
  refine (congrArg (show S4096x128.Idx → Elt F .fp8e4m3 from arr m c 0) e).trans ?_
  exact congrFun (V4_arg m c main_arg0 (by decide) (by decide) (by decide) (by decide)) x
theorem blk2 (t : Fin grid0.N) : iblk m c 2 t = sx m c := rfl
theorem blk3 (t : Fin grid0.N) : iblk m c 3 t = sw' m c := rfl

theorem tt_val (t : Fin grid0.N) : tt t.val = t := Fin.ext (Nat.mod_eq_of_lt (t.isLt.trans_eq N_0))
theorem jj_val (t : Fin grid0.N) : jj t.val = ⟨t.val, t.isLt.trans_eq N_0⟩ := Fin.ext (Nat.mod_eq_of_lt (t.isLt.trans_eq N_0))
theorem pt_jj (t : Fin grid0.N) : pt (grid0.coords t) = jj t.val := (pt_coords t).trans (jj_val t).symm

theorem acc_step (t : Fin grid0.N) (d) : acc1 (cols m) c (grid0.coords t) (iblk m c 1 t) ((dat m c).before 4 t d) = acc m c t.val := by
  unfold acc1
  rw [pt_jj t]
  by_cases h : t.val = 0
  · rw [if_pos (by rw [h]; rfl), h]
    have : t = tt 0 := by rw [← h, tt_val]
    rw [this]; rfl
  · rw [before4 m c t h d]
    obtain ⟨n, hn⟩ : ∃ n, t.val = n + 1 := ⟨t.val - 1, by omega⟩
    have ht := t.isLt.trans_eq N_0
    rw [if_neg (fun e => h (by have := congrArg Fin.val e; rw [jj_val] at this; exact this)), hn, Nat.add_sub_cancel]
    have : t = tt (n + 1) := by rw [← hn, tt_val]
    unfold outv
    rw [if_neg (by omega), this]; rfl

theorem out_step (t : Fin grid0.N) (d) : out1 (cols m) c (grid0.coords t) (iblk m c 1 t) (iblk m c 2 t) (iblk m c 3 t) ((dat m c).before 4 t d) = outv m c t.val := by
  unfold out1 outv
  rw [acc_step, pt_jj t, blk2, blk3]
  by_cases h : t.val = 7
  · rw [if_pos h, if_pos (by rw [h]; rfl), h]
  · rw [if_neg h, if_neg fun e => h (by have := congrArg Fin.val e; rw [jj_val] at this; exact this)]

end Cert.KernelIdeal.Exchange
-- ==== Proof.KI.Oblig.lean ====
/-
  The kernel keeps to the proof data at every grid point.
-/
module

public import proofs.«01_k».proof.Proof.KI.Dat
public import proofs.«01_k».proof.Proof.KI.Body

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]
open Idealize.ShloMosaic.Pipeline (Dat Cfg Window BodyObligationLoose)

variable (m : (ℓ : Loc nD τ sig) → Buf (Elt F) ℓ) (c : Dev nD)

theorem owes_in (t : Fin (grid0.N + 1)) : own c (owd c t.val) ⊢ ((dat m c).owesAt () t : sProp (MT nD τ sig Unit (Elt F) ℕ UU ℕ)) := by
  unfold own Dat.owesAt Pipeline.owesWithin Dat.bound
  iintro ⟨%W, HO⟩; iexists W; isplitr; · ipureintro; exact fun _ _ => Or.inl trivial
  iexact HO
theorem owes_out (t : Fin (grid0.N + 1)) : ((dat m c).owesAt () t : sProp (MT nD τ sig Unit (Elt F) ℕ UU ℕ)) ⊢ own c (owd c t.val) := by
  unfold own Dat.owesAt Pipeline.owesWithin
  iintro ⟨%W, -, HO⟩; iexists W; iexact HO

/-- The buffers' shape before a point. -/
theorem ent_shape (t : Fin grid0.N) (a2 : Memref sig .tc .vmem S4096x128 .fp8e4m3) (a3 : Memref sig .tc .vmem S512x8192 .fp8e4m3)
    (a4 a5 : Memref sig .tc .smem S1 .f32) (a6 : Memref sig .tc .vmem S128x8192 .f32) :
    iprop((has c (Memref.whole main_v9) (tab c) ∗ st (cols m) c t.val) ∗ (dat m c).owesAt () t.castSucc
      ∗ (∃ d, has c a2 ((dat m c).before 0 t d)) ∗ (∃ d, has c a3 ((dat m c).before 1 t d)) ∗ (∃ d, has c a4 ((dat m c).before 2 t d))
      ∗ (∃ d, has c a5 ((dat m c).before 3 t d)) ∗ ∃ d, has c a6 ((dat m c).before 4 t d))
    ⊢ iprop(∃ K d, has c (Memref.whole main_v9) (tab c) ∗ entSt (cols m) K c (pt (grid0.coords t)) ∗ has c a2 (cols m c)
      ∗ has c a3 (iblk m c 1 t) ∗ has c a4 (iblk m c 2 t) ∗ has c a5 (iblk m c 3 t) ∗ has c a6 ((dat m c).before 4 t d) ∗ emp) := by
  iintro ⟨⟨Ht, Hs⟩, HO, ⟨%d0, H0⟩, ⟨%d1, H1⟩, ⟨%d2, H2⟩, ⟨%d3, H3⟩, ⟨%d4, H4⟩⟩
  rw [before0, before1, before2, before3, blk0, pt_coords]
  ihave HO := (owes_out m c t.castSucc) $$ HO
  ihave HE := (st_enter (cols m) c ⟨t.val, t.isLt.trans_eq N_0⟩) $$ [Hs HO]
  · isplitl [Hs]; · iexact Hs
    iexact HO
  icases HE with ⟨%K, HE⟩
  iexists K; iexists d4
  isplitl [Ht]; · iexact Ht
  isplitl [HE]; · iexact HE
  isplitl [H0]; · iexact H0
  isplitl [H1]; · iexact H1
  isplitl [H2]; · iexact H2
  isplitl [H3]; · iexact H3
  isplitl [H4]; · iexact H4
  iempintro

/-- And after it. -/
theorem ext_shape (K : GSem nD τ sig → ℕ) (t : Fin grid0.N) (d) (a2 : Memref sig .tc .vmem S4096x128 .fp8e4m3) (a3 : Memref sig .tc .vmem S512x8192 .fp8e4m3)
    (a4 a5 : Memref sig .tc .smem S1 .f32) (a6 : Memref sig .tc .vmem S128x8192 .f32) :
    iprop(extSt (cols m) K c (pt (grid0.coords t)) ∗ has c a6 (out1 (cols m) c (grid0.coords t) (iblk m c 1 t) (iblk m c 2 t) (iblk m c 3 t) ((dat m c).before 4 t d))
      ∗ rideB (cols m) c iprop(emp) (Memref.whole main_v9) a2 a3 a4 a5 (iblk m c 1 t) (iblk m c 2 t) (iblk m c 3 t))
    ⊢ iprop(|={Set.univ}=> ((has c (Memref.whole main_v9) (tab c) ∗ st (cols m) c (t.val + 1)) ∗ (dat m c).owesAt () t.succ
      ∗ has c a2 (iblk m c 0 t) ∗ has c a3 (iblk m c 1 t) ∗ has c a4 (iblk m c 2 t) ∗ has c a5 (iblk m c 3 t) ∗ has c a6 (outv m c t.val))) := by
  unfold rideB
  rw [out_step, blk0, pt_coords]
  iintro ⟨HE, H6, H1, H2, H3, H4, H5, -⟩
  imod (st_leave (cols m) K c ⟨t.val, t.isLt.trans_eq N_0⟩) $$ HE with ⟨Hs, HO⟩
  imodintro
  isplitl [H1 Hs]
  · isplitl [H1]; · iexact H1
    iexact Hs
  isplitl [HO]
  · iapply (show own c (owd c (t.val + 1)) ⊢ ((dat m c).owesAt () t.succ : sProp (MT nD τ sig Unit (Elt F) ℕ UU ℕ)) from owes_in m c t.succ) $$ HO
  isplitl [H2]; · iexact H2
  isplitl [H3]; · iexact H3
  isplitl [H4]; · iexact H4
  isplitl [H5] <;> iassumption

theorem last_eq (t : Fin grid0.N) {A B : sProp (MT nD τ sig Unit (Elt F) ℕ UU ℕ)} :
    A = (match idle0 4 (grid0.coords t) with | true => B | false => A) := by rw [live4]

set_option maxHeartbeats 1000000 in
theorem oblig : BodyObligationLoose (dat m c) defs₀ 𝒱₀ () Set.univ := fun t => by
  rw [bigSep_W0, bigSep_W0]
  refine (ent_shape m c t _ _ _ _ _).trans ?_
  iintro ⟨%K, %d, H⟩
  iapply (body (cols m) K c iprop(emp) (grid0.coords t) _ _ _ _ _ _ _ _ _ _ _ _ _ _ (iblk m c 1 t) (iblk m c 2 t) (iblk m c 3 t) ((dat m c).before 4 t d) ?_) $$ H
  refine .trans ?_ (BI.fupd_mono (show _ ⊢ _ from sep_mono_right (sep_mono_right (sep_mono_right (sep_mono_right (sep_mono_right (sep_mono_right (Entails.of_eq (last_eq t)))))))))
  exact ext_shape m c K t d _ _ _ _ _

end Cert.KernelIdeal.Exchange
-- ==== Proof.KI.Region.lean ====
/-
  The kernel as a step of the program: what it is entered with, and what it leaves.
-/
module

public import proofs.«01_k».proof.Proof.KI.Open
public import proofs.«01_k».proof.Proof.KI.Oblig

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]
open Idealize.ShloMosaic.Pipeline (Dat Cfg Window BodyObligationLoose)

local notation "𝕄" => MT nD τ sig Unit (Elt F) ℕ UU ℕ

variable (m : (ℓ : Loc nD τ sig) → Buf (Elt F) ℓ) (c : Dev nD)

/-! ## Its waits -/

theorem owd_pos {n : ℕ} {g : GSem nD τ sig} {u : Unit} (h : 0 < owd c n g u) : u ∈ L g ∧ 0 < lv g u := by
  unfold owd at h
  split at h
  · rw [Pi.add_apply, Finsupp.add_apply] at h
    rcases Nat.add_pos_iff_pos_or_pos.mp h with h | h
    · unfold oSig at h
      rw [Finset.sum_apply, Finsupp.finset_sum_apply] at h
      obtain ⟨p, -, hp⟩ := Finset.exists_ne_zero_of_sum_ne_zero h.ne'
      split at hp
      · rw [tallyAt_apply] at hp
        split at hp
        · next e => obtain ⟨rfl, -⟩ := e; exact ⟨by rw [L_tc]; exact Finset.mem_singleton_self _, Nat.one_pos⟩
        · exact absurd rfl hp
      · exact absurd rfl hp
    · obtain ⟨p, rfl⟩ := oSnd_pos h
      refine ⟨by rw [L_tc]; exact Finset.mem_singleton_self _, ?_⟩
      show 0 < (if 38 ≤ 6 + (32 + c.val) then 2 else 0)
      rw [if_pos (by omega)]; decide
  · exact absurd h (Nat.lt_irrefl 0)

theorem stage_low : ∀ (w : Fin 5) (s : Fin (spec0 w).nbuf), ¬ 38 ≤ ((spec0 w).sem s).val := by decide

theorem waits : (levAts L lv : sProp 𝕄) ⊢ Pipeline.PerCore.cellsWaits (Pipeline.pinD (pcfgs (F := F)) adms) (dats m) () 0 c :=
  Pipeline.PerCore.cellsWaits_intro (Pipeline.pinD (pcfgs (F := F)) adms) (dats m) () 0 c fun w s t =>
    MayOwe.of_cut (L := L) (lev := lv) 0 (fun q hq => by rw [Finset.mem_singleton.mp hq, L_tc]; exact Finset.mem_singleton_self _)
      (fun g i hg => (owd_pos c (n := t.val) hg).1)
      (fun q hq => by
        rw [Finset.mem_singleton.mp hq]
        show (if 38 ≤ ((spec0 w).sem s).val then 2 else 0) ≤ 0
        rw [if_neg (stage_low w s)])
      (fun g i hg => (owd_pos c (n := t.val) hg).2)

/-! ## The buffers outside it -/

abbrev ref (r : Ref sig .tc) : DevRef τ sig := Proc.devRef .tc r
def six : Finset (DevRef τ sig) := {ref main_arg0, ref main_arg1, ref main_arg2, ref main_arg3, ref main_v10, ref main_v9}
theorem six_sub : six ⊆ Pipeline.ucRefs τ sig := fun b hb => by
  unfold six at hb
  simp only [Finset.mem_insert, Finset.mem_singleton] at hb
  rcases hb with rfl | rfl | rfl | rfl | rfl | rfl <;>
    exact Finset.mem_filter.mpr ⟨StableHlo.devRef_mem_tcRefs _, by decide⟩

theorem held_six (V : Valuation τ sig (Elt F)) : (StableHlo.held (c : Thread nD τ) six V : sProp 𝕄)
    = iprop(((c, ref main_arg0) ↦{fullShare} V (ref main_arg0)) ∗ ((c, ref main_arg1) ↦{fullShare} V (ref main_arg1))
      ∗ ((c, ref main_arg2) ↦{fullShare} V (ref main_arg2)) ∗ ((c, ref main_arg3) ↦{fullShare} V (ref main_arg3))
      ∗ ((c, ref main_v10) ↦{fullShare} V (ref main_v10)) ∗ ((c, ref main_v9) ↦{fullShare} V (ref main_v9))) := by
  unfold StableHlo.held six
  rw [BI.bigSep_insert (by decide), BI.bigSep_insert (by decide), BI.bigSep_insert (by decide), BI.bigSep_insert (by decide), BI.bigSep_insert (by decide), BI.bigSep_singleton]
  rfl

theorem share_full (w : Fin 5) : (dat m c).share w = fullShare := by
  fin_cases w <;> rfl
theorem arrays_at (G : (w : Fin 5) → Buf (Elt F) (((cfg0 (F := F) (adm c)).win w).arr.view.loc (c : Thread nD τ))) (V : Valuation τ sig (Elt F))
    (hG : ∀ w : Fin 5, G w = V (ref (Pipeline.arrRef spec0 w))) :
    ((dats m 0 c).arrays G : sProp 𝕄) = iprop(((c, ref main_arg0) ↦{fullShare} V (ref main_arg0)) ∗ ((c, ref main_arg1) ↦{fullShare} V (ref main_arg1))
      ∗ ((c, ref main_arg2) ↦{fullShare} V (ref main_arg2)) ∗ ((c, ref main_arg3) ↦{fullShare} V (ref main_arg3))
      ∗ ((c, ref main_v10) ↦{fullShare} V (ref main_v10))) := by
  have h := Pipeline.PerCore.arrays_eq (Pipeline.pinD (pcfgs (F := F)) adms) (dats m) (p := 0) c arr_whole0 (share_full m c) G
  have h' : (bigSep Finset.univ fun w : Fin 5 => (((c.tc : Thread nD τ).loc (Pipeline.arrRef spec0 w)) ↦{fullShare} G w : sProp 𝕄))
      = bigSep Finset.univ fun w : Fin 5 => ((c, ref (Pipeline.arrRef spec0 w)) ↦{fullShare} V (ref (Pipeline.arrRef spec0 w)) : sProp 𝕄) :=
    bigSep_congr fun w _ => by rw [hG]
  exact h.trans (h'.trans (bigSep_W0 _))

theorem table_eq : (Pipeline.prefHeld pre0 c (fun _ => fullShare) (tabs (F := F) c) : sProp 𝕄) = iprop((c, ref main_v9) ↦{fullShare} tab c) :=
  (bigSep_univ_eq_bigSepL [(0 : Fin 1)] (by decide) (by decide) _)

/-- The output as the kernel leaves it. -/
def res : Buf (Elt F) ((c : Thread nD τ).loc main_v10) := (dat m c).arrAt 4 grid0.N
/-- Every buffer as the kernel leaves it. -/
def Vf : Valuation τ sig (Elt F) := Function.update (V4 m c) (ref main_v10) (res m c)

theorem Vf_out : Vf m c (ref main_v10) = res m c := Function.update_self ..
theorem Vf_of (r : DevRef τ sig) (h : r ≠ ref main_v10) : Vf m c r = V4 m c r := Function.update_of_ne h ..

/-! ## The step -/

def regPre : sProp 𝕄 := iprop(StableHlo.held (c : Thread nD τ) (Pipeline.ucRefs τ sig) (V4 m c) ∗ start (cols m) c ∗ own c (owd c 0))
def regPost : sProp 𝕄 := iprop(StableHlo.held (c : Thread nD τ) (Pipeline.ucRefs τ sig) (Vf m c) ∗ semVal (barCell c) 0 ∗ own c 0)
def others : sProp 𝕄 := StableHlo.held (c : Thread nD τ) (Pipeline.ucRefs τ sig \ six) (V4 m c)
def leftover : sProp 𝕄 := iprop(semVal (barCell c) 0 ∗ ((c, ref main_v9) ↦{fullShare} tab c))

theorem entry : iprop(regPre m c ∗ Pipeline.ownSems0 osem c ∗ levAts L lv)
    ⊢ iprop(|={Set.univ}=> ((dats m 0 c).arrays ((dats m 0 c).arrAt · 0) ∗ Pipeline.prefHeld pre0 c (fun _ => fullShare) (tabs (F := F) c)
        ∗ (dats m 0 c).owesAt () 0 ∗ inside (cols m) c ∗ others m c) : sProp 𝕄) := by
  unfold regPre others
  rw [arrays_at m c ((dats m 0 c).arrAt · 0) (V4 m c) fun _ => rfl, table_eq, StableHlo.held_sub_split (c : Thread nD τ) six_sub, held_six, show V4 m c (ref main_v9) = tab c from V4_tab m c]
  iintro ⟨⟨⟨⟨H0, H1, H2, H3, H10, H9⟩, HR⟩, HS, HO⟩, Hs, HL⟩
  imod (enter (cols m) c) $$ [HS Hs HL] with HI
  · isplitl [HS]; · iexact HS
    isplitl [Hs] <;> iassumption
  imodintro
  isplitl [H0 H1 H2 H3 H10]
  · isplitl [H0]; · iexact H0
    isplitl [H1]; · iexact H1
    isplitl [H2]; · iexact H2
    isplitl [H3] <;> iassumption
  isplitl [H9]; · iexact H9
  isplitl [HO]; · iapply (show own c (owd c 0) ⊢ ((dat m c).owesAt () 0 : sProp 𝕄) from owes_in m c 0) $$ HO
  isplitl [HI] <;> iassumption

theorem into : iprop(inside (cols m) c ∗ Pipeline.prefHeld pre0 c (fun _ => fullShare) (tabs (F := F) c) ∗ Pipeline.scopedRest spec0 c)
    ⊢ ((dats m 0 c).Φ 0 : sProp 𝕄) := by
  rw [table_eq, scopedRest0_eq, show (dats m 0 c).Φ 0 = iprop(has c (Memref.whole main_v9) (tab c) ∗ st (cols m) c 0) from rfl]
  unfold st; rw [if_pos rfl]
  unfold inside st0 has
  simp only [owns_whole]
  iintro ⟨⟨%K, HE, HI, HC, HA⟩, HT, Ha, Hb⟩
  isplitl [HT]; · iexact HT
  iexists K
  isplitl [HE]; · iexact HE
  isplitl [HI]; · iexact HI
  isplitl [Ha]; · iexact Ha
  isplitl [Hb]; · iexact Hb
  isplitl [HC] <;> iassumption

theorem outof : (dats m 0 c).Φ (Fin.last grid0.N) ⊢ iprop(leftover c ∗ Pipeline.ownSems0 osem c ∗ Pipeline.scopedRest spec0 c : sProp 𝕄) := by
  rw [scopedRest0_eq, show (dats m 0 c).Φ (Fin.last grid0.N) = iprop(has c (Memref.whole main_v9) (tab c) ∗ st (cols m) c grid0.N) from rfl]
  unfold st; rw [if_neg (by rw [N_0]; decide), if_neg (by rw [N_0]; decide)]
  unfold leftover stE has
  simp only [owns_whole]
  iintro ⟨HT, HB, Hs, Ha, Hb⟩
  isplitl [HT HB]
  · isplitl [HB]; · iexact HB
    iexact HT
  isplitl [Hs]; · iexact Hs
  isplitl [Ha] <;> iassumption

theorem kept0 : (dat m c).A 0 = Vf m c (ref main_arg0) := (Vf_of m c (ref main_arg0) (by decide)).symm
theorem kept1 : (dat m c).A 1 = Vf m c (ref main_arg1) := (Vf_of m c (ref main_arg1) (by decide)).symm
theorem kept2 : (dat m c).A 2 = Vf m c (ref main_arg2) := (Vf_of m c (ref main_arg2) (by decide)).symm
theorem kept3 : (dat m c).A 3 = Vf m c (ref main_arg3) := (Vf_of m c (ref main_arg3) (by decide)).symm
theorem final (w : Fin 5) : (dat m c).arrAt w grid0.N = Vf m c (ref (Pipeline.arrRef spec0 w)) := by
  fin_cases w
  · exact ((dat m c).arrAt_in 0 rfl grid0.N).trans (kept0 m c)
  · exact ((dat m c).arrAt_in 1 rfl grid0.N).trans (kept1 m c)
  · exact ((dat m c).arrAt_in 2 rfl grid0.N).trans (kept2 m c)
  · exact ((dat m c).arrAt_in 3 rfl grid0.N).trans (kept3 m c)
  · exact (Vf_out m c).symm

theorem exit : iprop((dats m 0 c).arrays ((dats m 0 c).arrAt · grid0.N) ∗ (dats m 0 c).owesAt () (Fin.last grid0.N) ∗ leftover c ∗ others m c)
    ⊢ iprop(|={Set.univ}=> regPost m c : sProp 𝕄) := by
  have hG : ∀ w : Fin 5, (dats m 0 c).arrAt w grid0.N = Vf m c (ref (Pipeline.arrRef spec0 w)) := final m c
  have e9 : Vf m c (ref main_v9) = tab c := (Vf_of m c _ (by decide)).trans (V4_tab m c)
  have er : (others m c : sProp 𝕄) = StableHlo.held (c : Thread nD τ) (Pipeline.ucRefs τ sig \ six) (Vf m c) :=
    StableHlo.held_congr (c : Thread nD τ) fun b hb => (Vf_of m c b fun e => (Finset.mem_sdiff.mp hb).2 (by rw [e]; unfold six; decide)).symm
  unfold regPost leftover
  rw [arrays_at m c _ (Vf m c) hG, StableHlo.held_sub_split (c : Thread nD τ) six_sub, held_six, e9, er]
  iintro ⟨⟨H0, H1, H2, H3, H10⟩, HO, ⟨HB, H9⟩, HR⟩
  ihave HO := (owes_out m c (Fin.last grid0.N)) $$ HO
  imodintro
  isplitl [H0 H1 H2 H3 H10 H9 HR]
  · isplitr [HR]
    · isplitl [H0]; · iexact H0
      isplitl [H1]; · iexact H1
      isplitl [H2]; · iexact H2
      isplitl [H3]; · iexact H3
      isplitl [H10] <;> iassumption
    iexact HR
  isplitl [HB]; · iexact HB
  iexact HO

theorem own_facts : Pipeline.OwnSemFacts spec0 osem := by decide

set_option backward.isDefEq.respectTransparency.types false in
def region : Pipeline.PerCore.RegionSeg (pcfgs (F := F)) adms (dats m) () defs₀ 𝒱₀ L lv 0 where
  win := launch0.to₀.win
  block_pos := launch0.to₀.block_pos
  stage_whole := launch0.to₀.stage_whole
  K := Fin 64
  osem := osem
  ho := own_facts
  hbody c := oblig m c
  hwaits c := waits m c
  pre c := regPre m c
  post c := regPost m c
  X c := inside (cols m) c
  Y c := leftover c
  Z c := others m c
  hentry c := entry m c
  hin c := into m c
  hout c := outof m c
  hexit c := exit m c

end Cert.KernelIdeal.Exchange
-- ==== Proof.KI.Run.lean ====
/-
  The whole program on every device: it finishes, its arguments stay, its output is what the kernel computes, and every
  counter ends at zero.
-/
module

public import proofs.«01_k».proof.Proof.KI.Region

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]
open Idealize.ShloMosaic.Pipeline (Dat Cfg Window BodyObligationLoose)

local notation "𝕄" => MT nD τ sig Unit (Elt F) ℕ UU ℕ

variable (m : (ℓ : Loc nD τ sig) → Buf (Elt F) ℓ) (ρ : Dev nD → PrngReg) (c : Dev nD)

theorem cells_inj : Function.Injective (Pipeline.PerCore.cellOf (nD := nD) (τ := τ) (Pipeline.pinD (pcfgs (F := F)) adms)) :=
  Pipeline.PerCore.cellOf_injective _ (fun c p => by fin_cases p; exact (by decide : Pipeline.SpecSemsDistinct spec0))
    (fun c p p' h => absurd (Subsingleton.elim p p') h)

/-- What rides along with the host operations. -/
def aside (_ : Fin 2) (c : Dev nD) : sProp 𝕄 := iprop(start (cols m) c ∗ own c (owd c 0))

abbrev steps (c : Dev nD) : List (Pipeline.PerCore.Seg (pcfgs (F := F)) adms (dats m) () defs₀ 𝒱₀ L lv) :=
  [.host (seg0 m 𝒱₀ L lv (aside m) c), .host (seg1 m 𝒱₀ L lv (aside m)), .host (seg2 m 𝒱₀ L lv (aside m)), .host (seg3 m 𝒱₀ L lv (aside m)), .region (region m)]

def first (c : Dev nD) : sProp 𝕄 := iprop(StableHlo.held (c : Thread nD τ) (Pipeline.ucRefs τ sig) (V0 m c) ∗ aside m 0 c)
def last (c : Dev nD) : sProp 𝕄 := iprop(StableHlo.held (c : Thread nD τ) (Pipeline.ucRefs τ sig) (Vf m c) ∗ semVal (barCell c) 0)

/-! ## The launch -/

def u₀ : UU :=
  (initOf (Pipeline.PerCore.cells (Pipeline.pinD (pcfgs (F := F)) adms) cells_inj) (Pipeline.PerCore.launchToks (Pipeline.pinD (pcfgs (F := F)) adms) cells_inj),
    launchOf barCells comCells duties)

/-- One resource given to device 0. -/
def atZero (P : sProp 𝕄) (c : Dev nD) : sProp 𝕄 := if c = 0 then P else iprop(emp)
theorem atZero_all (P : sProp 𝕄) : bigSep Finset.univ (atZero P) = P := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

def seed : sProp 𝕄 := BI.own (ER (launchOf barCells comCells duties))

/-- A device's share of the launch that is not made of the schedule's own resources. -/
def plain (c : Dev nD) : sProp 𝕄 := iprop(StableHlo.held (c : Thread nD τ) (Pipeline.ucRefs τ sig) (V0 m c) ∗ own c (owd c 0)
  ∗ cred (tallyAt (barCell c) () 31) ∗ bigSep Finset.univ (fun p : Dev nD => cre c p))

theorem counters : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem share : iprop(unscopedBufs c (fun b => m ((c : Thread nD τ).loc b)) ∗ unscopedSems0 c
      ∗ owes (c : Thread nD τ) (owd c 0) ∅ ∗ Pipeline.launchCred (fun d => owd d 0) c ∗ prngReg c (ρ c) ∗ atZero seed c)
    ⊢ (iprop(plain m c ∗ semVal (barCell c) 0 ∗ atZero seed c) : sProp 𝕄) := by
  rw [show (unscopedBufs c (fun b => m ((c : Thread nD τ).loc b)) : sProp 𝕄) = StableHlo.held (c : Thread nD τ) (Pipeline.ucRefs τ sig) (V0 m c) from
    Pipeline.unscopedBufs_held c (V0 m c), counters]
  unfold plain own
  iintro ⟨Hh, Hs, HO, HC, -, HG⟩
  ihave HC := (creds (F := F) c) $$ HC
  icases HC with ⟨H1, HN⟩
  isplitr [Hs HG]
  · isplitl [Hh]; · iexact Hh
    isplitl [HO]; · iexists ∅; iexact HO
    isplitl [H1] <;> iassumption
  isplitl [Hs] <;> iassumption

theorem first_intro (κ : GSem nD τ sig → ℕ) : iprop(records (cols m) κ ∗ (linear c ∗ plain m c)) ⊢ (first m c : sProp 𝕄) := by
  unfold first plain aside start
  iintro ⟨#HR, Hl, Hh, HO, H1, HN⟩
  isplitl [Hh]; · iexact Hh
  isplitr [HO]
  · isplitr; · iexists κ; iexact HR
    isplitl [Hl]; · iexact Hl
    isplitl [H1] <;> iassumption
  iexact HO

theorem launched : iprop((bigSep Finset.univ fun c : Dev nD => iprop(unscopedBufs c (fun b => m ((c : Thread nD τ).loc b)) ∗ unscopedSems0 c
        ∗ owes (c : Thread nD τ) (owd c 0) ∅ ∗ Pipeline.launchCred (fun d => owd d 0) c ∗ prngReg c (ρ c) ∗ atZero seed c)) ∗ levAts L lv)
    ⊢ (|={Set.univ}=> bigSep Finset.univ (first m) : sProp 𝕄) := by
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep comCells (fun g => (openTok ER g : sProp 𝕄))
      ⊢ bigSep Finset.univ (fun c : Dev nD => bigSep Finset.univ fun k : Fin 64 => (openTok ER ((c : Thread nD τ), osem k) : sProp 𝕄)) :=
    Entails.of_eq (by rw [BI.bigSep_map, BI.bigSep_univ_prod]; rfl)
  iintro ⟨H, -⟩
  ihave H := (show (bigSep Finset.univ fun c : Dev nD => iprop(unscopedBufs c (fun b => m ((c : Thread nD τ).loc b)) ∗ unscopedSems0 c
        ∗ owes (c : Thread nD τ) (owd c 0) ∅ ∗ Pipeline.launchCred (fun d => owd d 0) c ∗ prngReg c (ρ c) ∗ atZero seed c))
      ⊢ (bigSep Finset.univ fun c : Dev nD => iprop(plain m c ∗ semVal (barCell c) 0 ∗ atZero seed c) : sProp 𝕄) from bigSep_mono fun c _ => share m ρ c) $$ H
  ihave H := (Entails.of_eq (bigSep_sep' _ _ _)) $$ H
  icases H with ⟨HB, H⟩
  ihave H := (Entails.of_eq (bigSep_sep' _ _ _)) $$ H
  icases H with ⟨Hv, HG⟩
  ihave Hu := (Entails.of_eq (atZero_all (seed (F := F)))) $$ HG
  ihave Hv := hv $$ Hv
  imod (Rounds.fund_launch ER (Rd (cols m)) cells_disjoint (fun g _ h => h) duties) $$ [Hv Hu] with ⟨%κ, -, #Hinv, #Hr, Hat, Hopen, Htok⟩
  · isplitl [Hv]; · iexact Hv
    unfold seed; iexact Hu
  imodintro
  iapply (bigSep_with_persistent (R := records (cols m) κ) (Φ := fun c => iprop(linear c ∗ plain m c)) fun c _ => first_intro m c κ)
  isplitr
  · unfold records
    isplitr; · iexact Hinv
    iexact Hr
  ihave Hat := hat $$ Hat
  ihave Hopen := hopen $$ Hopen
  ihave Htok := (Entails.of_eq (toks_eq (F := F))) $$ Htok
  unfold linear
  rw [bigSep_sep', bigSep_sep', bigSep_sep']
  isplitr [HB]
  · isplitl [Hat]; · iexact Hat
    isplitl [Hopen] <;> iassumption
  iexact HB

/-! ## The run -/

theorem unscoped_eq : ∀ sm : SemLoc sig, sm.isScoped .tc = false → sm = .reg barrier0 := by decide

/-- What a final state holds on a device. -/
def good (c : Dev nD) (s : MemSt nD τ sig (Elt F)) : Prop :=
  (∀ b ∈ Pipeline.ucRefs τ sig, s.mem ((c : Thread nD τ).1, b) = Vf m c b) ∧ s.sem (barCell c) = 0

theorem good_at {s : MemSt nD τ sig (Elt F)} (h : good m c s) (r : Ref sig .tc) (hr : ¬ (ref r).isScoped) :
    s.mem ((c : Thread nD τ).loc r) = Vf m c (ref r) := h.1 (ref r) (Finset.mem_filter.mpr ⟨StableHlo.devRef_mem_tcRefs r, hr⟩)

theorem ending (s' : Phys nD τ sig (Elt F)) : iprop(last m c ∗ SI s') ⊢ (|={Set.univ}=> iprop(⌜good m c s'.mem⌝ ∗ SI s') : sProp 𝕄) := by
  unfold last StableHlo.held good
  iintro ⟨⟨Hh, Hb⟩, HSI⟩
  icombine HSI Hb gives %hb
  ihave Hr := (pointsTo_read_all (Pipeline.ucRefs τ sig) (fun b => ((c : Thread nD τ).1, b)) (Vf m c) s') $$ [Hh HSI]
  · isplitl [Hh] <;> iassumption
  icases Hr with ⟨%h, HSI⟩
  imodintro
  isplitr
  · ipureintro
    exact ⟨h, by simpa using hb⟩
  iexact HSI

set_option backward.isDefEq.respectTransparency.types false in
theorem run : θ_run defs (onTc (τ := τ) (main (F := F))) ⟨m, fun _ => 0, ρ⟩
    (fun r => (∀ c : Dev nD, good m c r.2) ∧ r.2.sem = fun _ => 0) :=
  Pipeline.PerCore.θ_run_regions_kit_sems (pcfgs (F := F)) adms (dats m) () cells_inj EP defs₀ 𝒱₀ L lv m ρ main (steps m)
    (fun c Q => by
      rewrite [main_chain c, Pipeline.PerCore.Seg.run_eq_chain,
        show (steps m c).map Pipeline.PerCore.Seg.prog = [
          StableHlo.seq (hostOps0 c),
          StableHlo.seq hostOps0_1,
          StableHlo.seq hostOps0_2,
          StableHlo.seq hostOps0_3,
          Prog.lift (.customCall (Pipeline.entry 0) ()) ] from rfl]
      dsimp (config := { failIfUnchanged := false }) only
      exact .rfl)
    (fun c => by simp only [steps, Pipeline.PerCore.Seg.pipes_host, Pipeline.PerCore.Seg.pipes_region, Pipeline.PerCore.Seg.pipes_nil]; decide)
    (fun c => owd c 0) L_of_ne (atZero seed) u₀
    (by
      unfold u₀
      iintro Hu
      ihave H := (ownU_pair _ _) $$ Hu
      icases H with ⟨HP, HX⟩
      imodintro
      isplitl [HP]; · iexact HP
      rw [atZero_all]; unfold seed; iexact HX)
    (first m) (last m)
    (fun c => ⟨.rfl, .rfl, .rfl, .rfl, .rfl, by
      show regPost m c ⊢ _
      unfold regPost last own
      iintro ⟨Hh, Hb, HO⟩
      isplitr [HO]
      · isplitl [Hh] <;> iassumption
      iexact HO⟩)
    (launched m ρ) (good m) (ending m)
    (fun s h hs => ⟨h, sem_eq_zero hs fun c sm hsm => by
      obtain rfl := unscoped_eq sm hsm
      exact (h c).2⟩)

/-- An argument ends as it started. -/
theorem kept {s : MemSt nD τ sig (Elt F)} (h : good m c s) (r : Ref sig .tc) (hr : ¬ (ref r).isScoped) (hv : ref r ≠ ref main_v10)
    (h0 : r ∉ hostOps0_W) (h1 : r ∉ hostOps0_1_W) (h2 : r ∉ hostOps0_2_W) (h3 : r ∉ hostOps0_3_W) :
    s.mem ((c : Thread nD τ).loc r) = m ((c : Thread nD τ).loc r) :=
  (good_at m c h r hr).trans ((Vf_of m c (ref r) hv).trans (V4_arg m c r h0 h1 h2 h3))

theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨
    kept m c (h.1 c) main_arg0 (by decide) (by decide) (by decide) (by decide) (by decide) (by decide),
    kept m c (h.1 c) main_arg1 (by decide) (by decide) (by decide) (by decide) (by decide) (by decide),
    kept m c (h.1 c) main_arg2 (by decide) (by decide) (by decide) (by decide) (by decide) (by decide),
    kept m c (h.1 c) main_arg3 (by decide) (by decide) (by decide) (by decide) (by decide) (by decide)⟩, h.2⟩) (run m ρ)

end Cert.KernelIdeal.Exchange
-- ==== Proof.KI.Out.lean ====
/-
  What the launch leaves in its result: the last grid point's value, of the arguments as launched.
-/
module

public import proofs.«01_k».proof.Proof.KI.Region

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Cert.KernelIdeal Cert.KernelIdeal.Gen

variable {F : FTy → Type} [FloatOps F]
open Idealize.ShloMosaic.Pipeline (Dat Cfg Window)

variable (m : (ℓ : Loc nD τ sig) → Buf (Elt F) ℓ) (c : Dev nD)

theorem zero4 (t : Fin grid0.N) : ∀ a, ((cfg0 (F := F) (adm c)).win 4).index t a = 0 := fun a => by
  show cc0_transform_4 (grid0.coords t) a = 0
  fin_cases a <;> rfl
theorem zero2 (t : Fin grid0.N) : ∀ a, ((cfg0 (F := F) (adm c)).win 2).index t a = 0 := fun a => by
  show cc0_transform_2 (grid0.coords t) a = 0
  fin_cases a; rfl
theorem zero3 (t : Fin grid0.N) : ∀ a, ((cfg0 (F := F) (adm c)).win 3).index t a = 0 := fun a => by
  show cc0_transform_3 (grid0.coords t) a = 0
  fin_cases a; rfl

theorem sx_eq : sx m c = m ((c : Thread nD τ).loc main_arg2) := by
  funext x
  have e : (((cfg0 (F := F) (adm c)).win 2).rect t0_0).emb x = x := funext fun a => Fin.ext (Window.rect_emb_val_of_index_zero _ t0_0 a (zero2 c t0_0 a) x)
  refine (congrArg (show S1.Idx → Elt F .f32 from arr m c 2) e).trans ?_
  exact congrFun (V4_arg m c main_arg2 (by decide) (by decide) (by decide) (by decide)) x
theorem sw_eq : sw' m c = m ((c : Thread nD τ).loc main_arg3) := by
  funext x
  have e : (((cfg0 (F := F) (adm c)).win 3).rect t0_0).emb x = x := funext fun a => Fin.ext (Window.rect_emb_val_of_index_zero _ t0_0 a (zero3 c t0_0 a) x)
  refine (congrArg (show S1.Idx → Elt F .f32 from arr m c 3) e).trans ?_
  exact congrFun (V4_arg m c main_arg3 (by decide) (by decide) (by decide) (by decide)) x

/-- The block of the weights that a grid point multiplies with. -/
theorem wblk_at (j : ℕ) (q : Fin 512) (l : Fin 8192) :
    wblk m c (tt j) (Idealize.ShloMosaic.ValueIdx.ix2 q l) = (show S4096x8192.Idx → Elt F .fp8e4m3 from m ((c : Thread nD τ).loc main_arg1))
      (Idealize.ShloMosaic.ValueIdx.ix2 ⟨512 * bk c (jj j) + q.val, by have := bk_lt c (jj j); omega⟩ l) := by
  have hi : ((cfg0 (F := F) (adm c)).win 1).index (tt j) = ![bk c (jj j), 0] := by
    refine (tr1_at (F := F) c (grid0.coords (tt j))).trans ?_
    rw [pt_coords]; rfl
  have e : (((cfg0 (F := F) (adm c)).win 1).rect (tt j)).emb (Idealize.ShloMosaic.ValueIdx.ix2 q l) = Idealize.ShloMosaic.ValueIdx.ix2 ⟨512 * bk c (jj j) + q.val, by have := bk_lt c (jj j); omega⟩ l := by
    funext a
    apply Fin.ext
    have h0 : ((cfg0 (F := F) (adm c)).win 1).index (tt j) (0 : Fin 2) = bk c (jj j) := congrFun hi (0 : Fin 2)
    have h1 : ((cfg0 (F := F) (adm c)).win 1).index (tt j) (1 : Fin 2) = 0 := congrFun hi (1 : Fin 2)
    match a with
    | ⟨0, _⟩ =>
      show ((cfg0 (F := F) (adm c)).win 1).index (tt j) (0 : Fin 2) * 512 + 1 * q.val = 512 * bk c (jj j) + q.val
      rw [h0]; omega
    | ⟨1, _⟩ =>
      show ((cfg0 (F := F) (adm c)).win 1).index (tt j) (1 : Fin 2) * 8192 + 1 * l.val = l.val
      rw [h1]; omega
  refine (congrArg (show S4096x8192.Idx → Elt F .fp8e4m3 from arr m c 1) e).trans ?_
  exact congrFun (V4_arg m c main_arg1 (by decide) (by decide) (by decide) (by decide)) _

theorem out_here (t : Fin grid0.N) (j : S128x8192.Idx) : (show S128x8192.Idx from (((cfg0 (F := F) (adm c)).win 4).blk t).view.emb j) = j := by
  have e : (((cfg0 (F := F) (adm c)).win 4).rect t).emb j = j := funext fun a => Fin.ext (Window.rect_emb_val_of_index_zero ((cfg0 (F := F) (adm c)).win 4) t a (zero4 c t a) j)
  exact e

theorem flush_last : ((cfg0 (F := F) (adm c)).win 4).flush (tt 7) = true := by
  have h1 : (tt 7).val + 1 = grid0.N := N_0.symm
  show (true && (decide ((tt 7).val + 1 = grid0.N) || decide (∃ h : (tt 7).val + 1 < grid0.N, ((cfg0 (F := F) (adm c)).win 4).index ⟨(tt 7).val + 1, h⟩ ≠ ((cfg0 (F := F) (adm c)).win 4).index (tt 7)))) = true
  rw [decide_eq_true h1]
  rfl

/-- The result array after the launch. -/
theorem res_eq : res m c = outv m c 7 := by
  refine (dat m c).arrAt_eq_of_cover 4 (outv m c 7) (fun t ht => ?_) (fun i => ⟨tt 7, flush_last c, ?_⟩)
  · have h7 : t.val = 7 := by
      by_contra h
      rw [flush4 c t h] at ht
      exact Bool.false_ne_true ht
    funext j
    show outv m c t.val j = outv m c 7 ((((cfg0 (F := F) (adm c)).win 4).blk t).view.emb j)
    rw [h7]
    exact (congrArg (outv m c 7) (out_here c t j)).symm
  · have h := (((cfg0 (F := F) (adm c)).win 4).blk (tt 7)).view.emb_mem_set i
    exact (congrArg (· ∈ (((cfg0 (F := F) (adm c)).win 4).blk (tt 7)).view.set) (out_here c (tt 7) i)).mp h

end Cert.KernelIdeal.Exchange
-- ==== Proof.KI.Val.lean ====
/-
  The kernel's result over the extended reals, element by element: the eight partial products, in whichever order a
  device takes them, add up to the whole product.
-/
module

public import proofs.«01_k».proof.Proof.KI.Out
public import Idealize.ShloMosaic.Lib.Pointwise
public import Idealize.ShloMosaic.Lib.ValueIdx
public import Idealize.ShloMosaic.PureOps.Ideal

@[expose] public section

noncomputable section

namespace Cert.KernelIdeal.Exchange

open Idealize.ShloMosaic Idealize.ShloMosaic.TcCoe
open Cert.KernelIdeal Cert.KernelIdeal.Gen

variable (m : (ℓ : Loc nD τ sig) → Buf (Elt Ideal) ℓ) (c : Dev nD)

/-- Two spellings of an index of rank two. -/
theorem ixs {a b : ℕ} (i : Fin a) (j : Fin b) : ValueIdx.ix2 i j = ix2 i j := by
  funext x
  fin_cases x <;> rfl

/-- The weights, as device `c` finds them. -/
def wts : S4096x8192.Idx → EReal := fun i => (show S4096x8192.Idx → Elt Ideal .fp8e4m3 from m ((c : Thread nD τ).loc main_arg1)) i

/-- One term of an element of the product. -/
def term (r : Fin 128) (l : Fin 8192) (k : Fin 4096) : EReal := (xtAll (cols m) c (ix2 r k) : EReal) * wts m c (ix2 k l)

/-- Column `q` of column block `b`. -/
def at_ (b : Fin 8) (q : Fin 512) : Fin 4096 := ⟨512 * b.val + q.val, by omega⟩

/-- The block a device takes at each grid point. -/
def bkF (j : Fin 8) : Fin 8 := ⟨bk c j, bk_lt c j⟩

theorem bkF_bijective : Function.Bijective (bkF c) := by
  refine (Finite.injective_iff_bijective).mp fun i j h => Fin.ext ?_
  have h' : (c.val / 4 + i.val) % 8 = (c.val / 4 + j.val) % 8 := congrArg Fin.val h
  have := i.isLt; have := j.isLt
  omega

/-- The part of the sum that grid point `j` adds. -/
def part (r : Fin 128) (l : Fin 8192) (j : Fin 8) : EReal := ∑ q : Fin 512, term m c r l (at_ (bkF c j) q)

theorem prod_at (j : ℕ) (r : Fin 128) (l : Fin 8192) :
    (k0_pay1 (k0_pay6 (blk (cols m) c (jj j))) (wblk m c (tt j)) (ix2 r l) : EReal) = part m c r l (jj j) := by
  unfold k0_pay1 k0_pay6 part
  simp only [pointwise]
  rw [zero_add]
  refine Finset.sum_congr rfl fun q _ => ?_
  have hw := wblk_at m c j q l
  rw [ixs, ixs] at hw
  refine congrArg₂ (fun a b : EReal => a * b) ?_ hw
  exact congrArg (xtAll (cols m) c) (ixs _ _)

theorem pay2_at (x : Vec Ideal S128x512 .bf16) (w : Vec Ideal S512x8192 .fp8e4m3) (a : Vec Ideal S128x8192 .f32) (r : Fin 128) (l : Fin 8192) :
    (k0_pay2 x w a (ix2 r l) : EReal) = (a (ix2 r l) : EReal) + (k0_pay1 x w (ix2 r l) : EReal) := by
  unfold k0_pay2
  simp only [pointwise]

theorem pay5_at (a : Vec Ideal S128x8192 .f32) (s t : Elt Ideal .f32) (r : Fin 128) (l : Fin 8192) :
    (k0_pay5 a s t (ix2 r l) : EReal) = ((a (ix2 r l) : EReal) * ((s : EReal) * t)) * Ideal.logistic ((a (ix2 r l) : EReal) * ((s : EReal) * t)) := by
  unfold k0_pay5
  simp only [pointwise]

theorem acc_at (r : Fin 128) (l : Fin 8192) : ∀ n : ℕ, (acc m c n (ix2 r l) : EReal) = ∑ j ∈ Finset.range (n + 1), part m c r l (jj j)
  | 0 => by
    rw [Finset.sum_range_one]
    exact prod_at m c 0 r l
  | n + 1 => by
    rw [Finset.sum_range_succ, ← acc_at r l n, ← prod_at]
    exact pay2_at _ _ _ r l

/-- All eight parts together are the whole sum. -/
theorem parts (r : Fin 128) (l : Fin 8192) : ∑ j ∈ Finset.range 8, part m c r l (jj j) = ∑ k : Fin 4096, term m c r l k := by
  rw [Finset.sum_range]
  have e1 : ∑ i : Fin 8, part m c r l (jj i.val) = ∑ i : Fin 8, part m c r l i :=
    Finset.sum_congr rfl fun i _ => congrArg (part m c r l) (Fin.ext (Nat.mod_eq_of_lt i.isLt))
  rw [e1]
  unfold part
  rw [(bkF_bijective c).sum_comp (fun b => ∑ q : Fin 512, term m c r l (at_ b q)), ← Fintype.sum_prod_type' (fun b q => term m c r l (at_ b q))]
  refine Fintype.sum_equiv (finProdFinEquiv (m := 8) (n := 512)) _ _ fun p => congrArg (term m c r l) (Fin.ext ?_)
  show 512 * p.1.val + p.2.val = p.2.val + 512 * p.1.val
  omega

/-- The device's result at an element. -/
theorem res_at (r : Fin 128) (l : Fin 8192) : (res m c (ix2 r l) : EReal)
    = ((∑ k : Fin 4096, term m c r l k) * ((sw (sx m c) : EReal) * sw (sw' m c)))
      * Ideal.logistic ((∑ k : Fin 4096, term m c r l k) * ((sw (sx m c) : EReal) * sw (sw' m c))) := by
  rw [res_eq, ← parts, ← acc_at m c r l 7]
  exact pay5_at _ _ _ r l

end Cert.KernelIdeal.Exchange
-- ==== Proof.Ref.Out.lean ====
/-
  The reference's run: its result array as one function of its four argument arrays.
-/
module

public import proofs.«01_k».proof.Proof.Gen.ReferenceIdeal.Value

@[expose] public section

noncomputable section

namespace Cert.ReferenceIdeal.Result

open Cert.ReferenceIdeal Cert.ReferenceIdeal.Gen Cert.ReferenceIdeal.Value Idealize.ShloMosaic Idealize.ShloMosaic.TcCoe Idealize.SL.Sem

variable {F : FTy → Type} [FloatOps F]

/-- The one place of a scale. -/
def only : S1.Idx := fun a => match a with | ⟨0, _⟩ => (0 : Fin 1)

/-- The result, from the whole arrays. -/
def whole (a : Vec F S4096x4096 .fp8e4m3) (b : Vec F S4096x8192 .fp8e4m3) (s t : Vec F S1 .f32) : Vec F S4096x8192 .f32 :=
  k0_pay1 a b (s only) (t only)

theorem off2 : (![0, 0] : Fin 2 → Nat) = fun _ => 0 := funext fun a => by fin_cases a <;> rfl

/-- What the body leaves in the output's staging buffer. -/
theorem left (c : Dev nD) (a0 : Memref sig .tc .vmem S4096x4096 .fp8e4m3) (h0 : a0.IsWhole) (a1 : Memref sig .tc .vmem S4096x8192 .fp8e4m3) (h1 : a1.IsWhole)
    (a2 : Memref sig .tc .smem S1 .f32) (h2 : a2.IsWhole) (a3 : Memref sig .tc .smem S1 .f32) (h3 : a3.IsWhole) (a4 : Memref sig .tc .vmem S4096x8192 .f32) (h4 : a4.IsWhole)
    (x0 : Vec F S4096x4096 .fp8e4m3) (x1 : Vec F S4096x8192 .fp8e4m3) (x2 : Vec F S1 .f32) (x3 : Vec F S1 .f32) :
    out0_A_4 c a0 h0 a1 h1 a2 h2 a3 h3 a4 h4 x0 x1 x2 x3 = whole x0 x1 x2 x3 := by
  unfold out0_A_4
  rw [View.read_writes_junk_eq_canon]
  show View.canon ([⟨Rect.unit ![0, 0] S4096x8192.size inb_S4096x8192_S4096x8192_0_0,
      k0_pay1
        (View.readAt (Elt F) a0.view (Rect.unit ![0, 0] S4096x4096.size inb_S4096x4096_S4096x4096_0_0).toLoadRect (h0.unread x0))
        (View.readAt (Elt F) a1.view (Rect.unit ![0, 0] S4096x8192.size inb_S4096x8192_S4096x8192_0_0).toLoadRect (h1.unread x1))
        (View.readAt (Elt F) a2.view (Rect.unit (s := S1) ![0] S1.size inb_S1_S1_0).toLoadRect (h2.unread x2) _)
        (View.readAt (Elt F) a3.view (Rect.unit (s := S1) ![0] S1.size inb_S1_S1_0).toLoadRect (h3.unread x3) _)⟩] :
      List (View.Piece (Elt F) S4096x8192 .f32)) = _
  rw [View.canon_unit_zero off2, View.readAt_eq_ld, View.readAt_eq_ld, View.readAt_eq_ld, View.readAt_eq_ld, h0.read_unread, h1.read_unread, h2.read_unread,
    h3.read_unread, View.ld_unit_zero off2, View.ld_unit_zero off2]
  exact congrArg₂ (k0_pay1 x0 x1) (congrArg x2 (funext fun a => by match a with | ⟨0, _⟩ => rfl))
    (congrArg x3 (funext fun a => by match a with | ⟨0, _⟩ => rfl))

variable (m : (ℓ : Loc nD τ sig) → Buf (Elt F) ℓ) (ρ : Dev nD → PrngReg) (c : Dev nD)

theorem block_zero (w : Fin 5) (t : Fin cfg0.N) (a) : (cfg0.win w).index t a = 0 := by
  fin_cases w <;> fin_cases a <;> rfl

theorem here (w : Fin 5) (t : Fin cfg0.N) (a) (j) : (((cfg0.win w).rect t).emb j a).val = (j a).val :=
  Pipeline.Window.rect_emb_val_of_index_zero _ t a (block_zero w t a) j

theorem in0 (t : Fin cfg0.N) : iblk m c 0 t = m ((c : Thread nD τ).loc main_arg0) := by
  funext j
  exact congrArg (show S4096x4096.Idx → Elt F .fp8e4m3 from m ((c : Thread nD τ).loc main_arg0)) (funext fun a => Fin.ext (here 0 t a j))
theorem in1 (t : Fin cfg0.N) : iblk m c 1 t = m ((c : Thread nD τ).loc main_arg1) := by
  funext j
  exact congrArg (show S4096x8192.Idx → Elt F .fp8e4m3 from m ((c : Thread nD τ).loc main_arg1)) (funext fun a => Fin.ext (here 1 t a j))
theorem in2 (t : Fin cfg0.N) : iblk m c 2 t = m ((c : Thread nD τ).loc main_arg2) := by
  funext j
  exact congrArg (show S1.Idx → Elt F .f32 from m ((c : Thread nD τ).loc main_arg2)) (funext fun a => Fin.ext (here 2 t a j))
theorem in3 (t : Fin cfg0.N) : iblk m c 3 t = m ((c : Thread nD τ).loc main_arg3) := by
  funext j
  exact congrArg (show S1.Idx → Elt F .f32 from m ((c : Thread nD τ).loc main_arg3)) (funext fun a => Fin.ext (here 3 t a j))

/-- The result array of the arrays as launched. -/
abbrev final : Vec F S4096x8192 .f32 :=
  whole (m ((c : Thread nD τ).loc main_arg0)) (m ((c : Thread nD τ).loc main_arg1)) (m ((c : Thread nD τ).loc main_arg2)) (m ((c : Thread nD τ).loc main_arg3))

theorem out_here (t : Fin cfg0.N) (j : S4096x8192.Idx) : ((cfg0.win 4).blk t).view.emb j = j := funext fun a => Fin.ext (here 4 t a j)

theorem written (t : Fin cfg0.N) : (dats m 0 c).flushed 4 t = ((cfg0.win 4).blk t).view.read (Elt F) (final m c) := by
  rw [flushed4_A, left, in0, in1, in2, in3]
  funext j
  show final m c j = final m c (((cfg0.win 4).blk t).view.emb j)
  rw [out_here]

theorem covered (i : S4096x8192.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [out_here] at h⟩

theorem run : θ_run defs (onTc (τ := τ) (main (F := F))) ⟨m, fun _ => 0, ρ⟩ fun r => ∀ c : Dev nD,
      r.2.mem ((c : Thread nD τ).loc main_v0) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (final m c) (fun t _ => written m c t) covered), (h c).2⟩) (run_blocks m ρ)

end Cert.ReferenceIdeal.Result
-- ==== Proof.Ref.Val.lean ====
/-
  The reference's result over the extended reals, element by element.
-/
module

public import proofs.«01_k».proof.Proof.Ref.Out
public import Idealize.ShloMosaic.Lib.Pointwise
public import Idealize.ShloMosaic.Lib.ValueIdx
public import Idealize.ShloMosaic.PureOps.Ideal

@[expose] public section

noncomputable section

namespace Cert.ReferenceIdeal.Result

open Cert.ReferenceIdeal Cert.ReferenceIdeal.Gen Idealize.ShloMosaic

/-- A product of two extended reals scaled, then times its own logistic. -/
def silu (p s : EReal) : EReal := (p * s) * Ideal.logistic (p * s)

theorem exp_nonneg (y : EReal) : 0 ≤ Ideal.exp y := by
  induction y using EReal.rec with
  | bot => exact le_of_eq Ideal.exp_bot.symm
  | top => rw [Ideal.exp_top]; exact le_top
  | coe r => rw [Ideal.exp_coe]; exact_mod_cast (Real.exp_pos r).le

/-- Dividing by one plus an exponential is multiplying by the reciprocal. -/
theorem div_logistic (y : EReal) : Ideal.div y (1 + Ideal.exp (0 - y)) = y * Ideal.logistic y := by
  have h : (1 + Ideal.exp (0 - y)) ≠ 0 := by
    have h1 : (0 : EReal) < 1 + Ideal.exp (0 - y) := lt_of_lt_of_le (by norm_num) (le_add_of_nonneg_right (exp_nonneg _))
    exact h1.ne'
  have e : (0 : EReal) - y = -y := zero_sub y
  unfold Ideal.logistic
  rw [e] at h ⊢
  unfold Ideal.div
  rw [if_neg h, if_neg h, one_mul]

theorem whole_at (a : Vec Ideal S4096x4096 .fp8e4m3) (b : Vec Ideal S4096x8192 .fp8e4m3) (s t : Vec Ideal S1 .f32) (i : Fin 4096) (n : Fin 8192) :
    whole a b s t (ix2 i n) = silu (∑ k : Fin 4096, (a (ix2 i k) : EReal) * b (ix2 k n)) ((s only : EReal) * t only) := by
  unfold whole k0_pay1 silu
  rw [← div_logistic]
  simp only [pointwise]
  rw [zero_add]

end Cert.ReferenceIdeal.Result
-- ==== Proof.Same.lean ====
/-
  The kernel computes the reference: over the extended reals, each device's result is its block of rows of the
  reference's result, when its x is its block of columns of the reference's x and the other arguments are the same.
-/
module

public import proofs.«01_k».proof.Defs
public import proofs.«01_k».proof.Proof.KI.Run
public import proofs.«01_k».proof.Proof.KI.Val
public import proofs.«01_k».proof.Proof.Ref.Val
public import Idealize.ShloMosaic.Lib.Layout

@[expose] public section

noncomputable section

namespace Cert.Same

open Idealize.ShloMosaic Idealize.ShloMosaic.TcCoe Idealize.SL.Sem
open Cert.ReferenceIdeal.Result (silu only whole whole_at)
open Cert.KernelIdeal.Exchange

variable (m : (ℓ : Loc Cert.KernelIdeal.nD Cert.KernelIdeal.τ Cert.KernelIdeal.sig) → Buf (Elt Ideal) ℓ)
variable (x : (⟨2, ![4096, 4096]⟩ : Shape).Idx → EReal) (w : (⟨2, ![4096, 8192]⟩ : Shape).Idx → EReal) (s t : (⟨1, ![1]⟩ : Shape).Idx → EReal)

/-- The devices' arguments are the parts of the whole arguments. -/
structure Parts : Prop where
  x_eq : ∀ d : Dev Cert.KernelIdeal.nD, m ((d : Thread Cert.KernelIdeal.nD Cert.KernelIdeal.τ).loc Cert.KernelIdeal.main_arg0) = Layout.block ⟨2, ![4096, 128]⟩ ⟨2, ![4096, 4096]⟩ 1 32 d x
  w_eq : ∀ d : Dev Cert.KernelIdeal.nD, m ((d : Thread Cert.KernelIdeal.nD Cert.KernelIdeal.τ).loc Cert.KernelIdeal.main_arg1) = w
  s_eq : ∀ d : Dev Cert.KernelIdeal.nD, m ((d : Thread Cert.KernelIdeal.nD Cert.KernelIdeal.τ).loc Cert.KernelIdeal.main_arg2) = s
  t_eq : ∀ d : Dev Cert.KernelIdeal.nD, m ((d : Thread Cert.KernelIdeal.nD Cert.KernelIdeal.τ).loc Cert.KernelIdeal.main_arg3) = t

variable {m x w s t} (h : Parts m x w s t) (c : Dev Cert.KernelIdeal.nD)
include h

/-- The gathered rows are the device's rows of the whole x. -/
theorem rows (r : Fin 128) (k : Fin 4096) : (xtAll (cols m) c (ix2 r k) : EReal) = x (ix2 ⟨128 * c.val + r.val, by have := lt32 c; omega⟩ k) := by
  unfold xtAll
  have hx := fun d : Dev Cert.KernelIdeal.nD => h.x_eq d
  unfold cols
  rw [hx]
  show x _ = x _
  refine congrArg x (funext fun a => Fin.ext ?_)
  fin_cases a
  · rfl
  · show (k.val / 128) * 128 + k.val % 128 = k.val
    omega

theorem term_eq (r : Fin 128) (l : Fin 8192) (k : Fin 4096) :
    term m c r l k = x (ix2 ⟨128 * c.val + r.val, by have := lt32 c; omega⟩ k) * w (ix2 k l) := by
  unfold term wts
  rw [rows h]
  exact congrArg (fun v : EReal => _ * v) (congrFun (h.w_eq c) (ix2 k l))

theorem scale_eq : (sw (sx m c) : EReal) * sw (sw' m c) = s only * t only := by
  rw [sx_eq, sw_eq, h.s_eq, h.t_eq]
  exact congrArg₂ (fun a b : EReal => a * b) (sw_at (F := Ideal) s only).symm (sw_at (F := Ideal) t only).symm

theorem result_at (r : Fin 128) (l : Fin 8192) (hr : 128 * c.val + r.val < 4096) :
    (res m c (ix2 r l) : EReal) = whole (F := Ideal) x w s t (ix2 ⟨128 * c.val + r.val, hr⟩ l) := by
  rw [whole_at, res_at, scale_eq h, Finset.sum_congr rfl fun k _ => term_eq h c r l k]
  rfl

/-- The device's result is its block of rows of the whole result. -/
theorem result : res m c = Layout.block ⟨2, ![128, 8192]⟩ ⟨2, ![4096, 8192]⟩ 0 32 c (whole (F := Ideal) x w s t) := by
  funext i
  obtain ⟨r, l, hi⟩ : ∃ (r : Fin 128) (l : Fin 8192), i = ix2 r l := ⟨i 0, i 1, by funext a; fin_cases a <;> rfl⟩
  subst hi
  have hc := lt32 c
  have hr : 128 * c.val + r.val < 4096 := by omega
  refine (result_at h c r l hr).trans ?_
  rw [Layout.block_apply]
  refine congrArg (whole (F := Ideal) x w s t) (funext fun a => Fin.ext ?_)
  fin_cases a
  · show 128 * c.val + r.val = c.val * 128 + r.val
    omega
  · rfl

omit h in
/-- The kernel computes the reference. -/
theorem algebraic : Cert.algebraic_KernelIdeal_ReferenceIdeal (hKernelIdeal := Cert.KernelIdeal.Gen.facts) (hReferenceIdeal := Cert.ReferenceIdeal.Gen.facts) :=
  fun m g m' g' _ h => ⟨Cert.ReferenceIdeal.Result.final m' 0,
    (θ_run _ _ _).mono (fun r hr c =>
      ⟨((good_at m c (hr.1 c) Cert.KernelIdeal.main_v10 (by decide)).trans (Vf_out m c)).trans
          (result ⟨fun d => (h d).1, fun d => (h d).2.1, fun d => (h d).2.2.1, fun d => (h d).2.2.2⟩ c),
        kept m c (hr.1 c) _ (by decide) (by decide) (by decide) (by decide) (by decide) (by decide),
        kept m c (hr.1 c) _ (by decide) (by decide) (by decide) (by decide) (by decide) (by decide),
        kept m c (hr.1 c) _ (by decide) (by decide) (by decide) (by decide) (by decide) (by decide),
        kept m c (hr.1 c) _ (by decide) (by decide) (by decide) (by decide) (by decide) (by decide)⟩)
      (Cert.KernelIdeal.Exchange.run m g),
    (θ_run _ _ _).mono (fun r hr => hr 0) (Cert.ReferenceIdeal.Result.run m' g')⟩

end Cert.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.K.Run
public import proofs.«01_k».proof.Proof.KI.Run
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Exchange.framed m g,
  fun m g _ => Cert.KernelIdeal.Exchange.framed m g,
  fun m g _ => Cert.ReferenceIdeal.Gen.frame m g,
  trivial,
  Cert.Same.algebraic⟩

end Cert.Proof

end
